-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S32x8732x4 : Shape := ⟨3, ![32, 8732, 4]⟩
abbrev S32x8732x21 : Shape := ⟨3, ![32, 8732, 21]⟩
abbrev S8732x4 : Shape := ⟨2, ![8732, 4]⟩
abbrev S32x16x5 : Shape := ⟨3, ![32, 16, 5]⟩
abbrev S32x16x1 : Shape := ⟨3, ![32, 16, 1]⟩
abbrev S32x16 : Shape := ⟨2, ![32, 16]⟩
abbrev S_ : Shape := ⟨0, ![]⟩

class Facts : Prop where
  slices_S32x16x5_S32x16x1_0_0_4 : S32x16x5.Slices ![0, 0, 4] S32x16x1
  shapeCasts_S32x16x1_S32x16 : S32x16x1.ShapeCasts S32x16
  bcast_S_S32x16 : S_.BroadcastsInDim S32x16 (![] : Fin 0 → Fin S32x16.rank)
  bcast_S_S32x8732x21 : S_.BroadcastsInDim S32x8732x21 (![] : Fin 0 → Fin S32x8732x21.rank)

variable [Facts]

def fn {F : FTy → Type} [FloatOps F] (main_arg0 : FVec F S32x8732x4 .f32) (main_arg1 : FVec F S32x8732x21 .f32) (main_arg2 : FVec F S8732x4 .f32) (main_arg3 : FVec F S32x16x5 .f32) : IVec S32x8732x21 1 × IVec S32x16 1 :=
  let main_v0 : FVec F S32x16x1 .f32 := (extractStridedSlice S32x16x1 ![0, 0, 4] · slices_S32x16x5_S32x16x1_0_0_4) main_arg3
  let main_v1 : FVec F S32x16 .f32 := shapeCast S32x16 main_v0 shapeCasts_S32x16x1_S32x16
  let main_v2 : IVec S32x16 32 := fptosi 32 main_v1
  let main_v3 : FVec F S32x16 .f32 := sitofp .f32 main_v2
  let main_v4 : IVec S32x16 1 := cmpf .oeq main_v3 main_v1
  let main_cst : FVec F S_ .f32 := constant S_ .f32 0x00000000#32
  let main_v5 : FVec F S32x16 .f32 := broadcastInDim S32x16 ![] bcast_S_S32x16 main_cst
  let main_v6 : IVec S32x16 1 := cmpf .oge main_v1 main_v5
  let main_v7 : IVec S32x16 1 := andi main_v4 main_v6
  let main_cst_0 : FVec F S_ .f32 := constant S_ .f32 0x41A00000#32
  let main_v8 : FVec F S32x16 .f32 := broadcastInDim S32x16 ![] bcast_S_S32x16 main_cst_0
  let main_v9 : IVec S32x16 1 := cmpf .ole main_v1 main_v8
  let main_v10 : IVec S32x16 1 := andi main_v7 main_v9
  let main_v11 : FVec F S32x8732x21 .f32 := Host.absf main_arg1
  let main_cst_1 : FVec F S_ .f32 := constant S_ .f32 0x7F800000#32
  let main_v12 : FVec F S32x8732x21 .f32 := broadcastInDim S32x8732x21 ![] bcast_S_S32x8732x21 main_cst_1
  let main_v13 : IVec S32x8732x21 1 := cmpf .olt main_v11 main_v12
  (main_v13, main_v10)
-- ==== Kernel.lean ====
abbrev S32x8732x4 : Shape := ⟨3, ![32, 8732, 4]⟩
abbrev S32x8732x21 : Shape := ⟨3, ![32, 8732, 21]⟩
abbrev S8732x4 : Shape := ⟨2, ![8732, 4]⟩
abbrev S32x16x5 : Shape := ⟨3, ![32, 16, 5]⟩
abbrev S32x4x8732 : Shape := ⟨3, ![32, 4, 8732]⟩
abbrev S32x21x8732 : Shape := ⟨3, ![32, 21, 8732]⟩
abbrev S4x8732 : Shape := ⟨2, ![4, 8732]⟩
abbrev S32x5x16 : Shape := ⟨3, ![32, 5, 16]⟩
abbrev S32x1x8732 : Shape := ⟨3, ![32, 1, 8732]⟩
abbrev S32x1x128 : Shape := ⟨3, ![32, 1, 128]⟩
abbrev S1x16x5 : Shape := ⟨3, ![1, 16, 5]⟩
abbrev S1x5x16 : Shape := ⟨3, ![1, 5, 16]⟩
abbrev S1x1x8732 : Shape := ⟨3, ![1, 1, 8732]⟩
abbrev S1x4x8732 : Shape := ⟨3, ![1, 4, 8732]⟩
abbrev S1x1x128 : Shape := ⟨3, ![1, 1, 128]⟩
abbrev S1x8732 : Shape := ⟨2, ![1, 8732]⟩
abbrev S16x5 : Shape := ⟨2, ![16, 5]⟩
abbrev S16x1 : Shape := ⟨2, ![16, 1]⟩
abbrev S16x8732 : Shape := ⟨2, ![16, 8732]⟩
abbrev S8732 : Shape := ⟨1, ![8732]⟩
abbrev S16 : Shape := ⟨1, ![16]⟩
abbrev S5x16 : Shape := ⟨2, ![5, 16]⟩
abbrev S5x8732 : Shape := ⟨2, ![5, 8732]⟩
abbrev S1 : Shape := ⟨1, ![1]⟩
abbrev S1x1x1 : Shape := ⟨3, ![1, 1, 1]⟩
abbrev S1x128 : Shape := ⟨2, ![1, 128]⟩
abbrev S1x21x8732 : Shape := ⟨3, ![1, 21, 8732]⟩
abbrev S21x8732 : Shape := ⟨2, ![21, 8732]⟩
abbrev S21x1 : Shape := ⟨2, ![21, 1]⟩
abbrev S32x8732 : Shape := ⟨2, ![32, 8732]⟩
abbrev S32x128 : Shape := ⟨2, ![32, 128]⟩
abbrev S32x1 : Shape := ⟨2, ![32, 1]⟩
abbrev S32 : Shape := ⟨1, ![32]⟩
abbrev S1x32x1 : Shape := ⟨3, ![1, 32, 1]⟩
abbrev S1x2 : Shape := ⟨2, ![1, 2]⟩
abbrev S2 : Shape := ⟨1, ![2]⟩

abbrev nBuf : Space → Nat
  | .hbm => 14
  | .vmem => 24
  | .smem => 0
  | _ => 0

abbrev bufTy : (tb : Table) → Fin (tcTables nBuf tb) → BufTy
  | .hbm, ⟨0, _⟩ => ⟨S32x8732x4, .f32⟩
  | .hbm, ⟨1, _⟩ => ⟨S32x8732x21, .f32⟩
  | .hbm, ⟨2, _⟩ => ⟨S8732x4, .f32⟩
  | .hbm, ⟨3, _⟩ => ⟨S32x16x5, .f32⟩
  | .hbm, ⟨4, _⟩ => ⟨S32x4x8732, .f32⟩
  | .hbm, ⟨5, _⟩ => ⟨S32x21x8732, .f32⟩
  | .hbm, ⟨6, _⟩ => ⟨S4x8732, .f32⟩
  | .hbm, ⟨7, _⟩ => ⟨S32x5x16, .f32⟩
  | .hbm, ⟨8, _⟩ => ⟨S32x1x8732, .f32⟩
  | .hbm, ⟨9, _⟩ => ⟨S32x4x8732, .f32⟩
  | .hbm, ⟨10, _⟩ => ⟨S32x1x128, .f32⟩
  | .hbm, ⟨11, _⟩ => ⟨S1x128, .f32⟩
  | .hbm, ⟨12, _⟩ => ⟨S1x2, .f32⟩
  | .hbm, ⟨13, _⟩ => ⟨S2, .f32⟩
  | .local _ .vmem, ⟨0, _⟩ => ⟨S4x8732, .f32⟩
  | .local _ .vmem, ⟨1, _⟩ => ⟨S1x16x5, .f32⟩
  | .local _ .vmem, ⟨2, _⟩ => ⟨S1x16x5, .f32⟩
  | .local _ .vmem, ⟨3, _⟩ => ⟨S1x5x16, .f32⟩
  | .local _ .vmem, ⟨4, _⟩ => ⟨S1x5x16, .f32⟩
  | .local _ .vmem, ⟨5, _⟩ => ⟨S1x1x8732, .f32⟩
  | .local _ .vmem, ⟨6, _⟩ => ⟨S1x1x8732, .f32⟩
  | .local _ .vmem, ⟨7, _⟩ => ⟨S1x4x8732, .f32⟩
  | .local _ .vmem, ⟨8, _⟩ => ⟨S1x4x8732, .f32⟩
  | .local _ .vmem, ⟨9, _⟩ => ⟨S1x1x128, .f32⟩
  | .local _ .vmem, ⟨10, _⟩ => ⟨S1x1x128, .f32⟩
  | .local _ .vmem, ⟨11, _⟩ => ⟨S1x21x8732, .f32⟩
  | .local _ .vmem, ⟨12, _⟩ => ⟨S1x21x8732, .f32⟩
  | .local _ .vmem, ⟨13, _⟩ => ⟨S1x4x8732, .f32⟩
  | .local _ .vmem, ⟨14, _⟩ => ⟨S1x4x8732, .f32⟩
  | .local _ .vmem, ⟨15, _⟩ => ⟨S1x1x8732, .f32⟩
  | .local _ .vmem, ⟨16, _⟩ => ⟨S1x1x8732, .f32⟩
  | .local _ .vmem, ⟨17, _⟩ => ⟨S1x4x8732, .f32⟩
  | .local _ .vmem, ⟨18, _⟩ => ⟨S1x4x8732, .f32⟩
  | .local _ .vmem, ⟨19, _⟩ => ⟨S1x1x128, .f32⟩
  | .local _ .vmem, ⟨20, _⟩ => ⟨S1x1x128, .f32⟩
  | .local _ .vmem, ⟨21, _⟩ => ⟨S1x128, .f32⟩
  | .local _ .vmem, ⟨22, _⟩ => ⟨S32x1x8732, .f32⟩
  | .local _ .vmem, ⟨23, _⟩ => ⟨S32x1x128, .f32⟩
  | _, _ => ⟨S32x8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x8732 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x5x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8732 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x8732 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![33], ![false]⟩

def k1_cond1 (i : grid1.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k1_off1 (i : grid1.Coords) : Fin 3 → Nat :=
  let arg0 : BitVec 32 := BitVec.ofNat 32 (i 0).val
  let v57 : Index := Scalar.indexCast arg0
  let c0_24 : Index := 0#32
  let c0_25 : Index := 0#32
  ![v57.toNat, 0, 0]
def k1_off2 (i : grid1.Coords) : Fin 3 → Nat :=
  let arg0 : BitVec 32 := BitVec.ofNat 32 (i 0).val
  let v76 : Index := Scalar.indexCast arg0
  let c0_32 : Index := 0#32
  let c0_33 : Index := 0#32
  ![v76.toNat, 0, 0]
def k1_cond2 (i : grid1.Coords) : BitVec 1 :=
  let arg0 : BitVec 32 := BitVec.ofNat 32 (i 0).val
  let c32_i32_0 : BitVec 32 := 32#32
  let v3 : BitVec 1 := Scalar.cmpi .eq arg0 c32_i32_0
  let v4 : BitVec 32 := Scalar.extui v3
  let c0_i32_1 : BitVec 32 := 0#32
  let v5 : BitVec 1 := Scalar.cmpi .ne v4 c0_i32_1
  v5

@[reducible] def k1_t1_loop : Scf.Loop 32 :=
  let c0_i32_9 : BitVec 32 := 0#32
  let c8732_i32 : BitVec 32 := 8732#32
  let v17 : BitVec 32 := Scalar.addi c0_i32_9 c8732_i32
  let c1_i32 : BitVec 32 := 1#32
  ⟨c0_i32_9, v17, c1_i32⟩
def cc1_transform_0 (i : grid1.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc1_transform_4 (i : grid1.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x21x8732 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4x8732 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x8732 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x4x8732 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S32x8732x4 : Shape := ⟨3, ![32, 8732, 4]⟩
abbrev S32x8732x21 : Shape := ⟨3, ![32, 8732, 21]⟩
abbrev S8732x4 : Shape := ⟨2, ![8732, 4]⟩
abbrev S32x16x5 : Shape := ⟨3, ![32, 16, 5]⟩
abbrev S32x16x4 : Shape := ⟨3, ![32, 16, 4]⟩
abbrev S32x16x1 : Shape := ⟨3, ![32, 16, 1]⟩
abbrev S32x16 : Shape := ⟨2, ![32, 16]⟩
abbrev S8732x2 : Shape := ⟨2, ![8732, 2]⟩
abbrev S_ : Shape := ⟨0, ![]⟩
abbrev S32x16x2 : Shape := ⟨3, ![32, 16, 2]⟩
abbrev S32x16x1x2 : Shape := ⟨4, ![32, 16, 1, 2]⟩
abbrev S1x1x8732x2 : Shape := ⟨4, ![1, 1, 8732, 2]⟩
abbrev S32x16x8732x2 : Shape := ⟨4, ![32, 16, 8732, 2]⟩
abbrev S32x16x8732x1 : Shape := ⟨4, ![32, 16, 8732, 1]⟩
abbrev S32x16x8732 : Shape := ⟨3, ![32, 16, 8732]⟩
abbrev S8732x1 : Shape := ⟨2, ![8732, 1]⟩
abbrev S8732 : Shape := ⟨1, ![8732]⟩
abbrev S1x1x8732 : Shape := ⟨3, ![1, 1, 8732]⟩
abbrev S32x8732 : Shape := ⟨2, ![32, 8732]⟩
abbrev S32 : Shape := ⟨1, ![32]⟩
abbrev S32x1 : Shape := ⟨2, ![32, 1]⟩
abbrev S16 : Shape := ⟨1, ![16]⟩
abbrev S1x16 : Shape := ⟨2, ![1, 16]⟩
abbrev S32x8732x1 : Shape := ⟨3, ![32, 8732, 1]⟩
abbrev S32x8732x2 : Shape := ⟨3, ![32, 8732, 2]⟩
abbrev S1x8732x2 : Shape := ⟨3, ![1, 8732, 2]⟩
abbrev S32x8732x1x1 : Shape := ⟨4, ![32, 8732, 1, 1]⟩
abbrev S1 : Shape := ⟨1, ![1]⟩
abbrev S1x1x1x1 : Shape := ⟨4, ![1, 1, 1, 1]⟩
abbrev S2 : Shape := ⟨1, ![2]⟩

abbrev nBuf : Space → Nat
  | .hbm => 317
  | .vmem => 0
  | .smem => 0
  | _ => 0

abbrev hbmTy0_0 (i : Nat) : BufTy := match i % 128 with
  | 0 => ⟨S32x8732x4, .f32⟩
  | 1 => ⟨S32x8732x21, .f32⟩
  | 2 => ⟨S8732x4, .f32⟩
  | 3 => ⟨S32x16x5, .f32⟩
  | 4 => ⟨S32x16x4, .f32⟩
  | 5 => ⟨S32x16x1, .f32⟩
  | 6 => ⟨S32x16, .f32⟩
  | 7 => ⟨S32x16, .i32⟩
  | 8 => ⟨S8732x2, .f32⟩
  | 9 => ⟨S8732x2, .f32⟩
  | 10 => ⟨S_, .f32⟩
  | 11 => ⟨S8732x2, .f32⟩
  | 12 => ⟨S8732x2, .f32⟩
  | 13 => ⟨S8732x2, .f32⟩
  | 14 => ⟨S8732x2, .f32⟩
  | 15 => ⟨S8732x2, .f32⟩
  | 16 => ⟨S_, .f32⟩
  | 17 => ⟨S8732x2, .f32⟩
  | 18 => ⟨S8732x2, .f32⟩
  | 19 => ⟨S8732x2, .f32⟩
  | 20 => ⟨S8732x4, .f32⟩
  | 21 => ⟨S32x16x2, .f32⟩
  | 22 => ⟨S32x16x1x2, .f32⟩
  | 23 => ⟨S8732x2, .f32⟩
  | 24 => ⟨S1x1x8732x2, .f32⟩
  | 25 => ⟨S32x16x8732x2, .f32⟩
  | 26 => ⟨S32x16x8732x2, .f32⟩
  | 27 => ⟨S32x16x8732x2, .f32⟩
  | 28 => ⟨S32x16x2, .f32⟩
  | 29 => ⟨S32x16x1x2, .f32⟩
  | 30 => ⟨S8732x2, .f32⟩
  | 31 => ⟨S1x1x8732x2, .f32⟩
  | 32 => ⟨S32x16x8732x2, .f32⟩
  | 33 => ⟨S32x16x8732x2, .f32⟩
  | 34 => ⟨S32x16x8732x2, .f32⟩
  | 35 => ⟨S32x16x8732x2, .f32⟩
  | 36 => ⟨S_, .f32⟩
  | 37 => ⟨S_, .f32⟩
  | 38 => ⟨S32x16x8732x2, .f32⟩
  | 39 => ⟨S32x16x8732x2, .f32⟩
  | 40 => ⟨S32x16x8732x1, .f32⟩
  | 41 => ⟨S32x16x8732, .f32⟩
  | 42 => ⟨S32x16x8732x1, .f32⟩
  | 43 => ⟨S32x16x8732, .f32⟩
  | 44 => ⟨S32x16x8732, .f32⟩
  | 45 => ⟨S32x16x1, .f32⟩
  | 46 => ⟨S32x16, .f32⟩
  | 47 => ⟨S32x16x1, .f32⟩
  | 48 => ⟨S32x16, .f32⟩
  | 49 => ⟨S32x16, .f32⟩
  | 50 => ⟨S32x16x1, .f32⟩
  | 51 => ⟨S32x16, .f32⟩
  | 52 => ⟨S32x16x1, .f32⟩
  | 53 => ⟨S32x16, .f32⟩
  | 54 => ⟨S32x16, .f32⟩
  | 55 => ⟨S32x16, .f32⟩
  | 56 => ⟨S32x16x1, .f32⟩
  | 57 => ⟨S8732x1, .f32⟩
  | 58 => ⟨S8732, .f32⟩
  | 59 => ⟨S8732x1, .f32⟩
  | 60 => ⟨S8732, .f32⟩
  | 61 => ⟨S8732, .f32⟩
  | 62 => ⟨S8732x1, .f32⟩
  | 63 => ⟨S8732, .f32⟩
  | 64 => ⟨S8732x1, .f32⟩
  | 65 => ⟨S8732, .f32⟩
  | 66 => ⟨S8732, .f32⟩
  | 67 => ⟨S8732, .f32⟩
  | 68 => ⟨S1x1x8732, .f32⟩
  | 69 => ⟨S32x16x8732, .f32⟩
  | 70 => ⟨S32x16x8732, .f32⟩
  | 71 => ⟨S32x16x8732, .f32⟩
  | 72 => ⟨S32x16x8732, .f32⟩
  | 73 => ⟨S32x16x8732, .f32⟩
  | 74 => ⟨S32x16x8732, .i32⟩
  | 75 => ⟨S_, .f32⟩
  | 76 => ⟨S_, .i32⟩
  | 77 => ⟨S32x16, .f32⟩
  | 78 => ⟨S32x16, .i32⟩
  | 79 => ⟨S_, .f32⟩
  | 80 => ⟨S32x8732, .f32⟩
  | 81 => ⟨S32x16x8732, .i32⟩
  | 82 => ⟨S_, .f32⟩
  | 83 => ⟨S_, .i32⟩
  | 84 => ⟨S32x8732, .f32⟩
  | 85 => ⟨S32x8732, .i32⟩
  | 86 => ⟨S32, .i32⟩
  | 87 => ⟨S32x1, .i32⟩
  | 88 => ⟨S_, .i32⟩
  | 89 => ⟨S32x1, .i32⟩
  | 90 => ⟨S32x1, .i1⟩
  | 91 => ⟨S_, .i32⟩
  | 92 => ⟨S32x1, .i32⟩
  | 93 => ⟨S32x1, .i32⟩
  | 94 => ⟨S32x1, .i32⟩
  | 95 => ⟨S_, .i32⟩
  | 96 => ⟨S32x16, .i32⟩
  | 97 => ⟨S32x16, .i1⟩
  | 98 => ⟨S_, .i32⟩
  | 99 => ⟨S32x16, .i32⟩
  | 100 => ⟨S32x16, .i32⟩
  | 101 => ⟨S32x16, .i32⟩
  | 102 => ⟨S32x16, .i32⟩
  | 103 => ⟨S32x16x1, .i32⟩
  | 104 => ⟨S32x16x1, .i32⟩
  | 105 => ⟨S32x16x2, .i32⟩
  | 106 => ⟨S_, .f32⟩
  | 107 => ⟨S32x16, .f32⟩
  | 108 => ⟨S32x8732, .f32⟩
  | 109 => ⟨S16, .i32⟩
  | 110 => ⟨S1x16, .i32⟩
  | 111 => ⟨S_, .i32⟩
  | 112 => ⟨S32x1, .i32⟩
  | 113 => ⟨S32x1, .i1⟩
  | 114 => ⟨S_, .i32⟩
  | 115 => ⟨S32x1, .i32⟩
  | 116 => ⟨S32x1, .i32⟩
  | 117 => ⟨S32x1, .i32⟩
  | 118 => ⟨S_, .i32⟩
  | 119 => ⟨S32x16, .i32⟩
  | 120 => ⟨S32x16, .i1⟩
  | 121 => ⟨S_, .i32⟩
  | 122 => ⟨S32x16, .i32⟩
  | 123 => ⟨S32x16, .i32⟩
  | 124 => ⟨S32x16, .i32⟩
  | 125 => ⟨S32x16, .i32⟩
  | 126 => ⟨S32x16x1, .i32⟩
  | 127 => ⟨S32x16x1, .i32⟩
  | _ => ⟨S32x8732x4, .f32⟩

abbrev hbmTy0_1 (i : Nat) : BufTy := match i % 128 with
  | 0 => ⟨S32x16x2, .i32⟩
  | 1 => ⟨S32x16, .i32⟩
  | 2 => ⟨S32x8732, .i32⟩
  | 3 => ⟨S_, .i32⟩
  | 4 => ⟨S32x1, .i32⟩
  | 5 => ⟨S32x1, .i1⟩
  | 6 => ⟨S_, .i32⟩
  | 7 => ⟨S32x1, .i32⟩
  | 8 => ⟨S32x1, .i32⟩
  | 9 => ⟨S32x1, .i32⟩
  | 10 => ⟨S_, .i32⟩
  | 11 => ⟨S32x8732, .i32⟩
  | 12 => ⟨S32x8732, .i1⟩
  | 13 => ⟨S_, .i32⟩
  | 14 => ⟨S32x8732, .i32⟩
  | 15 => ⟨S32x8732, .i32⟩
  | 16 => ⟨S32x8732, .i32⟩
  | 17 => ⟨S32x8732, .i32⟩
  | 18 => ⟨S32x8732x1, .i32⟩
  | 19 => ⟨S32x8732x1, .i32⟩
  | 20 => ⟨S32x8732x2, .i32⟩
  | 21 => ⟨S32x8732x4, .f32⟩
  | 22 => ⟨S_, .i32⟩
  | 23 => ⟨S32x1, .i32⟩
  | 24 => ⟨S32x1, .i1⟩
  | 25 => ⟨S_, .i32⟩
  | 26 => ⟨S32x1, .i32⟩
  | 27 => ⟨S32x1, .i32⟩
  | 28 => ⟨S32x1, .i32⟩
  | 29 => ⟨S_, .i32⟩
  | 30 => ⟨S32x8732, .i32⟩
  | 31 => ⟨S32x8732, .i1⟩
  | 32 => ⟨S_, .i32⟩
  | 33 => ⟨S32x8732, .i32⟩
  | 34 => ⟨S32x8732, .i32⟩
  | 35 => ⟨S32x8732, .i32⟩
  | 36 => ⟨S32x8732, .i32⟩
  | 37 => ⟨S32x8732x1, .i32⟩
  | 38 => ⟨S32x8732x1, .i32⟩
  | 39 => ⟨S32x8732x2, .i32⟩
  | 40 => ⟨S32x8732, .i32⟩
  | 41 => ⟨S_, .f32⟩
  | 42 => ⟨S32x8732, .f32⟩
  | 43 => ⟨S32x8732, .i1⟩
  | 44 => ⟨S_, .i32⟩
  | 45 => ⟨S_, .i32⟩
  | 46 => ⟨S32x8732, .i32⟩
  | 47 => ⟨S32x8732, .i32⟩
  | 48 => ⟨S32x8732x2, .f32⟩
  | 49 => ⟨S32x8732x2, .f32⟩
  | 50 => ⟨S32x8732x2, .f32⟩
  | 51 => ⟨S_, .f32⟩
  | 52 => ⟨S32x8732x2, .f32⟩
  | 53 => ⟨S32x8732x2, .f32⟩
  | 54 => ⟨S8732x2, .f32⟩
  | 55 => ⟨S1x8732x2, .f32⟩
  | 56 => ⟨S32x8732x2, .f32⟩
  | 57 => ⟨S32x8732x2, .f32⟩
  | 58 => ⟨S8732x2, .f32⟩
  | 59 => ⟨S1x8732x2, .f32⟩
  | 60 => ⟨S_, .f32⟩
  | 61 => ⟨S1x8732x2, .f32⟩
  | 62 => ⟨S1x8732x2, .f32⟩
  | 63 => ⟨S32x8732x2, .f32⟩
  | 64 => ⟨S32x8732x2, .f32⟩
  | 65 => ⟨S32x8732x2, .f32⟩
  | 66 => ⟨S32x8732x2, .f32⟩
  | 67 => ⟨S32x8732x2, .f32⟩
  | 68 => ⟨S8732x2, .f32⟩
  | 69 => ⟨S1x8732x2, .f32⟩
  | 70 => ⟨S32x8732x2, .f32⟩
  | 71 => ⟨S32x8732x2, .f32⟩
  | 72 => ⟨S_, .f32⟩
  | 73 => ⟨S32x8732x2, .f32⟩
  | 74 => ⟨S32x8732x2, .f32⟩
  | 75 => ⟨S32x8732x2, .f32⟩
  | 76 => ⟨S_, .f32⟩
  | 77 => ⟨S32x8732x2, .f32⟩
  | 78 => ⟨S32x8732x2, .f32⟩
  | 79 => ⟨S32x8732x4, .f32⟩
  | 80 => ⟨S_, .i32⟩
  | 81 => ⟨S32x8732, .i32⟩
  | 82 => ⟨S32x8732, .i1⟩
  | 83 => ⟨S32x8732x4, .f32⟩
  | 84 => ⟨S32x8732x4, .f32⟩
  | 85 => ⟨S_, .f32⟩
  | 86 => ⟨S32x8732x4, .f32⟩
  | 87 => ⟨S32x8732x4, .i1⟩
  | 88 => ⟨S_, .f32⟩
  | 89 => ⟨S32x8732x4, .f32⟩
  | 90 => ⟨S32x8732x4, .f32⟩
  | 91 => ⟨S32x8732x4, .f32⟩
  | 92 => ⟨S_, .f32⟩
  | 93 => ⟨S32x8732x4, .f32⟩
  | 94 => ⟨S32x8732x4, .f32⟩
  | 95 => ⟨S32x8732x4, .f32⟩
  | 96 => ⟨S32x8732x1, .i1⟩
  | 97 => ⟨S_, .f32⟩
  | 98 => ⟨S_, .f32⟩
  | 99 => ⟨S32x8732x4, .i1⟩
  | 100 => ⟨S32x8732x4, .f32⟩
  | 101 => ⟨S32x8732x4, .f32⟩
  | 102 => ⟨S_, .f32⟩
  | 103 => ⟨S_, .f32⟩
  | 104 => ⟨S_, .f32⟩
  | 105 => ⟨S32x8732, .f32⟩
  | 106 => ⟨S32x8732x1, .f32⟩
  | 107 => ⟨S32x8732x1, .f32⟩
  | 108 => ⟨S_, .f32⟩
  | 109 => ⟨S32x8732x1, .f32⟩
  | 110 => ⟨S32x8732x1, .i1⟩
  | 111 => ⟨S_, .f32⟩
  | 112 => ⟨S_, .f32⟩
  | 113 => ⟨S32x8732x1, .f32⟩
  | 114 => ⟨S32x8732x1, .f32⟩
  | 115 => ⟨S32x8732x21, .f32⟩
  | 116 => ⟨S32x8732x21, .f32⟩
  | 117 => ⟨S32x8732x21, .f32⟩
  | 118 => ⟨S_, .f32⟩
  | 119 => ⟨S32x8732, .f32⟩
  | 120 => ⟨S32x8732x1, .f32⟩
  | 121 => ⟨S32x8732x1, .f32⟩
  | 122 => ⟨S32x8732x1, .f32⟩
  | 123 => ⟨S32x8732, .f32⟩
  | 124 => ⟨S32x8732x1, .i32⟩
  | 125 => ⟨S_, .i32⟩
  | 126 => ⟨S32x8732x1, .i32⟩
  | 127 => ⟨S32x8732x1, .i1⟩
  | _ => ⟨S32x8732x4, .f32⟩

abbrev hbmTy0_2 (i : Nat) : BufTy := match i % 128 with
  | 0 => ⟨S_, .i32⟩
  | 1 => ⟨S32x8732x1, .i32⟩
  | 2 => ⟨S32x8732x1, .i32⟩
  | 3 => ⟨S32x8732x1, .i32⟩
  | 4 => ⟨S32x8732x1x1, .i32⟩
  | 5 => ⟨S1, .i32⟩
  | 6 => ⟨S_, .i32⟩
  | 7 => ⟨S32x8732x1x1, .i32⟩
  | 8 => ⟨S32x8732x1x1, .i1⟩
  | 9 => ⟨S1x1x1x1, .i32⟩
  | 10 => ⟨S32x8732x1x1, .i32⟩
  | 11 => ⟨S32x8732x1x1, .i1⟩
  | 12 => ⟨S32x8732x1x1, .i1⟩
  | 13 => ⟨S_, .i1⟩
  | 14 => ⟨S32x8732x1, .i1⟩
  | 15 => ⟨S32x8732x1, .f32⟩
  | 16 => ⟨S_, .f32⟩
  | 17 => ⟨S32x8732x1, .f32⟩
  | 18 => ⟨S32x8732x1, .f32⟩
  | 19 => ⟨S32x8732, .f32⟩
  | 20 => ⟨S32x8732, .f32⟩
  | 21 => ⟨S_, .f32⟩
  | 22 => ⟨S_, .f32⟩
  | 23 => ⟨S32x8732, .f32⟩
  | 24 => ⟨S32x8732, .f32⟩
  | 25 => ⟨S32x8732, .f32⟩
  | 26 => ⟨S32x8732, .i32⟩
  | 27 => ⟨S32x8732, .f32⟩
  | 28 => ⟨S32x8732, .i32⟩
  | 29 => ⟨S32x8732, .i32⟩
  | 30 => ⟨S32x8732, .i32⟩
  | 31 => ⟨S32x8732, .i32⟩
  | 32 => ⟨S32x8732, .i32⟩
  | 33 => ⟨S_, .i32⟩
  | 34 => ⟨S32, .i32⟩
  | 35 => ⟨S32x1, .i32⟩
  | 36 => ⟨S_, .i32⟩
  | 37 => ⟨S32x1, .i32⟩
  | 38 => ⟨S32x1, .i32⟩
  | 39 => ⟨S_, .i32⟩
  | 40 => ⟨S32x1, .i32⟩
  | 41 => ⟨S32x1, .i32⟩
  | 42 => ⟨S32x8732, .i32⟩
  | 43 => ⟨S32x8732, .i1⟩
  | 44 => ⟨S32x8732, .i1⟩
  | 45 => ⟨S_, .f32⟩
  | 46 => ⟨S_, .f32⟩
  | 47 => ⟨S32x8732, .f32⟩
  | 48 => ⟨S32x8732, .f32⟩
  | 49 => ⟨S_, .f32⟩
  | 50 => ⟨S_, .f32⟩
  | 51 => ⟨S_, .i32⟩
  | 52 => ⟨S_, .i32⟩
  | 53 => ⟨S_, .f32⟩
  | 54 => ⟨S_, .f32⟩
  | 55 => ⟨S_, .f32⟩
  | 56 => ⟨S_, .f32⟩
  | 57 => ⟨S_, .f32⟩
  | 58 => ⟨S1, .f32⟩
  | 59 => ⟨S1, .f32⟩
  | 60 => ⟨S2, .f32⟩
  | _ => ⟨S32x8732x4, .f32⟩

abbrev hbmTy (i : Nat) : BufTy := match i / 128 with
  | 0 => hbmTy0_0 i
  | 1 => hbmTy0_1 i
  | 2 => hbmTy0_2 i
  | _ => ⟨S32x8732x4, .f32⟩

abbrev bufTy : (tb : Table) → Fin (tcTables nBuf tb) → BufTy
  | .hbm, ⟨i, _⟩ => hbmTy i
  | _, _ => ⟨S32x8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_call1_v0 : Ref sig .tc := ⟨.hbm, 74, rfl⟩
abbrev main_call1_cst : Ref sig .tc := ⟨.hbm, 75, rfl⟩
abbrev main_call1_c : Ref sig .tc := ⟨.hbm, 76, rfl⟩
abbrev main_call1_v1_0 : Ref sig .tc := ⟨.hbm, 77, rfl⟩
abbrev main_v65 : Ref sig .tc := ⟨.hbm, 78, rfl⟩
abbrev main_cst_2 : Ref sig .tc := ⟨.hbm, 79, rfl⟩
abbrev main_v66 : Ref sig .tc := ⟨.hbm, 80, rfl⟩
abbrev main_call2_v0 : Ref sig .tc := ⟨.hbm, 81, rfl⟩
abbrev main_call2_cst : Ref sig .tc := ⟨.hbm, 82, rfl⟩
abbrev main_call2_c : Ref sig .tc := ⟨.hbm, 83, rfl⟩
abbrev main_call2_v1_0 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_c : Ref sig .tc := ⟨.hbm, 88, rfl⟩
abbrev main_v70 : Ref sig .tc := ⟨.hbm, 89, rfl⟩
abbrev main_v71 : Ref sig .tc := ⟨.hbm, 90, rfl⟩
abbrev main_c_3 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_c_4 : Ref sig .tc := ⟨.hbm, 95, rfl⟩
abbrev main_v75 : Ref sig .tc := ⟨.hbm, 96, rfl⟩
abbrev main_v76 : Ref sig .tc := ⟨.hbm, 97, rfl⟩
abbrev main_c_5 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_6 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_c_7 : Ref sig .tc := ⟨.hbm, 111, rfl⟩
abbrev main_v88 : Ref sig .tc := ⟨.hbm, 112, rfl⟩
abbrev main_v89 : Ref sig .tc := ⟨.hbm, 113, rfl⟩
abbrev main_c_8 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_c_9 : Ref sig .tc := ⟨.hbm, 118, rfl⟩
abbrev main_v93 : Ref sig .tc := ⟨.hbm, 119, rfl⟩
abbrev main_v94 : Ref sig .tc := ⟨.hbm, 120, rfl⟩
abbrev main_c_10 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_c_11 : Ref sig .tc := ⟨.hbm, 131, rfl⟩
abbrev main_v104 : Ref sig .tc := ⟨.hbm, 132, rfl⟩
abbrev main_v105 : Ref sig .tc := ⟨.hbm, 133, rfl⟩
abbrev main_c_12 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_c_13 : Ref sig .tc := ⟨.hbm, 138, rfl⟩
abbrev main_v109 : Ref sig .tc := ⟨.hbm, 139, rfl⟩
abbrev main_v110 : Ref sig .tc := ⟨.hbm, 140, rfl⟩
abbrev main_c_14 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_c_15 : Ref sig .tc := ⟨.hbm, 150, rfl⟩
abbrev main_v119 : Ref sig .tc := ⟨.hbm, 151, rfl⟩
abbrev main_v120 : Ref sig .tc := ⟨.hbm, 152, rfl⟩
abbrev main_c_16 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_c_17 : Ref sig .tc := ⟨.hbm, 157, rfl⟩
abbrev main_v124 : Ref sig .tc := ⟨.hbm, 158, rfl⟩
abbrev main_v125 : Ref sig .tc := ⟨.hbm, 159, rfl⟩
abbrev main_c_18 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_19 : Ref sig .tc := ⟨.hbm, 169, rfl⟩
abbrev main_v134 : Ref sig .tc := ⟨.hbm, 170, rfl⟩
abbrev main_v135 : Ref sig .tc := ⟨.hbm, 171, rfl⟩
abbrev main_c_20 : Ref sig .tc := ⟨.hbm, 172, rfl⟩
abbrev main_call3_v0 : Ref sig .tc := ⟨.hbm, 173, rfl⟩
abbrev main_call3_v1 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_21 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_22 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_cst_23 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_cst_24 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_c_25 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_cst_26 : Ref sig .tc := ⟨.hbm, 213, rfl⟩
abbrev main_v169 : Ref sig .tc := ⟨.hbm, 214, rfl⟩
abbrev main_v170 : Ref sig .tc := ⟨.hbm, 215, rfl⟩
abbrev main_cst_27 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_cst_28 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_cst_29 : Ref sig .tc := ⟨.hbm, 225, rfl⟩
abbrev main_call5_v0 : Ref sig .tc := ⟨.hbm, 226, rfl⟩
abbrev main_call5_v1 : Ref sig .tc := ⟨.hbm, 227, rfl⟩
abbrev main_call5_v2 : Ref sig .tc := ⟨.hbm, 228, rfl⟩
abbrev main_v178 : Ref sig .tc := ⟨.hbm, 229, rfl⟩
abbrev main_cst_30 : Ref sig .tc := ⟨.hbm, 230, rfl⟩
abbrev main_v179 : Ref sig .tc := ⟨.hbm, 231, rfl⟩
abbrev main_cst_31 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_cst_32 : Ref sig .tc := ⟨.hbm, 236, rfl⟩
abbrev main_v183 : Ref sig .tc := ⟨.hbm, 237, rfl⟩
abbrev main_v184 : Ref sig .tc := ⟨.hbm, 238, rfl⟩
abbrev main_cst_33 : Ref sig .tc := ⟨.hbm, 239, rfl⟩
abbrev main_call6_v0 : Ref sig .tc := ⟨.hbm, 240, rfl⟩
abbrev main_call6_v1 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_cst_34 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_call7_c : Ref sig .tc := ⟨.hbm, 253, rfl⟩
abbrev main_call7_v0 : Ref sig .tc := ⟨.hbm, 254, rfl⟩
abbrev main_call7_v1 : Ref sig .tc := ⟨.hbm, 255, rfl⟩
abbrev main_call7_c_0 : Ref sig .tc := ⟨.hbm, 256, rfl⟩
abbrev main_call7_v2 : Ref sig .tc := ⟨.hbm, 257, rfl⟩
abbrev main_call7_v3 : Ref sig .tc := ⟨.hbm, 258, rfl⟩
abbrev main_call7_v4 : Ref sig .tc := ⟨.hbm, 259, rfl⟩
abbrev main_call7_v5 : Ref sig .tc := ⟨.hbm, 260, rfl⟩
abbrev main_call7_c_1 : Ref sig .tc := ⟨.hbm, 261, rfl⟩
abbrev main_call7_c_2 : Ref sig .tc := ⟨.hbm, 262, rfl⟩
abbrev main_call7_v6 : Ref sig .tc := ⟨.hbm, 263, rfl⟩
abbrev main_call7_v7 : Ref sig .tc := ⟨.hbm, 264, rfl⟩
abbrev main_call7_v8 : Ref sig .tc := ⟨.hbm, 265, rfl⟩
abbrev main_call7_v9 : Ref sig .tc := ⟨.hbm, 266, rfl⟩
abbrev main_call7_v10 : Ref sig .tc := ⟨.hbm, 267, rfl⟩
abbrev main_call7_v11 : Ref sig .tc := ⟨.hbm, 268, rfl⟩
abbrev main_call7_c_3 : Ref sig .tc := ⟨.hbm, 269, rfl⟩
abbrev main_call7_v12 : Ref sig .tc := ⟨.hbm, 270, rfl⟩
abbrev main_call7_v13 : Ref sig .tc := ⟨.hbm, 271, rfl⟩
abbrev main_call7_cst : Ref sig .tc := ⟨.hbm, 272, rfl⟩
abbrev main_call7_v14 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_cst_35 : Ref sig .tc := ⟨.hbm, 277, rfl⟩
abbrev main_call8_v0 : Ref sig .tc := ⟨.hbm, 278, rfl⟩
abbrev main_call8_v1 : Ref sig .tc := ⟨.hbm, 279, rfl⟩
abbrev main_v198 : Ref sig .tc := ⟨.hbm, 280, rfl⟩
abbrev main_v199 : Ref sig .tc := ⟨.hbm, 281, rfl⟩
abbrev main_call9_v0 : Ref sig .tc := ⟨.hbm, 282, rfl⟩
abbrev main_call9_v1_0 : Ref sig .tc := ⟨.hbm, 283, rfl⟩
abbrev main_v200 : Ref sig .tc := ⟨.hbm, 284, rfl⟩
abbrev main_call10_v0 : Ref sig .tc := ⟨.hbm, 285, rfl⟩
abbrev main_call10_v1_0 : Ref sig .tc := ⟨.hbm, 286, rfl⟩
abbrev main_v201 : Ref sig .tc := ⟨.hbm, 287, rfl⟩
abbrev main_v202 : Ref sig .tc := ⟨.hbm, 288, rfl⟩
abbrev main_c_36 : Ref sig .tc := ⟨.hbm, 289, rfl⟩
abbrev main_v203 : Ref sig .tc := ⟨.hbm, 290, rfl⟩
abbrev main_v204 : Ref sig .tc := ⟨.hbm, 291, rfl⟩
abbrev main_c_37 : Ref sig .tc := ⟨.hbm, 292, rfl⟩
abbrev main_v205 : Ref sig .tc := ⟨.hbm, 293, rfl⟩
abbrev main_v206 : Ref sig .tc := ⟨.hbm, 294, rfl⟩
abbrev main_c_38 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_v211 : Ref sig .tc := ⟨.hbm, 300, rfl⟩
abbrev main_cst_39 : Ref sig .tc := ⟨.hbm, 301, rfl⟩
abbrev main_call11_v0 : Ref sig .tc := ⟨.hbm, 302, rfl⟩
abbrev main_call11_v1 : Ref sig .tc := ⟨.hbm, 303, rfl⟩
abbrev main_v212 : Ref sig .tc := ⟨.hbm, 304, rfl⟩
abbrev main_cst_40 : Ref sig .tc := ⟨.hbm, 305, rfl⟩
abbrev main_v213 : Ref sig .tc := ⟨.hbm, 306, rfl⟩
abbrev main_c_41 : Ref sig .tc := ⟨.hbm, 307, rfl⟩
abbrev main_v214 : Ref sig .tc := ⟨.hbm, 308, rfl⟩
abbrev main_v215 : Ref sig .tc := ⟨.hbm, 309, rfl⟩
abbrev main_cst_42 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_v220 : Ref sig .tc := ⟨.hbm, 315, rfl⟩
abbrev main_v221 : Ref sig .tc := ⟨.hbm, 316, rfl⟩

abbrev nD : Nat := 1
abbrev τ : Topo := Topo.v7x

variable {F : FTy → Type} [FloatOps F]
-- ==== Proof.MatchBody.lean ====
/-
  The first kernel call: what one grid point of the matching kernel computes, and its body's triple.

  Point `t` reads the priors (one block, the whole array), image `t`'s targets in both layouts, and stores three whole
  blocks: the matched labels, the encoded offsets of the matched boxes and the image's count of positives. The three
  values are named here as functions of the three blocks read (`matchLbl`, `matchLoct`, `matchStats`), and the body's
  run leaves exactly these.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic

@[expose] public section

set_option maxRecDepth 16384

namespace Cert.KernelIdeal.Match

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The overlaps of the image's boxes with the priors. -/
noncomputable def ov (pr : Vec F S4x8732 .f32) (tg : Vec F S1x16x5 .f32) : FVec F S16x8732 .f32 := k0_pay18 pr tg
/-- The best overlap of each prior, forced matches at the constant for them. -/
noncomputable def bto (pr : Vec F S4x8732 .f32) (tg : Vec F S1x16x5 .f32) : FVec F S1x8732 .f32 :=
  k0_pay26 (ov pr tg) (k0_pay19 tg) (k0_pay20 pr) (k0_pay21 pr)
/-- The indicator of each prior's matched box. -/
noncomputable def hot (pr : Vec F S4x8732 .f32) (tg : Vec F S1x16x5 .f32) : FVec F S16x8732 .f32 :=
  k0_pay27 (ov pr tg) (k0_pay19 tg) (k0_pay20 pr) (k0_pay21 pr)
/-- The matched labels of one image. -/
noncomputable def matchLbl (pr : Vec F S4x8732 .f32) (tg : Vec F S1x16x5 .f32) (tt : Vec F S1x5x16 .f32) : Vec F S1x1x8732 .f32 :=
  k0_pay1 (k0_pay33 (bto pr tg) (hot pr tg) tt)
/-- The encoded offsets of one image's matched boxes. -/
noncomputable def matchLoct (pr : Vec F S4x8732 .f32) (tg : Vec F S1x16x5 .f32) (tt : Vec F S1x5x16 .f32) : Vec F S1x4x8732 .f32 :=
  k0_pay2 (k0_pay34 (k0_pay5 pr) (k0_pay7 pr) (hot pr tg) tt) (k0_pay35 (k0_pay6 pr) (k0_pay8 pr) (hot pr tg) tt)
    (k0_pay36 (k0_pay7 pr) (hot pr tg) tt) (k0_pay37 (k0_pay8 pr) (hot pr tg) tt)
/-- One image's statistics row: the count of positives in its lane. -/
noncomputable def matchStats (pr : Vec F S4x8732 .f32) (tg : Vec F S1x16x5 .f32) (tt : Vec F S1x5x16 .f32) : Vec F S1x1x128 .f32 :=
  k0_pay3 (k0_pay38 (bto pr tg) (hot pr tg) tt)

theorem z2 : (![0, 0] : Fin 2 → Nat) = fun _ => 0 := funext fun a => by fin_cases a <;> rfl
theorem z3 : (![0, 0, 0] : Fin 3 → Nat) = fun _ => 0 := funext fun a => by fin_cases a <;> rfl

/-- A view of a buffer written once, through its whole shape, reads the payload. -/
theorem read_store {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  subst h
  funext y
  have := View.read_writes_cons_emb v f (Rect.whole S) w [] y
  rw [Rect.emb_whole_apply] at this
  exact this

/-- A load through the whole shape reads what the buffer holds. -/
theorem load_whole {κ : Kind} {sp : Space} {S : Shape} {e : EltTy} {mr : Memref sig κ sp S e} (hm : mr.IsWhole) {off : Fin S.rank → ℕ}
    (h : off = fun _ => 0) (inb : ∀ a, off a + S.size a ≤ S.size a) (X : S.Idx → Elt F e) :
    View.readAt (Elt F) mr.view (Rect.unit off S.size inb).toLoadRect (hm.unread X) = X := by
  rw [View.readAt_eq_ld, hm.read_unread, View.ld_unit_zero h]

set_option maxHeartbeats 1000000 in
/-- The body's triple: from the three input blocks the three named values are left in the output blocks. -/
theorem body_run (c : Dev nD) (i : grid0.Coords) (arg1 : Memref sig .tc .vmem S4x8732 .f32) (harg1 : arg1.IsWhole) (arg2 : Memref sig .tc .vmem S1x16x5 .f32) (harg2 : arg2.IsWhole) (arg3 : Memref sig .tc .vmem S1x5x16 .f32) (harg3 : arg3.IsWhole) (arg4 : Memref sig .tc .vmem S1x1x8732 .f32) (harg4 : arg4.IsWhole) (arg5 : Memref sig .tc .vmem S1x4x8732 .f32) (harg5 : arg5.IsWhole) (arg6 : Memref sig .tc .vmem S1x1x128 .f32) (harg6 : arg6.IsWhole)
    (x0 : Vec F S4x8732 .f32) (x1 : Vec F S1x16x5 .f32) (x2 : Vec F S1x5x16 .f32) :
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare (matchLbl x0 x1 x2) ∗ owns (c : Thread nD τ) arg5 fullShare (matchLoct x0 x1 x2)
                ∗ owns (c : Thread nD τ) arg6 fullShare (matchStats x0 x1 x2)) -∗ K ⟨⟩))
          ⊢ wp frame (wpE (defs₀ (F := F)) Variants.none c none) E (cc0__match_body i arg1 harg1 arg2 harg2 arg3 harg3 arg4 harg4 arg5 harg5 arg6 harg6) K := by
    intro E K
    simp only [cc0__match_body_eq_skeleton]; unfold cc0__match_body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    have e0 := load_whole harg1 z2 inb_S4x8732_S4x8732_0_0 x0
    have e1 := load_whole harg2 z3 inb_S1x16x5_S1x16x5_0_0_0 x1
    have e2 := load_whole harg3 z3 inb_S1x5x16_S1x5x16_0_0_0 x2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      exact read_store _ _ z3 _ _
    isplitl [H4]
    · iexists _; isplitr; swap; · iexact H4
      ipureintro
      exact read_store _ _ z3 _ _
    iexists _; isplitr; swap; · iexact H5
    ipureintro
    exact read_store _ _ z3 _ _

end Cert.KernelIdeal.Match

end
-- ==== Proof.MatchData.lean ====
/-
  The first kernel call's pipeline: what its windows hold point by point, and the body's obligation.
-/
module

public import proofs.«01_k».proof.Proof.MatchBody

@[expose] public section

set_option maxRecDepth 16384

namespace Cert.KernelIdeal.Match

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Core `c`'s buffers as the region is entered.
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
abbrev ms0 (t : Fin cfg0.N) : Memref sig .tc .vmem S4x8732 .f32 := win0_0.stage (cfg0.slots t 0)
abbrev ms1 (t : Fin cfg0.N) : Memref sig .tc .vmem S1x16x5 .f32 := win0_1.stage (cfg0.slots t 1)
abbrev ms2 (t : Fin cfg0.N) : Memref sig .tc .vmem S1x5x16 .f32 := win0_2.stage (cfg0.slots t 2)
abbrev ms3 (t : Fin cfg0.N) : Memref sig .tc .vmem S1x1x8732 .f32 := win0_3.stage (cfg0.slots t 3)
abbrev ms4 (t : Fin cfg0.N) : Memref sig .tc .vmem S1x4x8732 .f32 := win0_4.stage (cfg0.slots t 4)
abbrev ms5 (t : Fin cfg0.N) : Memref sig .tc .vmem S1x1x128 .f32 := win0_5.stage (cfg0.slots t 5)
/-- Input window 0's staging buffer holds its block at every point, when the body leaves it there. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, when the body leaves it there. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, when the body leaves it there. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The pipeline's proof data: the arrays as found; each input's buffer left at its block, each output's at the value
    computed from the blocks; the scoped rest untouched; nothing owed. -/
noncomputable def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => matchLbl (iblk V c 0 t) (iblk V c 1 t) (iblk V c 2 t)
    | ⟨4, _⟩ => matchLoct (iblk V c 0 t) (iblk V c 1 t) (iblk V c 2 t)
    | ⟨5, _⟩ => matchStats (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = matchLbl (iblk V c 0 t) (iblk V c 1 t) (iblk V c 2 t) := by dsimp only [dat]
theorem after4 (c : Dev nD) (t : Fin cfg0.N) : (dat V c).after 4 t = matchLoct (iblk V c 0 t) (iblk V c 1 t) (iblk V c 2 t) := by dsimp only [dat]
theorem after5 (c : Dev nD) (t : Fin cfg0.N) : (dat V c).after 5 t = matchStats (iblk V c 0 t) (iblk V c 1 t) (iblk V c 2 t) := by dsimp only [dat]
theorem before0 (c : Dev nD) (t : Fin cfg0.N) (d) : (dat V c).before 0 t d = iblk V c 0 t := before0_of V (dat V c) (A_eq V c 0) (after0 V c) t d
theorem before1 (c : Dev nD) (t : Fin cfg0.N) (d) : (dat V c).before 1 t d = iblk V c 1 t := before1_of V (dat V c) (A_eq V c 1) (after1 V c) t d
theorem before2 (c : Dev nD) (t : Fin cfg0.N) (d) : (dat V c).before 2 t d = iblk V c 2 t := before2_of V (dat V c) (A_eq V c 2) (after2 V c) t d

/-- What the body is called with at point `t`, the windows one by one, -/
noncomputable def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))
/-- and what it returns. -/
noncomputable def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

/-- A window is left exact at what the body leaves in it (none is idle). -/
theorem leaves (c : Dev nD) (w : Fin cfg0.W) (t : Fin cfg0.N) :
    (dat V c).leavesExact w t = owns (c : Thread nD τ) ((cfg0.win w).stage (cfg0.slots t w)) fullShare ((dat V c).after w t) := by
  unfold Dat.leavesExact
  rw [show cfg0.idle w (grid0.coords t) = false from rfl]

set_option maxHeartbeats 1600000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).Φ t.succ = (dat V c).Φ t.castSucc from rfl,
    show (dat V c).owesAt () t.succ = (dat V c).owesAt () t.castSucc from rfl]
  rw [leaves V c 0, leaves V c 1, leaves V c 2, leaves V c 3, leaves V c 4, leaves V c 5]
  rw [after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply ((body_run c (grid0.coords t) _ _ _ _ _ _ _ _ _ _ _ _ (iblk V c 0 t) (iblk V c 1 t) (iblk V c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.Match

end
-- ==== Proof.LossBody.lean ====
/-
  The second kernel call: what one grid point of the loss kernel computes, and its body's triples.

  Points 0 … 31 read one image's predictions, labels, offsets and statistics and store one row of each of two scratch
  buffers: the row of losses (`lossRow`) and the row of sums (`sumRow`). Point 32 reads the two whole scratch buffers,
  mines the hard negatives and stores the pair of losses (`mined`).
-/
module

public import proofs.«01_k».proof.Proof.MatchBody

@[expose] public section

set_option maxRecDepth 16384

namespace Cert.KernelIdeal.Loss

open Cert.KernelIdeal Cert.KernelIdeal.Gen
open Cert.KernelIdeal.Match (z2 z3 read_store load_whole)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The loss row of one image: from the class scores and the labels. -/
noncomputable def lossRow (cf : Vec F S1x21x8732 .f32) (lb : Vec F S1x1x8732 .f32) : Vec F S1x1x8732 .f32 :=
  k1_pay2 (k1_pay7 lb) (k1_pay9 cf) (k1_pay10 cf lb)
/-- The row of sums of one image: the offsets' loss and the positives' loss, beside the count. -/
noncomputable def sumRow (cf : Vec F S1x21x8732 .f32) (lc : Vec F S1x4x8732 .f32) (lb : Vec F S1x1x8732 .f32) (lt : Vec F S1x4x8732 .f32)
    (st : Vec F S1x1x128 .f32) : Vec F S1x1x128 .f32 :=
  k1_pay3 (k1_pay7 lb) (k1_pay8 lb lc lt) (k1_pay9 cf) (k1_pay10 cf lb) st
/-- The threshold each image's loop ends with, from the loss rows and the rows of sums. -/
noncomputable def thr (a : Vec F S32x1x8732 .f32) (s : Vec F S32x1x128 .f32) : FVec F S32x1 .f32 :=
  Scf.fold (k1_pay16 a s) k1_pay15
/-- The mined pair of losses, in a row. -/
noncomputable def mined (a : Vec F S32x1x8732 .f32) (s : Vec F S32x1x128 .f32) : Vec F S1x128 .f32 :=
  k1_pay4 (k1_pay13 s) (k1_pay17 s) (k1_pay18 s) (k1_pay19 a s (thr a s))

/-- A view of a buffer written once through a rectangle reads the payload inside and what was there outside. -/
theorem read_row {κ : Kind} {sp : Space} {S : Shape} {e : EltTy} (v : View sig κ sp S e) (f : v.ty.Contents (Elt F)) (r : Rect S)
    (w : r.shape.Idx → Elt F e) :
    (∀ x, v.read (Elt F) (v.writes (Elt F) f [(⟨r, w⟩ : View.Piece (Elt F) S e)]) (r.emb x) = w x)
      ∧ ∀ y, y ∉ r.set → v.read (Elt F) (v.writes (Elt F) f [(⟨r, w⟩ : View.Piece (Elt F) S e)]) y = v.read (Elt F) f y :=
  ⟨fun x => View.read_writes_cons_emb v f r w [] x, fun y h => View.read_slice_write_of_not_mem r f w Finset.univ (by rw [Rect.map_emb_univ]; exact h)⟩

set_option maxHeartbeats 1000000 in
/-- The body's triple at points 0 … 31. -/
theorem body_rows (c : Dev nD) (i : grid1.Coords) (arg1 : Memref sig .tc .vmem S1x21x8732 .f32) (harg1 : arg1.IsWhole) (arg2 : Memref sig .tc .vmem S1x4x8732 .f32) (harg2 : arg2.IsWhole) (arg3 : Memref sig .tc .vmem S1x1x8732 .f32) (harg3 : arg3.IsWhole) (arg4 : Memref sig .tc .vmem S1x4x8732 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S32x1x8732 .f32) (harg7 : arg7.IsWhole) (arg8 : Memref sig .tc .vmem S32x1x128 .f32) (harg8 : arg8.IsWhole)
    (hc0 : k1_cond1 i = 1#1) (hc1 : ¬ k1_cond2 i = 1#1)
    (x0 : Vec F S1x21x8732 .f32) (x1 : Vec F S1x4x8732 .f32) (x2 : Vec F S1x1x8732 .f32) (x3 : Vec F S1x4x8732 .f32) (x4 : Vec F S1x1x128 .f32)
    (x5 : Vec F S1x128 .f32) (x6 : Vec F S32x1x8732 .f32) (x7 : Vec F S32x1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ (∃ y : Vec F S32x1x8732 .f32, ⌜(∀ x, y ((Rect.unit (s := S32x1x8732) (k1_off1 i) S1x1x8732.size (k1_off1_inb i hc0)).emb x) = lossRow x0 x2 x)
                    ∧ ∀ j, j ∉ (Rect.unit (s := S32x1x8732) (k1_off1 i) S1x1x8732.size (k1_off1_inb i hc0)).set → y j = x6 j⌝ ∗ owns (c : Thread nD τ) arg7 fullShare y)
                ∗ (∃ y : Vec F S32x1x128 .f32, ⌜(∀ x, y ((Rect.unit (s := S32x1x128) (k1_off2 i) S1x1x128.size (k1_off2_inb i hc0)).emb x) = sumRow x0 x1 x2 x3 x4 x)
                    ∧ ∀ j, j ∉ (Rect.unit (s := S32x1x128) (k1_off2 i) S1x1x128.size (k1_off2_inb i hc0)).set → y j = x7 j⌝ ∗ owns (c : Thread nD τ) arg8 fullShare y)) -∗ K ⟨⟩))
          ⊢ wp frame (wpE (defs₀ (F := F)) Variants.none c none) E (cc1__dense_mine_body i arg1 harg1 arg2 harg2 arg3 harg3 arg4 harg4 arg5 harg5 arg6 harg6 arg7 harg7 arg8 harg8) K := by
    intro E K
    simp only [cc1__dense_mine_body_eq_skeleton]; unfold cc1__dense_mine_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4
    have e0 := load_whole harg1 z3 inb_S1x21x8732_S1x21x8732_0_0_0 x0
    have e1 := load_whole harg2 z3 inb_S1x4x8732_S1x4x8732_0_0_0 x1
    have e2 := load_whole harg3 z3 inb_S1x1x8732_S1x1x8732_0_0_0 x2
    have e3 := load_whole harg4 z3 inb_S1x4x8732_S1x4x8732_0_0_0 x3
    have e4 := load_whole harg5 z3 inb_S1x1x128_S1x1x128_0_0_0 x4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact hf5
      iexact H5
    subst hf6 hf7
    isplitl [H6]
    · iexists _; isplitr; swap
      · iexists _; isplitr; swap; · iexact H6
        ipureintro; rfl
      ipureintro
      exact read_row _ _ _ _
    iexists _; isplitr; swap
    · iexists _; isplitr; swap; · iexact H7
      ipureintro; rfl
    ipureintro
    exact read_row _ _ _ _

set_option maxHeartbeats 1000000 in
/-- The body's triple at point 32. -/
theorem body_mine (c : Dev nD) (i : grid1.Coords) (arg1 : Memref sig .tc .vmem S1x21x8732 .f32) (harg1 : arg1.IsWhole) (arg2 : Memref sig .tc .vmem S1x4x8732 .f32) (harg2 : arg2.IsWhole) (arg3 : Memref sig .tc .vmem S1x1x8732 .f32) (harg3 : arg3.IsWhole) (arg4 : Memref sig .tc .vmem S1x4x8732 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S32x1x8732 .f32) (harg7 : arg7.IsWhole) (arg8 : Memref sig .tc .vmem S32x1x128 .f32) (harg8 : arg8.IsWhole)
    (hc0 : ¬ k1_cond1 i = 1#1) (hc1 : k1_cond2 i = 1#1)
    (x0 : Vec F S1x21x8732 .f32) (x1 : Vec F S1x4x8732 .f32) (x2 : Vec F S1x1x8732 .f32) (x3 : Vec F S1x4x8732 .f32) (x4 : Vec F S1x1x128 .f32)
    (x6 : Vec F S32x1x8732 .f32) (x7 : Vec F S32x1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ d, owns (c : Thread nD τ) arg6 fullShare d)
            ∗ owns (c : Thread nD τ) arg7 fullShare x6 ∗ owns (c : Thread nD τ) arg8 fullShare x7
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare (mined x6 x7)
                ∗ owns (c : Thread nD τ) arg7 fullShare x6 ∗ owns (c : Thread nD τ) arg8 fullShare x7) -∗ K ⟨⟩))
          ⊢ wp frame (wpE (defs₀ (F := F)) Variants.none c none) E (cc1__dense_mine_body i arg1 harg1 arg2 harg2 arg3 harg3 arg4 harg4 arg5 harg5 arg6 harg6 arg7 harg7 arg8 harg8) K := by
    intro E K
    simp only [cc1__dense_mine_body_eq_skeleton]; unfold cc1__dense_mine_body_skel
    simp only [k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg7.eq_unread hf6; obtain rfl := harg8.eq_unread hf7
    have e6 := load_whole harg7 z3 inb_S32x1x8732_S32x1x8732_0_0_0 x6
    have e7 := load_whole harg8 z3 inb_S32x1x128_S32x1x128_0_0_0 x7
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap; · iexact H5
      ipureintro
      refine (read_store _ _ (show (![0, 0] : Fin S1x128.rank → ℕ) = fun _ => 0 from z2) _ _).trans ?_
      rfl
    isplitl [H6]
    · iexists _; isplitr; · ipureintro; exact harg7.read_unread _
      iexact H6
    iexists _; isplitr; · ipureintro; exact harg8.read_unread _
    iexact H7

end Cert.KernelIdeal.Loss

end
-- ==== Proof.LossData.lean ====
/-
  The second kernel call's pipeline: what its windows and its two scratch buffers hold point by point, and the body's
  obligation. Before point `t` the rows below `t` of each scratch buffer are the rows computed from the blocks.
-/
module

public import proofs.«01_k».proof.Proof.LossBody
public import Idealize.ShloMosaic.Lib.WordCmp
public import Idealize.ShloMosaic.Lib.ValueIdx

@[expose] public section

set_option maxRecDepth 16384

namespace Cert.KernelIdeal.Loss

open Cert.KernelIdeal Cert.KernelIdeal.Gen
open Idealize.ShloMosaic.ValueIdx (ix3 eq_ix3)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A row stored at row `t` of a buffer whose rows below `t` are those of `all` leaves the rows below `t + 1` so. -/
theorem rows_step {n : ℕ} {e : EltTy} (off : Fin 3 → ℕ) (inb : ∀ a, off a + (⟨3, ![1, 1, n]⟩ : Shape).size a ≤ (⟨3, ![32, 1, n]⟩ : Shape).size a) (t : ℕ) (hoff : off = ![t, 0, 0])
    (y x all : Vec F ⟨3, ![32, 1, n]⟩ e) (row : Vec F ⟨3, ![1, 1, n]⟩ e)
    (hall : ∀ j : (⟨3, ![32, 1, n]⟩ : Shape).Idx, (j 0).val = t → all j = row (ix3 (0 : Fin 1) (j 1) (j 2)))
    (hin : ∀ k, y ((Rect.unit (s := ⟨3, ![32, 1, n]⟩) off (⟨3, ![1, 1, n]⟩ : Shape).size inb).emb k) = row k)
    (hout : ∀ j, j ∉ (Rect.unit (s := ⟨3, ![32, 1, n]⟩) off (⟨3, ![1, 1, n]⟩ : Shape).size inb).set → y j = x j)
    (hx : ∀ j : (⟨3, ![32, 1, n]⟩ : Shape).Idx, (j 0).val < t → x j = all j) :
    ∀ j : (⟨3, ![32, 1, n]⟩ : Shape).Idx, (j 0).val < t + 1 → y j = all j := by
  subst hoff
  intro j hj
  by_cases h : (j 0).val = t
  · rw [hall j h, ← hin]
    congr 1
    refine funext fun a => Fin.ext ?_
    rw [Rect.emb_apply]
    fin_cases a
    · show (j 0).val = t + 1 * 0
      omega
    · show (j 1).val = 0 + 1 * (j 1).val
      omega
    · show (j 2).val = 0 + 1 * (j 2).val
      omega
  · rw [hout j, hx j (by omega)]
    rw [Rect.mem_set_unit]
    intro hm
    have h0 := (hm 0).1
    have h0' : t ≤ (j 0).val := h0
    omega

-- Core `c`'s buffers as the region is entered.
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
abbrev ms0 (t : Fin cfg1.N) : Memref sig .tc .vmem S1x21x8732 .f32 := win1_0.stage (cfg1.slots t 0)
abbrev ms1 (t : Fin cfg1.N) : Memref sig .tc .vmem S1x4x8732 .f32 := win1_1.stage (cfg1.slots t 1)
abbrev ms2 (t : Fin cfg1.N) : Memref sig .tc .vmem S1x1x8732 .f32 := win1_2.stage (cfg1.slots t 2)
abbrev ms3 (t : Fin cfg1.N) : Memref sig .tc .vmem S1x4x8732 .f32 := win1_3.stage (cfg1.slots t 3)
abbrev ms4 (t : Fin cfg1.N) : Memref sig .tc .vmem S1x1x128 .f32 := win1_4.stage (cfg1.slots t 4)
abbrev ms5 (t : Fin cfg1.N) : Memref sig .tc .vmem S1x128 .f32 := win1_5.stage (cfg1.slots t 5)
/-- Input window 0's staging buffer holds its block at every point, when the body leaves it there. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, when the body leaves it there. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, when the body leaves it there. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, when the body leaves it there. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, when the body leaves it there. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev sc0 : Memref sig .tc .vmem S32x1x8732 .f32 := Memref.whole cc1_scratch0
abbrev sc1 : Memref sig .tc .vmem S32x1x128 .f32 := Memref.whole cc1_scratch1

/-- The point whose row a row index is. -/
def ptOf (b : Fin 32) : Fin cfg1.N := ⟨b.val, lt_of_lt_of_eq (b.isLt.trans (by decide : (32 : ℕ) < 33)) (show cfg1.N = 33 from N_1).symm⟩

/-- Every image's loss row. -/
noncomputable def lossAll (c : Dev nD) : Vec F S32x1x8732 .f32 := fun j =>
  lossRow (iblk V c 0 (ptOf (j 0))) (iblk V c 2 (ptOf (j 0))) (ix3 (0 : Fin 1) (j 1) (j 2))
/-- Every image's row of sums. -/
noncomputable def sumAll (c : Dev nD) : Vec F S32x1x128 .f32 := fun j =>
  sumRow (iblk V c 0 (ptOf (j 0))) (iblk V c 1 (ptOf (j 0))) (iblk V c 2 (ptOf (j 0))) (iblk V c 3 (ptOf (j 0))) (iblk V c 4 (ptOf (j 0))) (ix3 (0 : Fin 1) (j 1) (j 2))

theorem lossAll_row (c : Dev nD) (t : Fin cfg1.N) (j : S32x1x8732.Idx) (h : (j 0).val = t.val) :
    lossAll V c j = lossRow (iblk V c 0 t) (iblk V c 2 t) (ix3 (0 : Fin 1) (j 1) (j 2)) := by
  have e : ptOf (j 0) = t := Fin.ext h
  unfold lossAll; rw [e]
theorem sumAll_row (c : Dev nD) (t : Fin cfg1.N) (j : S32x1x128.Idx) (h : (j 0).val = t.val) :
    sumAll V c j = sumRow (iblk V c 0 t) (iblk V c 1 t) (iblk V c 2 t) (iblk V c 3 t) (iblk V c 4 t) (ix3 (0 : Fin 1) (j 1) (j 2)) := by
  have e : ptOf (j 0) = t := Fin.ext h
  unfold sumAll; rw [e]

/-- The scoped buffers that are neither staging buffers nor scratch of this call, each at some contents. -/
noncomputable def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- What stands between points: the scratch buffers with the rows below `n` computed, the rest of the scoped buffers at
    something, the generator register at something. -/
noncomputable def inv (c : Dev nD) (n : ℕ) : sProp 𝕄 :=
  iprop(others (F := F) c ∗ (∃ r, prngReg c r)
    ∗ (∃ y : Vec F S32x1x8732 .f32, ⌜∀ j : S32x1x8732.Idx, (j 0).val < n → y j = lossAll V c j⌝ ∗ owns (c : Thread nD τ) sc0 fullShare y)
    ∗ (∃ y : Vec F S32x1x128 .f32, ⌜∀ j : S32x1x128.Idx, (j 0).val < n → y j = sumAll V c j⌝ ∗ owns (c : Thread nD τ) sc1 fullShare y))

/-- The scoped buffers at something and the generator give the invariant at its start, -/
theorem inv_start (c : Dev nD) : iprop(Pipeline.scopedRest (Ix := Unit) (Name := ℕ) (U := UR sig nD τ) (Lvl := ℕ) (Val := Elt F) spec1 c ∗ (∃ r, prngReg c r)) ⊢ inv V c 0 := by
  rw [scopedRest1_eq]; unfold inv others
  simp only [sc0, sc1, owns_whole]
  iintro ⟨⟨R0, R1, R2, R3, R4, R5, R6, R7, R8, R9, R10, ⟨%f, S0⟩, ⟨%g, S1⟩⟩, Hg⟩
  isplitl [R0 R1 R2 R3 R4 R5 R6 R7 R8 R9 R10]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  isplitl [Hg]; · iexact Hg
  isplitl [S0]
  · iexists f; isplitr; · ipureintro; exact fun j h => absurd h (Nat.not_lt_zero _)
    iexact S0
  iexists g; isplitr; · ipureintro; exact fun j h => absurd h (Nat.not_lt_zero _)
  iexact S1
/-- and it gives them back. -/
theorem inv_end (c : Dev nD) (n : ℕ) : inv V c n ⊢ iprop(Pipeline.scopedRest (Ix := Unit) (Name := ℕ) (U := UR sig nD τ) (Lvl := ℕ) (Val := Elt F) spec1 c ∗ (∃ r, prngReg c r)) := by
  rw [scopedRest1_eq]; unfold inv others
  simp only [sc0, sc1, owns_whole]
  iintro ⟨⟨R0, R1, R2, R3, R4, R5, R6, R7, R8, R9, R10⟩, Hg, ⟨%f, -, S0⟩, ⟨%g, -, S1⟩⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [S0]; · iexists f; iexact S0
    iexists g; iexact S1
  iexact Hg

/-- The pipeline's proof data: the arrays as found; each input's buffer left at its block; the output's at the mined
    pair; the scratch rows filled one by one; nothing owed. -/
noncomputable def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => mined (lossAll V c) (sumAll V c)
  Φ t := inv V c t.val
  q _ := fullShare
  owed _ := 0

theorem A_eq (c : Dev nD) (w : Fin cfg1.W) : (dat V c).A w = V c (Pipeline.arrRef spec1 w) := by dsimp only [dat]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = mined (lossAll V c) (sumAll V c) := by dsimp only [dat]
theorem before0 (c : Dev nD) (t : Fin cfg1.N) (d) : (dat V c).before 0 t d = iblk V c 0 t := before0_of V (dat V c) (A_eq V c 0) (after0 V c) t d
theorem before1 (c : Dev nD) (t : Fin cfg1.N) (d) : (dat V c).before 1 t d = iblk V c 1 t := before1_of V (dat V c) (A_eq V c 1) (after1 V c) t d
theorem before2 (c : Dev nD) (t : Fin cfg1.N) (d) : (dat V c).before 2 t d = iblk V c 2 t := before2_of V (dat V c) (A_eq V c 2) (after2 V c) t d
theorem before3 (c : Dev nD) (t : Fin cfg1.N) (d) : (dat V c).before 3 t d = iblk V c 3 t := before3_of V (dat V c) (A_eq V c 3) (after3 V c) t d
theorem before4 (c : Dev nD) (t : Fin cfg1.N) (d) : (dat V c).before 4 t d = iblk V c 4 t := before4_of V (dat V c) (A_eq V c 4) (after4 V c) t d
theorem leaves0 (c : Dev nD) (t : Fin cfg1.N) : (dat V c).leavesExact 0 t = owns (c : Thread nD τ) (ms0 t) fullShare (iblk V c 0 t) := by
  unfold Dat.leavesExact; rw [show cfg1.idle 0 (grid1.coords t) = false from rfl, after0]
theorem leaves1 (c : Dev nD) (t : Fin cfg1.N) : (dat V c).leavesExact 1 t = owns (c : Thread nD τ) (ms1 t) fullShare (iblk V c 1 t) := by
  unfold Dat.leavesExact; rw [show cfg1.idle 1 (grid1.coords t) = false from rfl, after1]
theorem leaves2 (c : Dev nD) (t : Fin cfg1.N) : (dat V c).leavesExact 2 t = owns (c : Thread nD τ) (ms2 t) fullShare (iblk V c 2 t) := by
  unfold Dat.leavesExact; rw [show cfg1.idle 2 (grid1.coords t) = false from rfl, after2]
theorem leaves3 (c : Dev nD) (t : Fin cfg1.N) : (dat V c).leavesExact 3 t = owns (c : Thread nD τ) (ms3 t) fullShare (iblk V c 3 t) := by
  unfold Dat.leavesExact; rw [show cfg1.idle 3 (grid1.coords t) = false from rfl, after3]
theorem leaves4 (c : Dev nD) (t : Fin cfg1.N) : (dat V c).leavesExact 4 t = owns (c : Thread nD τ) (ms4 t) fullShare (iblk V c 4 t) := by
  unfold Dat.leavesExact; rw [show cfg1.idle 4 (grid1.coords t) = false from rfl, after4]

/-- The first branch is taken at points 0 … 31, -/
theorem cond1_iff : ∀ t : Fin cfg1.N, k1_cond1 (grid1.coords t) = 1#1 ↔ t.val < 32 :=
  (by decide +kernel : ∀ t : Fin grid1.N, k1_cond1 (grid1.coords t) = 1#1 ↔ t.val < 32)
/-- the second at point 32. -/
theorem cond2_iff : ∀ t : Fin cfg1.N, k1_cond2 (grid1.coords t) = 1#1 ↔ t.val = 32 :=
  (by decide +kernel : ∀ t : Fin grid1.N, k1_cond2 (grid1.coords t) = 1#1 ↔ t.val = 32)
/-- The row stored at point `t` is row `t`, of the one buffer -/
theorem off1_eq : ∀ t : Fin cfg1.N, k1_off1 (grid1.coords t) = ![t.val, 0, 0] :=
  (by decide +kernel : ∀ t : Fin grid1.N, k1_off1 (grid1.coords t) = ![t.val, 0, 0])
/-- and of the other. -/
theorem off2_eq : ∀ t : Fin cfg1.N, k1_off2 (grid1.coords t) = ![t.val, 0, 0] :=
  (by decide +kernel : ∀ t : Fin grid1.N, k1_off2 (grid1.coords t) = ![t.val, 0, 0])

/-- At point 32 the output's buffer is left at the mined pair, -/
theorem leaves5_last (c : Dev nD) (t : Fin cfg1.N) (h : k1_cond2 (grid1.coords t) = 1#1) :
    (dat V c).leavesExact 5 t = owns (c : Thread nD τ) (ms5 t) fullShare (mined (lossAll V c) (sumAll V c)) := by
  unfold Dat.leavesExact
  rw [show cfg1.idle 5 (grid1.coords t) = false from by show (!(k1_cond2 (grid1.coords t) == 1#1)) = false; rw [h]; rfl, after5]
/-- before it as found. -/
theorem leaves5_idle (c : Dev nD) (t : Fin cfg1.N) (h : ¬ k1_cond2 (grid1.coords t) = 1#1) (hf : (cfg1.win 5).flush t = false) :
    (dat V c).leavesExact 5 t = iprop(∃ d, owns (c : Thread nD τ) (ms5 t) fullShare ((dat V c).before 5 t d)) :=
  Dat.leavesExact_idle _ 5 t (by show (!(k1_cond2 (grid1.coords t) == 1#1)) = true; rw [beq_false_of_ne h]; rfl) hf

/-- What the body is called with at point `t`, the windows one by one, -/
noncomputable def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))
/-- and what it returns. -/
noncomputable def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 1600000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).Φ t.succ = inv V c (t.val + 1) from rfl, show (dat V c).Φ t.castSucc = inv V c t.val from rfl,
    show (dat V c).owesAt () t.succ = (dat V c).owesAt () t.castSucc from rfl]
  rw [leaves0, leaves1, leaves2, leaves3, leaves4]
  have hN : t.val < 33 := lt_of_lt_of_eq t.isLt (show cfg1.N = 33 from N_1)
  unfold inv
  iintro ⟨⟨HR, Hg, ⟨%y0, %hy0, S0⟩, ⟨%y1, %hy1, S1⟩⟩, Ho, ⟨%d0, H0⟩, ⟨%d1, H1⟩, ⟨%d2, H2⟩, ⟨%d3, H3⟩, ⟨%d4, H4⟩, ⟨%d5, H5⟩⟩
  by_cases h : t.val < 32
  · have h1 : k1_cond1 (grid1.coords t) = 1#1 := (cond1_iff t).mpr h
    have h2 : ¬ k1_cond2 (grid1.coords t) = 1#1 := fun e => by have := (cond2_iff t).mp e; omega
    rw [leaves5_idle V c t h2 (by
      by_contra hf
      have := (flush1_5 t).mp (by simpa using hf)
      omega)]
    iapply ((body_rows c (grid1.coords t) _ _ _ _ _ _ _ _ _ _ _ _ sc0 (Memref.isWhole_whole _) sc1 (Memref.isWhole_whole _) h1 h2 (iblk V c 0 t) (iblk V c 1 t) (iblk V c 2 t) (iblk V c 3 t) (iblk V c 4 t) _ y0 y1) Set.univ _)
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    iintro ⟨H0, H1, H2, H3, H4, H5, ⟨%z0, %hz0, S0⟩, ⟨%z1, %hz1, S1⟩⟩
    isplitl [HR Hg S0 S1]
    · isplitl [HR]; · iexact HR
      isplitl [Hg]; · iexact Hg
      isplitl [S0]
      · iexists z0; isplitr
        · ipureintro
          exact rows_step (k1_off1 (grid1.coords t)) (k1_off1_inb _ h1) t.val (off1_eq t) z0 y0 (lossAll V c) _ (fun j hj => lossAll_row V c t j hj) hz0.1 hz0.2 hy0
        iexact S0
      iexists z1; isplitr
      · ipureintro
        exact rows_step (k1_off2 (grid1.coords t)) (k1_off2_inb _ h1) t.val (off2_eq t) z1 y1 (sumAll V c) _ (fun j hj => sumAll_row V c t j hj) hz1.1 hz1.2 hy1
      iexact S1
    isplitl [Ho]; · iexact Ho
    isplitl [H0]; · iexact H0
    isplitl [H1]; · iexact H1
    isplitl [H2]; · iexact H2
    isplitl [H3]; · iexact H3
    isplitl [H4]; · iexact H4
    iexists d5; iexact H5
  · have ht : t.val = 32 := by omega
    have h1 : ¬ k1_cond1 (grid1.coords t) = 1#1 := fun e => h ((cond1_iff t).mp e)
    have h2 : k1_cond2 (grid1.coords t) = 1#1 := (cond2_iff t).mpr ht
    rw [leaves5_last V c t h2]
    have e0 : y0 = lossAll V c := funext fun j => hy0 j (by rw [ht]; exact (j 0).isLt)
    have e1 : y1 = sumAll V c := funext fun j => hy1 j (by rw [ht]; exact (j 0).isLt)
    subst e0 e1
    iapply ((body_mine c (grid1.coords t) _ _ _ _ _ _ _ _ _ _ _ _ sc0 (Memref.isWhole_whole _) sc1 (Memref.isWhole_whole _) h1 h2 (iblk V c 0 t) (iblk V c 1 t) (iblk V c 2 t) (iblk V c 3 t) (iblk V c 4 t) (lossAll V c) (sumAll V c)) Set.univ _)
    isplitl [H0]; · iexact H0
    isplitl [H1]; · iexact H1
    isplitl [H2]; · iexact H2
    isplitl [H3]; · iexact H3
    isplitl [H4]; · iexact H4
    isplitl [H5]; · iexists _; iexact H5
    isplitl [S0]; · iexact S0
    isplitl [S1]; · iexact S1
    iintro ⟨H0, H1, H2, H3, H4, H5, S0, S1⟩
    isplitl [HR Hg S0 S1]
    · isplitl [HR]; · iexact HR
      isplitl [Hg]; · iexact Hg
      isplitl [S0]
      · iexists _; isplitr; swap; · iexact S0
        ipureintro; exact fun _ _ => rfl
      iexists _; isplitr; swap; · iexact S1
      ipureintro; exact fun _ _ => rfl
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body. -/
theorem defs₀_row (t : Fin cfg1.N) : defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.Loss

end
-- ==== Proof.KernelRun.lean ====
/-
  The kernel program's run: its host operations and its two regions as segments; what every unscoped buffer holds at the
  end; every semaphore counter at zero.
-/
module

public import proofs.«01_k».proof.Proof.MatchData
public import proofs.«01_k».proof.Proof.LossData
public import proofs.«01_k».proof.Proof.Gen.KernelIdeal.Regions
public import Idealize.ShloMosaic.Lib.Pipeline.FrameSuffix

@[expose] public section

set_option maxRecDepth 16384

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything. -/
abbrev L : GSem nD τ sig → Finset Unit := fun _ => ∅
abbrev lv : GSem nD τ sig → Unit → ℕ := fun _ _ => 0

/-- The first region's proof data, entered after the four transposes. -/
noncomputable abbrev dat0 (c : Dev nD) : Dat τ (Elt F) Unit ℕ (UR sig nD τ) ℕ cfg0 c := Match.dat (fun c b => V1 m c b) c
/-- What the first region leaves: its arrays at their final contents. -/
noncomputable def outs0 : Outs (F := F) := fun _ r c => Pipeline.withArrays spec0 c (V1 m c) (fun w => (dat0 m c).arrAt w cfg0.N) r
/-- The second region's proof data, entered with what the first left. -/
noncomputable abbrev dat1 (c : Dev nD) : Dat τ (Elt F) Unit ℕ (UR sig nD τ) ℕ cfg1 c := Loss.dat (fun c b => V2 m (outs0 m) c b) c
/-- What the second region leaves. -/
noncomputable def outs1 : Outs (F := F) := fun _ r c => Pipeline.withArrays spec1 c (V2 m (outs0 m) c) (fun w => (dat1 m c).arrAt w cfg1.N) r
/-- What each region leaves. -/
noncomputable def outs : Outs (F := F) := fun J r c => if J = 2 then outs0 m J r c else outs1 m J r c

theorem V2_outs (c : Dev nD) : V2 m (outs m) c = V2 m (outs0 m) c := rfl

/-- Both regions' proof data. -/
noncomputable def pdats : (p : Fin 2) → (c : Dev nD) → Dat τ (Elt F) Unit ℕ (UR sig nD τ) ℕ (cfgs p) c
  | ⟨0, _⟩, c => Match.dat (fun c b => V1 m c b) c
  | ⟨1, _⟩, c => Loss.dat (fun c b => V2 m (outs m) c b) c

/-- What rides beside the buffers: the generator register and the core's dues. -/
noncomputable def rest (c : Dev nD) : sProp 𝕄 := iprop((∃ r, prngReg c r) ∗ ∃ W, owes (c : Thread nD τ) (0 : CellTallies nD τ sig Unit) W)

/-- An input's array is left as found. -/
theorem in0 (c : Dev nD) (w : Fin cfg0.W) (h : (cfg0.win w).isOut = false) : (dat0 m c).arrAt w cfg0.N = V1 m c (Pipeline.arrRef spec0 w) :=
  ((dat0 m c).arrAt_in w h _).trans (Match.A_eq _ c w)
theorem in1 (c : Dev nD) (w : Fin cfg1.W) (h : (cfg1.win w).isOut = false) : (dat1 m c).arrAt w cfg1.N = V2 m (outs0 m) c (Pipeline.arrRef spec1 w) :=
  ((dat1 m c).arrAt_in w h _).trans (Loss.A_eq _ c w)

theorem V2_lbl (c : Dev nD) : V2 m (outs m) c main_v4_0 = (dat0 m c).arrAt 3 cfg0.N := by
  simp only [V2, ne_eq, StableHlo.devRef_ne_of_ne (by decide : main_v4_0 ≠ main_v4_1), StableHlo.devRef_ne_of_ne (by decide : main_v4_0 ≠ main_v4_2), not_false_eq_true, Function.update_of_ne, Function.update_self]
  exact Pipeline.withArrays_arr spec0 launch0.win.arr_inj c (V1 m c) (fun w => (dat0 m c).arrAt w cfg0.N) 3
theorem V2_loct (c : Dev nD) : V2 m (outs m) c main_v4_1 = (dat0 m c).arrAt 4 cfg0.N := by
  simp only [V2, ne_eq, StableHlo.devRef_ne_of_ne (by decide : main_v4_1 ≠ main_v4_2), not_false_eq_true, Function.update_of_ne, Function.update_self]
  exact Pipeline.withArrays_arr spec0 launch0.win.arr_inj c (V1 m c) (fun w => (dat0 m c).arrAt w cfg0.N) 4
theorem V2_stats (c : Dev nD) : V2 m (outs m) c main_v4_2 = (dat0 m c).arrAt 5 cfg0.N := by
  simp only [V2, Function.update_self]
  exact Pipeline.withArrays_arr spec0 launch0.win.arr_inj c (V1 m c) (fun w => (dat0 m c).arrAt w cfg0.N) 5
theorem V3_out (c : Dev nD) : V3 m (outs m) c main_v5 = (dat1 m c).arrAt 5 cfg1.N := by
  simp only [V3, Function.update_self]
  exact Pipeline.withArrays_arr spec1 launch1.win.arr_inj c (V2 m (outs0 m) c) (fun w => (dat1 m c).arrAt w cfg1.N) 5

/-- Region 0's arrays end at the next valuation, -/
theorem arr0 (c : Dev nD) : ∀ w : Fin cfg0.W, (dat0 m c).arrAt w cfg0.N = V2 m (outs m) c (Pipeline.arrRef spec0 w)
  | ⟨0, _⟩ => (in0 m c 0 rfl).trans (V2_of m (outs m) c main_v2 (by decide)).symm
  | ⟨1, _⟩ => (in0 m c 1 rfl).trans (V2_of m (outs m) c main_arg3 (by decide)).symm
  | ⟨2, _⟩ => (in0 m c 2 rfl).trans (V2_of m (outs m) c main_v3 (by decide)).symm
  | ⟨3, _⟩ => (V2_lbl m c).symm
  | ⟨4, _⟩ => (V2_loct m c).symm
  | ⟨5, _⟩ => (V2_stats m c).symm
/-- and so do region 1's. -/
theorem arr1 (c : Dev nD) : ∀ w : Fin cfg1.W, (dat1 m c).arrAt w cfg1.N = V3 m (outs m) c (Pipeline.arrRef spec1 w)
  | ⟨0, _⟩ => (in1 m c 0 rfl).trans (V3_of m (outs m) c main_v1 (by decide)).symm
  | ⟨1, _⟩ => (in1 m c 1 rfl).trans (V3_of m (outs m) c main_v0 (by decide)).symm
  | ⟨2, _⟩ => (in1 m c 2 rfl).trans (V3_of m (outs m) c main_v4_0 (by decide)).symm
  | ⟨3, _⟩ => (in1 m c 3 rfl).trans (V3_of m (outs m) c main_v4_1 (by decide)).symm
  | ⟨4, _⟩ => (in1 m c 4 rfl).trans (V3_of m (outs m) c main_v4_2 (by decide)).symm
  | ⟨5, _⟩ => (V3_out m c).symm

/-- A buffer region 0 does not stage is as it was, -/
theorem out0_of (c : Dev nD) (b : Ref sig .tc) (hb : b ∈ (Finset.univ.filter fun b : Ref sig .tc => ¬ b.isScoped) \ Finset.univ.image (Pipeline.arrRef spec0)) :
    V1 m c b = V2 m (outs m) c b := by
  have hn : ∀ w, b ≠ Pipeline.arrRef spec0 w := fun w e => (Finset.mem_sdiff.mp hb).2 (Finset.mem_image.mpr ⟨w, Finset.mem_univ _, e.symm⟩)
  refine (V2_of m (outs m) c b ?_).symm
  intro h
  simp only [List.mem_cons, List.not_mem_nil, or_false] at h
  rcases h with h | h | h
  · exact hn 3 h
  · exact hn 4 h
  · exact hn 5 h
/-- and so is one region 1 does not stage. -/
theorem out1_of (c : Dev nD) (b : Ref sig .tc) (hb : b ∈ (Finset.univ.filter fun b : Ref sig .tc => ¬ b.isScoped) \ Finset.univ.image (Pipeline.arrRef spec1)) :
    V2 m (outs m) c b = V3 m (outs m) c b := by
  have hn : ∀ w, b ≠ Pipeline.arrRef spec1 w := fun w e => (Finset.mem_sdiff.mp hb).2 (Finset.mem_image.mpr ⟨w, Finset.mem_univ _, e.symm⟩)
  refine (V3_of m (outs m) c b ?_).symm
  intro h
  simp only [List.mem_cons, List.not_mem_nil, or_false] at h
  exact hn 5 h

/-- Region 0's arrays at what it leaves in them, beside the buffers it does not stage, are every unscoped buffer held
    at the next valuation. -/
theorem exit0 (c : Dev nD) :
    (iprop((pdats m 0 c).arrays ((pdats m 0 c).arrAt · cfg0.N) ∗ Pipeline.unscopedRest spec0 c (fun b => V1 m c b)) : sProp 𝕄)
      ⊢ StableHlo.held (c : Thread nD τ) (Pipeline.ucRefs τ sig) (V2 m (outs m) c) := by
  rw [← Pipeline.unscopedBufs_held (Ix := Unit) (Name := ℕ) (U := UR sig nD τ) (Lvl := ℕ) c (V2 m (outs m) c),
    Pipeline.unscopedBufs_split cfgs 0 launch0.win.arr_unscoped launch0.win.arr_inj c (fun b => V2 m (outs m) c b),
    Pipeline.arrays_eq cfgs (pdats m) 0 c launch0.arr_whole ((pdats m 0 c).share_full fun _ => rfl)]
  refine BIClass.sep_mono (Entails.of_eq (bigSep_congr fun w _ => congrArg (fun f : Buf (Elt F) ((c : Thread nD τ).loc (Pipeline.arrRef spec0 w)) => (((c : Thread nD τ).loc (Pipeline.arrRef spec0 w)) ↦{fullShare} f : sProp 𝕄)) (arr0 m c w))) (Entails.of_eq ?_)
  unfold Pipeline.unscopedRest
  exact bigSep_congr fun b hb => congrArg (fun f : Buf (Elt F) ((c : Thread nD τ).loc b) => (((c : Thread nD τ).loc b) ↦{fullShare} f : sProp 𝕄)) (out0_of m c b hb)

/-- Region 1's arrays at what it leaves in them, beside the buffers it does not stage, are every unscoped buffer held
    at the next valuation. -/
theorem exit1 (c : Dev nD) :
    (iprop((pdats m 1 c).arrays ((pdats m 1 c).arrAt · cfg1.N) ∗ Pipeline.unscopedRest spec1 c (fun b => V2 m (outs m) c b)) : sProp 𝕄)
      ⊢ StableHlo.held (c : Thread nD τ) (Pipeline.ucRefs τ sig) (V3 m (outs m) c) := by
  rw [← Pipeline.unscopedBufs_held (Ix := Unit) (Name := ℕ) (U := UR sig nD τ) (Lvl := ℕ) c (V3 m (outs m) c),
    Pipeline.unscopedBufs_split cfgs 1 launch1.win.arr_unscoped launch1.win.arr_inj c (fun b => V3 m (outs m) c b),
    Pipeline.arrays_eq cfgs (pdats m) 1 c launch1.arr_whole ((pdats m 1 c).share_full fun _ => rfl)]
  refine BIClass.sep_mono (Entails.of_eq (bigSep_congr fun w _ => congrArg (fun f : Buf (Elt F) ((c : Thread nD τ).loc (Pipeline.arrRef spec1 w)) => (((c : Thread nD τ).loc (Pipeline.arrRef spec1 w)) ↦{fullShare} f : sProp 𝕄)) (arr1 m c w))) (Entails.of_eq ?_)
  unfold Pipeline.unscopedRest
  exact bigSep_congr fun b hb => congrArg (fun f : Buf (Elt F) ((c : Thread nD τ).loc b) => (((c : Thread nD τ).loc b) ↦{fullShare} f : sProp 𝕄)) (out1_of m c b hb)

set_option backward.isDefEq.respectTransparency.types false in
/-- Region 0: entered with every unscoped buffer held at one valuation, left with them held at the next. -/
noncomputable def reg0 : Pipeline.RegionSeg (pcfgs (F := F)) adm (pdats m) () defs₀ Variants.none L lv 0 where
  win := launch0.win.to₀
  block_pos := launch0.block_pos
  stage_whole := launch0.stage_whole
  K := PEmpty
  osem := fun k => k.elim
  ho := Pipeline.OwnSemFacts.none _
  hbody c := (Match.body_obligation (fun c b => V1 m c b) c).loose
  hwaits := Pipeline.hwaits_of_owed_zero _ _ _ _ L lv 0 fun _ _ => rfl
  pre c := iprop(StableHlo.held (c : Thread nD τ) (Pipeline.ucRefs τ sig) (V1 m c) ∗ rest c)
  post c := iprop(StableHlo.held (c : Thread nD τ) (Pipeline.ucRefs τ sig) (V2 m (outs m) c) ∗ rest c)
  X c := iprop(∃ r, prngReg c r)
  Y c := iprop(∃ r, prngReg c r)
  Z c := Pipeline.unscopedRest spec0 c (fun b => V1 m c b)
  hentry c := by
    rw [← Pipeline.unscopedBufs_held (Ix := Unit) (Name := ℕ) (U := UR sig nD τ) (Lvl := ℕ) c (V1 m c)]
    have hsplit := Pipeline.arrays_of_unscopedBufs (p := 0) (pcfgs (F := F)) adm (pdats m) launch0.win launch0.arr_whole c
      ((pdats m 0 c).share_full fun _ => rfl) (fun b => V1 m c b) (Match.A_eq (fun c b => V1 m c b) c)
    unfold rest
    iintro ⟨⟨Hub, ⟨Hg, HO⟩⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hz
  hin c := by
    rw [show (pdats m 0 c).Φ 0 = Pipeline.ΦA spec0 c from rfl]; unfold Pipeline.ΦA
    iintro ⟨Hg, -, Hr⟩
    isplitl [Hr]; · iexact Hr
    iexact Hg
  hout c := by
    rw [show (pdats m 0 c).Φ (Fin.last (Pipeline.pin (pcfgs (F := F)) adm 0).N) = Pipeline.ΦA spec0 c from rfl]; unfold Pipeline.ΦA
    iintro ⟨Hr, Hg⟩
    isplitl [Hg]; · iexact Hg
    isplitr
    · unfold Pipeline.ownSems0; rw [show (Finset.univ : Finset PEmpty) = ∅ from rfl, BI.bigSep_empty]; iempintro
    iexact Hr
  hexit c := by
    unfold rest
    iintro ⟨Ha, HO, HY, HZ⟩
    imodintro
    isplitl [Ha HZ]
    · iapply (exit0 m c)
      isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer held at one valuation, left with them held at the next. -/
noncomputable def reg1 : Pipeline.RegionSeg (pcfgs (F := F)) adm (pdats m) () defs₀ Variants.none L lv 1 where
  win := launch1.win.to₀
  block_pos := launch1.block_pos
  stage_whole := launch1.stage_whole
  K := PEmpty
  osem := fun k => k.elim
  ho := Pipeline.OwnSemFacts.none _
  hbody c := (Loss.body_obligation (fun c b => V2 m (outs m) c b) c).loose
  hwaits := Pipeline.hwaits_of_owed_zero _ _ _ _ L lv 1 fun _ _ => rfl
  pre c := iprop(StableHlo.held (c : Thread nD τ) (Pipeline.ucRefs τ sig) (V2 m (outs m) c) ∗ rest c)
  post c := iprop(StableHlo.held (c : Thread nD τ) (Pipeline.ucRefs τ sig) (V3 m (outs m) c) ∗ rest c)
  X c := iprop(∃ r, prngReg c r)
  Y c := iprop(∃ r, prngReg c r)
  Z c := Pipeline.unscopedRest spec1 c (fun b => V2 m (outs m) c b)
  hentry c := by
    rw [← Pipeline.unscopedBufs_held (Ix := Unit) (Name := ℕ) (U := UR sig nD τ) (Lvl := ℕ) c (V2 m (outs m) c)]
    have hsplit := Pipeline.arrays_of_unscopedBufs (p := 1) (pcfgs (F := F)) adm (pdats m) launch1.win launch1.arr_whole c
      ((pdats m 1 c).share_full fun _ => rfl) (fun b => V2 m (outs m) c b) (Loss.A_eq (fun c b => V2 m (outs m) c b) c)
    unfold rest
    iintro ⟨⟨Hub, ⟨Hg, HO⟩⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hz
  hin c := by
    rw [show (pdats m 1 c).Φ 0 = Loss.inv (fun c b => V2 m (outs m) c b) c 0 from rfl]
    iintro ⟨Hg, -, Hr⟩
    iapply (Loss.inv_start (fun c b => V2 m (outs m) c b) c)
    isplitl [Hr]; · iexact Hr
    iexact Hg
  hout c := by
    rw [show (pdats m 1 c).Φ (Fin.last (Pipeline.pin (pcfgs (F := F)) adm 1).N) = Loss.inv (fun c b => V2 m (outs m) c b) c cfg1.N from rfl]
    refine (Loss.inv_end (fun c b => V2 m (outs m) c b) c cfg1.N).trans ?_
    iintro ⟨Hr, Hg⟩
    isplitl [Hg]; · iexact Hg
    isplitr
    · unfold Pipeline.ownSems0; rw [show (Finset.univ : Finset PEmpty) = ∅ from rfl, BI.bigSep_empty]; iempintro
    iexact Hr
  hexit c := by
    unfold rest
    iintro ⟨Ha, HO, HY, HZ⟩
    imodintro
    isplitl [Ha HZ]
    · iapply (exit1 m c)
      isplitl [Ha] <;> iassumption
    isplitl [HY]; · iexact HY
    unfold Pipeline.Dat.owesAt Pipeline.owesWithin
    icases HO with ⟨%W, -, HO⟩; iexists W; iexact HO

/-- The launch element of the pipelines' cells. -/
noncomputable def u₀ : UR sig nD τ := initOf (Pipeline.cells cfgs cellOf_inj) (Pipeline.launchToks cfgs cellOf_inj)

set_option backward.isDefEq.respectTransparency.types false in
/-- Every weakly fair execution from zero counters terminates with every unscoped buffer at the last valuation and
    every counter at zero. -/
theorem run_main : θ_run defs (onTc (τ := τ) (main (F := F))) ⟨m, fun _ => 0, ρ⟩ (fun r =>
    (∀ c : Dev nD, ∀ b : Ref sig .tc, b.isScoped = false → r.2.mem ((c.tc : Thread nD τ).loc b) = V4 m (outs m) c b)
      ∧ r.2.sem = fun _ => 0) := by
  refine Pipeline.θ_run_regions_kit_dev_sems (pcfgs (F := F)) adm (pdats m) () cellOf_inj emb₁ defs₀ Variants.none L lv m ρ main
    (segs m (outs m) Variants.none L lv (fun _ => rest) () (pdats m) (reg0 m) (reg1 m))
    (fun c Q => by
      rewrite [main_chain c, Pipeline.Seg.run_eq_chain,
        show (segs m (outs m) Variants.none L lv (fun _ => rest) () (pdats m) (reg0 m) (reg1 m) c).map Pipeline.Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide) 0 (fun _ _ => rfl) (fun _ => iprop(emp)) u₀
    (by
      unfold u₀
      iintro Hu
      imodintro
      isplitl [Hu]
      · iapply (show (ownU (initOf (Pipeline.cells cfgs cellOf_inj) (Pipeline.launchToks cfgs cellOf_inj)) : sProp 𝕄)
          ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V4 m (outs m) c))
    (hch := fun c => ⟨.rfl, .rfl, .rfl, .rfl, sep_mono .rfl (by unfold rest; iintro ⟨-, H⟩; iexact H)⟩)
    (hinit := ?_) (QY := fun c s => ∀ b : Ref sig .tc, b.isScoped = false → s.mem ((c.tc : Thread nD τ).loc b) = V4 m (outs m) c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    unfold rest
    iintro ⟨⟨Hh, -, HO, -, Hg, -⟩, -⟩
    imodintro
    isplitl [Hh]; · iexact Hh
    isplitl [Hg]; · iexists _; iexact Hg
    iexists ∅; iexact HO
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by rw [show (Proc.devRef .tc b : DevRef τ sig).isScoped = false from hb]; decide⟩)
    · iexact HSI

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c main_arg0 rfl).trans (V4_main_arg0 m (outs m) c), (h.1 c main_arg1 rfl).trans (V4_main_arg1 m (outs m) c),
    (h.1 c main_arg2 rfl).trans (V4_main_arg2 m (outs m) c), (h.1 c main_arg3 rfl).trans (V4_main_arg3 m (outs m) c)⟩, h.2⟩) (run_main m ρ)

end Cert.KernelIdeal.Run

end
-- ==== Proof.RefOps.lean ====
module

public import proofs.«01_k».proof.Defs
public import proofs.«01_k».proof.Proof.Gen.ReferenceIdeal
public import Idealize.ShloMosaic.Lib.Claim
public import Idealize.ShloMosaic.Lib.StableHlo.RunRead

@[expose] public section

set_option maxRecDepth 16384

namespace Cert.RefRun

open Idealize.ShloMosaic Idealize.SL.Sem Idealize.ShloMosaic.StableHlo
open Cert.ReferenceIdeal Cert.ReferenceIdeal.Gen

variable {F : FTy → Type} [FloatOps F]

noncomputable def op0 : HloOp τ sig (Elt F) := StableHlo.unary main_arg3 main_v0 ((extractStridedSlice S32x16x4 ![0, 0, 0] · slices_S32x16x5_S32x16x4_0_0_0) : (⟨S32x16x5, .f32⟩ : BufTy).Contents (Elt F) → (⟨S32x16x4, .f32⟩ : BufTy).Contents (Elt F))
noncomputable def op1 : HloOp τ sig (Elt F) := StableHlo.unary main_arg3 main_v1 ((extractStridedSlice S32x16x1 ![0, 0, 4] · slices_S32x16x5_S32x16x1_0_0_4) : (⟨S32x16x5, .f32⟩ : BufTy).Contents (Elt F) → (⟨S32x16x1, .f32⟩ : BufTy).Contents (Elt F))
noncomputable def op2 : HloOp τ sig (Elt F) := StableHlo.reshape main_v1 main_v2 (rfl : (.f32 : EltTy) = .f32) shapeCasts_S32x16x1_S32x16
noncomputable def op3 : HloOp τ sig (Elt F) := StableHlo.unary main_v2 main_v3 (fptosi 32 : (⟨S32x16, .f32⟩ : BufTy).Contents (Elt F) → (⟨S32x16, .i32⟩ : BufTy).Contents (Elt F))
noncomputable def op4 : HloOp τ sig (Elt F) := StableHlo.unary main_arg2 main_v4 ((extractStridedSlice S8732x2 ![0, 0] · slices_S8732x4_S8732x2_0_0) : (⟨S8732x4, .f32⟩ : BufTy).Contents (Elt F) → (⟨S8732x2, .f32⟩ : BufTy).Contents (Elt F))
noncomputable def op5 : HloOp τ sig (Elt F) := StableHlo.unary main_arg2 main_v5 ((extractStridedSlice S8732x2 ![0, 2] · slices_S8732x4_S8732x2_0_2) : (⟨S8732x4, .f32⟩ : BufTy).Contents (Elt F) → (⟨S8732x2, .f32⟩ : BufTy).Contents (Elt F))
noncomputable def op6 : HloOp τ sig (Elt F) := StableHlo.nullary main_cst (constant S_ .f32 0x40000000#32)
noncomputable def op7 : HloOp τ sig (Elt F) := StableHlo.unary main_cst main_v6 (broadcastInDim S8732x2 ![] bcast_S_S8732x2 : (⟨S_, .f32⟩ : BufTy).Contents (Elt F) → (⟨S8732x2, .f32⟩ : BufTy).Contents (Elt F))
noncomputable def op8 : HloOp τ sig (Elt F) := StableHlo.binary main_v5 main_v6 main_v7 (Host.divf : (⟨S8732x2, .f32⟩ : BufTy).Contents (Elt F) → (⟨S8732x2, .f32⟩ : BufTy).Contents (Elt F) → (⟨S8732x2, .f32⟩ : BufTy).Contents (Elt F))
noncomputable def op9 : HloOp τ sig (Elt F) := StableHlo.binary main_v4 main_v7 main_v8 (subf : (⟨S8732x2, .f32⟩ : BufTy).Contents (Elt F) → (⟨S8732x2, .f32⟩ : BufTy).Contents (Elt F) → (⟨S8732x2, .f32⟩ : BufTy).Contents (Elt F))
noncomputable def op10 : HloOp τ sig (Elt F) := StableHlo.unary main_arg2 main_v9 ((extractStridedSlice S8732x2 ![0, 0] · slices_S8732x4_S8732x2_0_0) : (⟨S8732x4, .f32⟩ : BufTy).Contents (Elt F) → (⟨S8732x2, .f32⟩ : BufTy).Contents (Elt F))
noncomputable def op11 : HloOp τ sig (Elt F) := StableHlo.unary main_arg2 main_v10 ((extractStridedSlice S8732x2 ![0, 2] · slices_S8732x4_S8732x2_0_2) : (⟨S8732x4, .f32⟩ : BufTy).Contents (Elt F) → (⟨S8732x2, .f32⟩ : BufTy).Contents (Elt F))
noncomputable def op12 : HloOp τ sig (Elt F) := StableHlo.nullary main_cst_0 (constant S_ .f32 0x40000000#32)
noncomputable def op13 : HloOp τ sig (Elt F) := StableHlo.unary main_cst_0 main_v11 (broadcastInDim S8732x2 ![] bcast_S_S8732x2 : (⟨S_, .f32⟩ : BufTy).Contents (Elt F) → (⟨S8732x2, .f32⟩ : BufTy).Contents (Elt F))
noncomputable def op14 : HloOp τ sig (Elt F) := StableHlo.binary main_v10 main_v11 main_v12 (Host.divf : (⟨S8732x2, .f32⟩ : BufTy).Contents (Elt F) → (⟨S8732x2, .f32⟩ : BufTy).Contents (Elt F) → (⟨S8732x2, .f32⟩ : BufTy).Contents (Elt F))
noncomputable def op15 : HloOp τ sig (Elt F) := StableHlo.binary main_v9 main_v12 main_v13 (addf : (⟨S8732x2, .f32⟩ : BufTy).Contents (Elt F) → (⟨S8732x2, .f32⟩ : BufTy).Contents (Elt F) → (⟨S8732x2, .f32⟩ : BufTy).Contents (Elt F))
noncomputable def op16 : HloOp τ sig (Elt F) := StableHlo.binary main_v8 main_v13 main_v14 ((fun a b => concatenate S8732x4 1 [⟨S8732x2, a⟩, ⟨S8732x2, b⟩] concatenates_S8732x2_S8732x2_S8732x4_d1) : (⟨S8732x2, .f32⟩ : BufTy).Contents (Elt F) → (⟨S8732x2, .f32⟩ : BufTy).Contents (Elt F) → (⟨S8732x4, .f32⟩ : BufTy).Contents (Elt F))
noncomputable def op17 : HloOp τ sig (Elt F) := StableHlo.unary main_v0 main_v15 ((extractStridedSlice S32x16x2 ![0, 0, 2] · slices_S32x16x4_S32x16x2_0_0_2) : (⟨S32x16x4, .f32⟩ : BufTy).Contents (Elt F) → (⟨S32x16x2, .f32⟩ : BufTy).Contents (Elt F))
noncomputable def op18 : HloOp τ sig (Elt F) := StableHlo.unary main_v15 main_v16 (broadcastInDim S32x16x1x2 ![0, 1, 3] bcast_S32x16x2_S32x16x1x2_0_1_3 : (⟨S32x16x2, .f32⟩ : BufTy).Contents (Elt F) → (⟨S32x16x1x2, .f32⟩ : BufTy).Contents (Elt F))
noncomputable def op19 : HloOp τ sig (Elt F) := StableHlo.unary main_v14 main_v17 ((extractStridedSlice S8732x2 ![0, 2] · slices_S8732x4_S8732x2_0_2) : (⟨S8732x4, .f32⟩ : BufTy).Contents (Elt F) → (⟨S8732x2, .f32⟩ : BufTy).Contents (Elt F))
noncomputable def op20 : HloOp τ sig (Elt F) := StableHlo.unary main_v17 main_v18 (broadcastInDim S1x1x8732x2 ![2, 3] bcast_S8732x2_S1x1x8732x2_2_3 : (⟨S8732x2, .f32⟩ : BufTy).Contents (Elt F) → (⟨S1x1x8732x2, .f32⟩ : BufTy).Contents (Elt F))
noncomputable def op21 : HloOp τ sig (Elt F) := StableHlo.unary main_v16 main_v19 (broadcastInDim S32x16x8732x2 ![0, 1, 2, 3] bcast_S32x16x1x2_S32x16x8732x2_0_1_2_3 : (⟨S32x16x1x2, .f32⟩ : BufTy).Contents (Elt F) → (⟨S32x16x8732x2, .f32⟩ : BufTy).Contents (Elt F))
noncomputable def op22 : HloOp τ sig (Elt F) := StableHlo.unary main_v18 main_v20 (broadcastInDim S32x16x8732x2 ![0, 1, 2, 3] bcast_S1x1x8732x2_S32x16x8732x2_0_1_2_3 : (⟨S1x1x8732x2, .f32⟩ : BufTy).Contents (Elt F) → (⟨S32x16x8732x2, .f32⟩ : BufTy).Contents (Elt F))
noncomputable def op23 : HloOp τ sig (Elt F) := StableHlo.binary main_v19 main_v20 main_v21 (minimumf : (⟨S32x16x8732x2, .f32⟩ : BufTy).Contents (Elt F) → (⟨S32x16x8732x2, .f32⟩ : BufTy).Contents (Elt F) → (⟨S32x16x8732x2, .f32⟩ : BufTy).Contents (Elt F))
noncomputable def op24 : HloOp τ sig (Elt F) := StableHlo.unary main_v0 main_v22 ((extractStridedSlice S32x16x2 ![0, 0, 0] · slices_S32x16x4_S32x16x2_0_0_0) : (⟨S32x16x4, .f32⟩ : BufTy).Contents (Elt F) → (⟨S32x16x2, .f32⟩ : BufTy).Contents (Elt F))
noncomputable def op25 : HloOp τ sig (Elt F) := StableHlo.unary main_v22 main_v23 (broadcastInDim S32x16x1x2 ![0, 1, 3] bcast_S32x16x2_S32x16x1x2_0_1_3 : (⟨S32x16x2, .f32⟩ : BufTy).Contents (Elt F) → (⟨S32x16x1x2, .f32⟩ : BufTy).Contents (Elt F))
noncomputable def op26 : HloOp τ sig (Elt F) := StableHlo.unary main_v14 main_v24 ((extractStridedSlice S8732x2 ![0, 0] · slices_S8732x4_S8732x2_0_0) : (⟨S8732x4, .f32⟩ : BufTy).Contents (Elt F) → (⟨S8732x2, .f32⟩ : BufTy).Contents (Elt F))
noncomputable def op27 : HloOp τ sig (Elt F) := StableHlo.unary main_v24 main_v25 (broadcastInDim S1x1x8732x2 ![2, 3] bcast_S8732x2_S1x1x8732x2_2_3 : (⟨S8732x2, .f32⟩ : BufTy).Contents (Elt F) → (⟨S1x1x8732x2, .f32⟩ : BufTy).Contents (Elt F))
noncomputable def op28 : HloOp τ sig (Elt F) := StableHlo.unary main_v23 main_v26 (broadcastInDim S32x16x8732x2 ![0, 1, 2, 3] bcast_S32x16x1x2_S32x16x8732x2_0_1_2_3 : (⟨S32x16x1x2, .f32⟩ : BufTy).Contents (Elt F) → (⟨S32x16x8732x2, .f32⟩ : BufTy).Contents (Elt F))
noncomputable def op29 : HloOp τ sig (Elt F) := StableHlo.unary main_v25 main_v27 (broadcastInDim S32x16x8732x2 ![0, 1, 2, 3] bcast_S1x1x8732x2_S32x16x8732x2_0_1_2_3 : (⟨S1x1x8732x2, .f32⟩ : BufTy).Contents (Elt F) → (⟨S32x16x8732x2, .f32⟩ : BufTy).Contents (Elt F))
noncomputable def op30 : HloOp τ sig (Elt F) := StableHlo.binary main_v26 main_v27 main_v28 (maximumf : (⟨S32x16x8732x2, .f32⟩ : BufTy).Contents (Elt F) → (⟨S32x16x8732x2, .f32⟩ : BufTy).Contents (Elt F) → (⟨S32x16x8732x2, .f32⟩ : BufTy).Contents (Elt F))
noncomputable def op31 : HloOp τ sig (Elt F) := StableHlo.binary main_v21 main_v28 main_v29 (subf : (⟨S32x16x8732x2, .f32⟩ : BufTy).Contents (Elt F) → (⟨S32x16x8732x2, .f32⟩ : BufTy).Contents (Elt F) → (⟨S32x16x8732x2, .f32⟩ : BufTy).Contents (Elt F))
noncomputable def op32 : HloOp τ sig (Elt F) := StableHlo.nullary main_cst_1 (constant S_ .f32 0x00000000#32)
noncomputable def op33 : HloOp τ sig (Elt F) := StableHlo.unary main_cst_1 main_call0_v0 (id : (⟨S_, .f32⟩ : BufTy).Contents (Elt F) → (⟨S_, .f32⟩ : BufTy).Contents (Elt F))
noncomputable def op34 : HloOp τ sig (Elt F) := StableHlo.unary main_call0_v0 main_call0_v1 ((broadcastInDim S32x16x8732x2 ![] bcast_S_S32x16x8732x2) : (⟨S_, .f32⟩ : BufTy).Contents (Elt F) → (⟨S32x16x8732x2, .f32⟩ : BufTy).Contents (Elt F))
noncomputable def op35 : HloOp τ sig (Elt F) := StableHlo.binary main_call0_v1 main_v29 main_v30 (maximumf : (⟨S32x16x8732x2, .f32⟩ : BufTy).Contents (Elt F) → (⟨S32x16x8732x2, .f32⟩ : BufTy).Contents (Elt F) → (⟨S32x16x8732x2, .f32⟩ : BufTy).Contents (Elt F))
noncomputable def op36 : HloOp τ sig (Elt F) := StableHlo.unary main_v30 main_v31 ((extractStridedSlice S32x16x8732x1 ![0, 0, 0, 0] · slices_S32x16x8732x2_S32x16x8732x1_0_0_0_0) : (⟨S32x16x8732x2, .f32⟩ : BufTy).Contents (Elt F) → (⟨S32x16x8732x1, .f32⟩ : BufTy).Contents (Elt F))
noncomputable def op37 : HloOp τ sig (Elt F) := StableHlo.reshape main_v31 main_v32 (rfl : (.f32 : EltTy) = .f32) shapeCasts_S32x16x8732x1_S32x16x8732
noncomputable def op38 : HloOp τ sig (Elt F) := StableHlo.unary main_v30 main_v33 ((extractStridedSlice S32x16x8732x1 ![0, 0, 0, 1] · slices_S32x16x8732x2_S32x16x8732x1_0_0_0_1) : (⟨S32x16x8732x2, .f32⟩ : BufTy).Contents (Elt F) → (⟨S32x16x8732x1, .f32⟩ : BufTy).Contents (Elt F))
noncomputable def op39 : HloOp τ sig (Elt F) := StableHlo.reshape main_v33 main_v34 (rfl : (.f32 : EltTy) = .f32) shapeCasts_S32x16x8732x1_S32x16x8732
noncomputable def op40 : HloOp τ sig (Elt F) := StableHlo.binary main_v32 main_v34 main_v35 (mulf : (⟨S32x16x8732, .f32⟩ : BufTy).Contents (Elt F) → (⟨S32x16x8732, .f32⟩ : BufTy).Contents (Elt F) → (⟨S32x16x8732, .f32⟩ : BufTy).Contents (Elt F))
noncomputable def op41 : HloOp τ sig (Elt F) := StableHlo.unary main_v0 main_v36 ((extractStridedSlice S32x16x1 ![0, 0, 2] · slices_S32x16x4_S32x16x1_0_0_2) : (⟨S32x16x4, .f32⟩ : BufTy).Contents (Elt F) → (⟨S32x16x1, .f32⟩ : BufTy).Contents (Elt F))
noncomputable def op42 : HloOp τ sig (Elt F) := StableHlo.reshape main_v36 main_v37 (rfl : (.f32 : EltTy) = .f32) shapeCasts_S32x16x1_S32x16
noncomputable def op43 : HloOp τ sig (Elt F) := StableHlo.unary main_v0 main_v38 ((extractStridedSlice S32x16x1 ![0, 0, 0] · slices_S32x16x4_S32x16x1_0_0_0) : (⟨S32x16x4, .f32⟩ : BufTy).Contents (Elt F) → (⟨S32x16x1, .f32⟩ : BufTy).Contents (Elt F))
noncomputable def op44 : HloOp τ sig (Elt F) := StableHlo.reshape main_v38 main_v39 (rfl : (.f32 : EltTy) = .f32) shapeCasts_S32x16x1_S32x16
noncomputable def op45 : HloOp τ sig (Elt F) := StableHlo.binary main_v37 main_v39 main_v40 (subf : (⟨S32x16, .f32⟩ : BufTy).Contents (Elt F) → (⟨S32x16, .f32⟩ : BufTy).Contents (Elt F) → (⟨S32x16, .f32⟩ : BufTy).Contents (Elt F))
noncomputable def op46 : HloOp τ sig (Elt F) := StableHlo.unary main_v0 main_v41 ((extractStridedSlice S32x16x1 ![0, 0, 3] · slices_S32x16x4_S32x16x1_0_0_3) : (⟨S32x16x4, .f32⟩ : BufTy).Contents (Elt F) → (⟨S32x16x1, .f32⟩ : BufTy).Contents (Elt F))
noncomputable def op47 : HloOp τ sig (Elt F) := StableHlo.reshape main_v41 main_v42 (rfl : (.f32 : EltTy) = .f32) shapeCasts_S32x16x1_S32x16
noncomputable def op48 : HloOp τ sig (Elt F) := StableHlo.unary main_v0 main_v43 ((extractStridedSlice S32x16x1 ![0, 0, 1] · slices_S32x16x4_S32x16x1_0_0_1) : (⟨S32x16x4, .f32⟩ : BufTy).Contents (Elt F) → (⟨S32x16x1, .f32⟩ : BufTy).Contents (Elt F))
noncomputable def op49 : HloOp τ sig (Elt F) := StableHlo.reshape main_v43 main_v44 (rfl : (.f32 : EltTy) = .f32) shapeCasts_S32x16x1_S32x16
noncomputable def op50 : HloOp τ sig (Elt F) := StableHlo.binary main_v42 main_v44 main_v45 (subf : (⟨S32x16, .f32⟩ : BufTy).Contents (Elt F) → (⟨S32x16, .f32⟩ : BufTy).Contents (Elt F) → (⟨S32x16, .f32⟩ : BufTy).Contents (Elt F))
noncomputable def op51 : HloOp τ sig (Elt F) := StableHlo.binary main_v40 main_v45 main_v46 (mulf : (⟨S32x16, .f32⟩ : BufTy).Contents (Elt F) → (⟨S32x16, .f32⟩ : BufTy).Contents (Elt F) → (⟨S32x16, .f32⟩ : BufTy).Contents (Elt F))
noncomputable def op52 : HloOp τ sig (Elt F) := StableHlo.unary main_v46 main_v47 (broadcastInDim S32x16x1 ![0, 1] bcast_S32x16_S32x16x1_0_1 : (⟨S32x16, .f32⟩ : BufTy).Contents (Elt F) → (⟨S32x16x1, .f32⟩ : BufTy).Contents (Elt F))
noncomputable def op53 : HloOp τ sig (Elt F) := StableHlo.unary main_v14 main_v48 ((extractStridedSlice S8732x1 ![0, 2] · slices_S8732x4_S8732x1_0_2) : (⟨S8732x4, .f32⟩ : BufTy).Contents (Elt F) → (⟨S8732x1, .f32⟩ : BufTy).Contents (Elt F))
noncomputable def op54 : HloOp τ sig (Elt F) := StableHlo.reshape main_v48 main_v49 (rfl : (.f32 : EltTy) = .f32) shapeCasts_S8732x1_S8732
noncomputable def op55 : HloOp τ sig (Elt F) := StableHlo.unary main_v14 main_v50 ((extractStridedSlice S8732x1 ![0, 0] · slices_S8732x4_S8732x1_0_0) : (⟨S8732x4, .f32⟩ : BufTy).Contents (Elt F) → (⟨S8732x1, .f32⟩ : BufTy).Contents (Elt F))
noncomputable def op56 : HloOp τ sig (Elt F) := StableHlo.reshape main_v50 main_v51 (rfl : (.f32 : EltTy) = .f32) shapeCasts_S8732x1_S8732
noncomputable def op57 : HloOp τ sig (Elt F) := StableHlo.binary main_v49 main_v51 main_v52 (subf : (⟨S8732, .f32⟩ : BufTy).Contents (Elt F) → (⟨S8732, .f32⟩ : BufTy).Contents (Elt F) → (⟨S8732, .f32⟩ : BufTy).Contents (Elt F))
noncomputable def op58 : HloOp τ sig (Elt F) := StableHlo.unary main_v14 main_v53 ((extractStridedSlice S8732x1 ![0, 3] · slices_S8732x4_S8732x1_0_3) : (⟨S8732x4, .f32⟩ : BufTy).Contents (Elt F) → (⟨S8732x1, .f32⟩ : BufTy).Contents (Elt F))
noncomputable def op59 : HloOp τ sig (Elt F) := StableHlo.reshape main_v53 main_v54 (rfl : (.f32 : EltTy) = .f32) shapeCasts_S8732x1_S8732
noncomputable def op60 : HloOp τ sig (Elt F) := StableHlo.unary main_v14 main_v55 ((extractStridedSlice S8732x1 ![0, 1] · slices_S8732x4_S8732x1_0_1) : (⟨S8732x4, .f32⟩ : BufTy).Contents (Elt F) → (⟨S8732x1, .f32⟩ : BufTy).Contents (Elt F))
noncomputable def op61 : HloOp τ sig (Elt F) := StableHlo.reshape main_v55 main_v56 (rfl : (.f32 : EltTy) = .f32) shapeCasts_S8732x1_S8732
noncomputable def op62 : HloOp τ sig (Elt F) := StableHlo.binary main_v54 main_v56 main_v57 (subf : (⟨S8732, .f32⟩ : BufTy).Contents (Elt F) → (⟨S8732, .f32⟩ : BufTy).Contents (Elt F) → (⟨S8732, .f32⟩ : BufTy).Contents (Elt F))
noncomputable def op63 : HloOp τ sig (Elt F) := StableHlo.binary main_v52 main_v57 main_v58 (mulf : (⟨S8732, .f32⟩ : BufTy).Contents (Elt F) → (⟨S8732, .f32⟩ : BufTy).Contents (Elt F) → (⟨S8732, .f32⟩ : BufTy).Contents (Elt F))
noncomputable def op64 : HloOp τ sig (Elt F) := StableHlo.unary main_v58 main_v59 (broadcastInDim S1x1x8732 ![2] bcast_S8732_S1x1x8732_2 : (⟨S8732, .f32⟩ : BufTy).Contents (Elt F) → (⟨S1x1x8732, .f32⟩ : BufTy).Contents (Elt F))
noncomputable def op65 : HloOp τ sig (Elt F) := StableHlo.unary main_v47 main_v60 (broadcastInDim S32x16x8732 ![0, 1, 2] bcast_S32x16x1_S32x16x8732_0_1_2 : (⟨S32x16x1, .f32⟩ : BufTy).Contents (Elt F) → (⟨S32x16x8732, .f32⟩ : BufTy).Contents (Elt F))
noncomputable def op66 : HloOp τ sig (Elt F) := StableHlo.unary main_v59 main_v61 (broadcastInDim S32x16x8732 ![0, 1, 2] bcast_S1x1x8732_S32x16x8732_0_1_2 : (⟨S1x1x8732, .f32⟩ : BufTy).Contents (Elt F) → (⟨S32x16x8732, .f32⟩ : BufTy).Contents (Elt F))
noncomputable def op67 : HloOp τ sig (Elt F) := StableHlo.binary main_v60 main_v61 main_v62 (addf : (⟨S32x16x8732, .f32⟩ : BufTy).Contents (Elt F) → (⟨S32x16x8732, .f32⟩ : BufTy).Contents (Elt F) → (⟨S32x16x8732, .f32⟩ : BufTy).Contents (Elt F))
noncomputable def op68 : HloOp τ sig (Elt F) := StableHlo.binary main_v62 main_v35 main_v63 (subf : (⟨S32x16x8732, .f32⟩ : BufTy).Contents (Elt F) → (⟨S32x16x8732, .f32⟩ : BufTy).Contents (Elt F) → (⟨S32x16x8732, .f32⟩ : BufTy).Contents (Elt F))
noncomputable def op69 : HloOp τ sig (Elt F) := StableHlo.binary main_v35 main_v63 main_v64 (Host.divf : (⟨S32x16x8732, .f32⟩ : BufTy).Contents (Elt F) → (⟨S32x16x8732, .f32⟩ : BufTy).Contents (Elt F) → (⟨S32x16x8732, .f32⟩ : BufTy).Contents (Elt F))
noncomputable def op70 : HloOp τ sig (Elt F) := StableHlo.nullary main_call1_v0 ((iotaInDim S32x16x8732 32 2) : (⟨S32x16x8732, .i32⟩ : BufTy).Contents (Elt F))
noncomputable def op71 : HloOp τ sig (Elt F) := StableHlo.nullary main_call1_cst ((constant S_ .f32 0xFF800000#32) : (⟨S_, .f32⟩ : BufTy).Contents (Elt F))
noncomputable def op72 : HloOp τ sig (Elt F) := StableHlo.nullary main_call1_c ((constantI S_ 32 0#32) : (⟨S_, .i32⟩ : BufTy).Contents (Elt F))
noncomputable def op73 : HloOp τ sig (Elt F) := StableHlo.quaternary main_v64 main_call1_v0 main_call1_cst main_call1_c main_call1_v1_0 ((fun x y u v j => (Host.argReduce reducer_argmax_f32_i32 x y u v reducesTo_S32x16x8732_S32x16_d2 h_S_ j).1) : (⟨S32x16x8732, .f32⟩ : BufTy).Contents (Elt F) → (⟨S32x16x8732, .i32⟩ : BufTy).Contents (Elt F) → (⟨S_, .f32⟩ : BufTy).Contents (Elt F) → (⟨S_, .i32⟩ : BufTy).Contents (Elt F) → (⟨S32x16, .f32⟩ : BufTy).Contents (Elt F))
noncomputable def op74 : HloOp τ sig (Elt F) := StableHlo.quaternary main_v64 main_call1_v0 main_call1_cst main_call1_c main_v65 ((fun x y u v j => (Host.argReduce reducer_argmax_f32_i32 x y u v reducesTo_S32x16x8732_S32x16_d2 h_S_ j).2) : (⟨S32x16x8732, .f32⟩ : BufTy).Contents (Elt F) → (⟨S32x16x8732, .i32⟩ : BufTy).Contents (Elt F) → (⟨S_, .f32⟩ : BufTy).Contents (Elt F) → (⟨S_, .i32⟩ : BufTy).Contents (Elt F) → (⟨S32x16, .i32⟩ : BufTy).Contents (Elt F))
noncomputable def op75 : HloOp τ sig (Elt F) := StableHlo.nullary main_cst_2 (constant S_ .f32 0xFF800000#32)
noncomputable def op76 : HloOp τ sig (Elt F) := StableHlo.binary main_v64 main_cst_2 main_v66 ((fun x v => Host.reduce FloatOps.maximumf x v reducesTo_S32x16x8732_S32x8732_d1 h_S_) : (⟨S32x16x8732, .f32⟩ : BufTy).Contents (Elt F) → (⟨S_, .f32⟩ : BufTy).Contents (Elt F) → (⟨S32x8732, .f32⟩ : BufTy).Contents (Elt F))
noncomputable def op77 : HloOp τ sig (Elt F) := StableHlo.nullary main_call2_v0 ((iotaInDim S32x16x8732 32 1) : (⟨S32x16x8732, .i32⟩ : BufTy).Contents (Elt F))
noncomputable def op78 : HloOp τ sig (Elt F) := StableHlo.nullary main_call2_cst ((constant S_ .f32 0xFF800000#32) : (⟨S_, .f32⟩ : BufTy).Contents (Elt F))
noncomputable def op79 : HloOp τ sig (Elt F) := StableHlo.nullary main_call2_c ((constantI S_ 32 0#32) : (⟨S_, .i32⟩ : BufTy).Contents (Elt F))
noncomputable def op80 : HloOp τ sig (Elt F) := StableHlo.quaternary main_v64 main_call2_v0 main_call2_cst main_call2_c main_call2_v1_0 ((fun x y u v j => (Host.argReduce reducer_argmax_f32_i32 x y u v reducesTo_S32x16x8732_S32x8732_d1 h_S_ j).1) : (⟨S32x16x8732, .f32⟩ : BufTy).Contents (Elt F) → (⟨S32x16x8732, .i32⟩ : BufTy).Contents (Elt F) → (⟨S_, .f32⟩ : BufTy).Contents (Elt F) → (⟨S_, .i32⟩ : BufTy).Contents (Elt F) → (⟨S32x8732, .f32⟩ : BufTy).Contents (Elt F))
noncomputable def op81 : HloOp τ sig (Elt F) := StableHlo.quaternary main_v64 main_call2_v0 main_call2_cst main_call2_c main_v67 ((fun x y u v j => (Host.argReduce reducer_argmax_f32_i32 x y u v reducesTo_S32x16x8732_S32x8732_d1 h_S_ j).2) : (⟨S32x16x8732, .f32⟩ : BufTy).Contents (Elt F) → (⟨S32x16x8732, .i32⟩ : BufTy).Contents (Elt F) → (⟨S_, .f32⟩ : BufTy).Contents (Elt F) → (⟨S_, .i32⟩ : BufTy).Contents (Elt F) → (⟨S32x8732, .i32⟩ : BufTy).Contents (Elt F))
noncomputable def op82 : HloOp τ sig (Elt F) := StableHlo.nullary main_v68 (iotaInDim S32 32 0)
noncomputable def op83 : HloOp τ sig (Elt F) := StableHlo.unary main_v68 main_v69 (broadcastInDim S32x1 ![0] bcast_S32_S32x1_0 : (⟨S32, .i32⟩ : BufTy).Contents (Elt F) → (⟨S32x1, .i32⟩ : BufTy).Contents (Elt F))
noncomputable def op84 : HloOp τ sig (Elt F) := StableHlo.nullary main_c (constantI S_ 32 0#32)
noncomputable def op85 : HloOp τ sig (Elt F) := StableHlo.unary main_c main_v70 (broadcastInDim S32x1 ![] bcast_S_S32x1 : (⟨S_, .i32⟩ : BufTy).Contents (Elt F) → (⟨S32x1, .i32⟩ : BufTy).Contents (Elt F))
noncomputable def op86 : HloOp τ sig (Elt F) := StableHlo.binary main_v69 main_v70 main_v71 (cmpi .slt : (⟨S32x1, .i32⟩ : BufTy).Contents (Elt F) → (⟨S32x1, .i32⟩ : BufTy).Contents (Elt F) → (⟨S32x1, .i1⟩ : BufTy).Contents (Elt F))
noncomputable def op87 : HloOp τ sig (Elt F) := StableHlo.nullary main_c_3 (constantI S_ 32 32#32)
noncomputable def op88 : HloOp τ sig (Elt F) := StableHlo.unary main_c_3 main_v72 (broadcastInDim S32x1 ![] bcast_S_S32x1 : (⟨S_, .i32⟩ : BufTy).Contents (Elt F) → (⟨S32x1, .i32⟩ : BufTy).Contents (Elt F))
noncomputable def op89 : HloOp τ sig (Elt F) := StableHlo.binary main_v69 main_v72 main_v73 (addi : (⟨S32x1, .i32⟩ : BufTy).Contents (Elt F) → (⟨S32x1, .i32⟩ : BufTy).Contents (Elt F) → (⟨S32x1, .i32⟩ : BufTy).Contents (Elt F))
noncomputable def op90 : HloOp τ sig (Elt F) := StableHlo.ternary main_v71 main_v73 main_v69 main_v74 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F))
noncomputable def op91 : HloOp τ sig (Elt F) := StableHlo.nullary main_c_4 (constantI S_ 32 0#32)
noncomputable def op92 : HloOp τ sig (Elt F) := StableHlo.unary main_c_4 main_v75 (broadcastInDim S32x16 ![] bcast_S_S32x16 : (⟨S_, .i32⟩ : BufTy).Contents (Elt F) → (⟨S32x16, .i32⟩ : BufTy).Contents (Elt F))
noncomputable def op93 : HloOp τ sig (Elt F) := StableHlo.binary main_v65 main_v75 main_v76 (cmpi .slt : (⟨S32x16, .i32⟩ : BufTy).Contents (Elt F) → (⟨S32x16, .i32⟩ : BufTy).Contents (Elt F) → (⟨S32x16, .i1⟩ : BufTy).Contents (Elt F))
noncomputable def op94 : HloOp τ sig (Elt F) := StableHlo.nullary main_c_5 (constantI S_ 32 8732#32)
noncomputable def op95 : HloOp τ sig (Elt F) := StableHlo.unary main_c_5 main_v77 (broadcastInDim S32x16 ![] bcast_S_S32x16 : (⟨S_, .i32⟩ : BufTy).Contents (Elt F) → (⟨S32x16, .i32⟩ : BufTy).Contents (Elt F))
noncomputable def op96 : HloOp τ sig (Elt F) := StableHlo.binary main_v65 main_v77 main_v78 (addi : (⟨S32x16, .i32⟩ : BufTy).Contents (Elt F) → (⟨S32x16, .i32⟩ : BufTy).Contents (Elt F) → (⟨S32x16, .i32⟩ : BufTy).Contents (Elt F))
noncomputable def op97 : HloOp τ sig (Elt F) := StableHlo.ternary main_v76 main_v78 main_v65 main_v79 (select : (⟨S32x16, .i1⟩ : BufTy).Contents (Elt F) → (⟨S32x16, .i32⟩ : BufTy).Contents (Elt F) → (⟨S32x16, .i32⟩ : BufTy).Contents (Elt F) → (⟨S32x16, .i32⟩ : BufTy).Contents (Elt F))
noncomputable def op98 : HloOp τ sig (Elt F) := StableHlo.unary main_v74 main_v80 (broadcastInDim S32x16 ![0, 1] bcast_S32x1_S32x16_0_1 : (⟨S32x1, .i32⟩ : BufTy).Contents (Elt F) → (⟨S32x16, .i32⟩ : BufTy).Contents (Elt F))
noncomputable def op99 : HloOp τ sig (Elt F) := StableHlo.unary main_v80 main_v81 (broadcastInDim S32x16x1 ![0, 1] bcast_S32x16_S32x16x1_0_1 : (⟨S32x16, .i32⟩ : BufTy).Contents (Elt F) → (⟨S32x16x1, .i32⟩ : BufTy).Contents (Elt F))
noncomputable def op100 : HloOp τ sig (Elt F) := StableHlo.unary main_v79 main_v82 (broadcastInDim S32x16x1 ![0, 1] bcast_S32x16_S32x16x1_0_1 : (⟨S32x16, .i32⟩ : BufTy).Contents (Elt F) → (⟨S32x16x1, .i32⟩ : BufTy).Contents (Elt F))
noncomputable def op101 : HloOp τ sig (Elt F) := StableHlo.binary main_v81 main_v82 main_v83 ((fun a b => concatenate S32x16x2 2 [⟨S32x16x1, a⟩, ⟨S32x16x1, b⟩] concatenates_S32x16x1_S32x16x1_S32x16x2_d2) : (⟨S32x16x1, .i32⟩ : BufTy).Contents (Elt F) → (⟨S32x16x1, .i32⟩ : BufTy).Contents (Elt F) → (⟨S32x16x2, .i32⟩ : BufTy).Contents (Elt F))
noncomputable def op102 : HloOp τ sig (Elt F) := StableHlo.nullary main_cst_6 (constant S_ .f32 0x40000000#32)
noncomputable def op103 : HloOp τ sig (Elt F) := StableHlo.unary main_cst_6 main_v84 (broadcastInDim S32x16 ![] bcast_S_S32x16 : (⟨S_, .f32⟩ : BufTy).Contents (Elt F) → (⟨S32x16, .f32⟩ : BufTy).Contents (Elt F))
noncomputable def op104 : HloOp τ sig (Elt F) := StableHlo.ternary main_v66 main_v83 main_v84 main_v85 ((fun x i u => Host.scatter scatter_S32x8732_S32x16x2_S32x16_n_01_01_2 (fun _ b => b) x i u) : (⟨S32x8732, .f32⟩ : BufTy).Contents (Elt F) → (⟨S32x16x2, .i32⟩ : BufTy).Contents (Elt F) → (⟨S32x16, .f32⟩ : BufTy).Contents (Elt F) → (⟨S32x8732, .f32⟩ : BufTy).Contents (Elt F))
noncomputable def op105 : HloOp τ sig (Elt F) := StableHlo.nullary main_v86 (iotaInDim S16 32 0)
noncomputable def op106 : HloOp τ sig (Elt F) := StableHlo.unary main_v86 main_v87 (broadcastInDim S1x16 ![1] bcast_S16_S1x16_1 : (⟨S16, .i32⟩ : BufTy).Contents (Elt F) → (⟨S1x16, .i32⟩ : BufTy).Contents (Elt F))
noncomputable def op107 : HloOp τ sig (Elt F) := StableHlo.nullary main_c_7 (constantI S_ 32 0#32)
noncomputable def op108 : HloOp τ sig (Elt F) := StableHlo.unary main_c_7 main_v88 (broadcastInDim S32x1 ![] bcast_S_S32x1 : (⟨S_, .i32⟩ : BufTy).Contents (Elt F) → (⟨S32x1, .i32⟩ : BufTy).Contents (Elt F))
noncomputable def op109 : HloOp τ sig (Elt F) := StableHlo.binary main_v69 main_v88 main_v89 (cmpi .slt : (⟨S32x1, .i32⟩ : BufTy).Contents (Elt F) → (⟨S32x1, .i32⟩ : BufTy).Contents (Elt F) → (⟨S32x1, .i1⟩ : BufTy).Contents (Elt F))
noncomputable def op110 : HloOp τ sig (Elt F) := StableHlo.nullary main_c_8 (constantI S_ 32 32#32)
noncomputable def op111 : HloOp τ sig (Elt F) := StableHlo.unary main_c_8 main_v90 (broadcastInDim S32x1 ![] bcast_S_S32x1 : (⟨S_, .i32⟩ : BufTy).Contents (Elt F) → (⟨S32x1, .i32⟩ : BufTy).Contents (Elt F))
noncomputable def op112 : HloOp τ sig (Elt F) := StableHlo.binary main_v69 main_v90 main_v91 (addi : (⟨S32x1, .i32⟩ : BufTy).Contents (Elt F) → (⟨S32x1, .i32⟩ : BufTy).Contents (Elt F) → (⟨S32x1, .i32⟩ : BufTy).Contents (Elt F))
noncomputable def op113 : HloOp τ sig (Elt F) := StableHlo.ternary main_v89 main_v91 main_v69 main_v92 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F))
noncomputable def op114 : HloOp τ sig (Elt F) := StableHlo.nullary main_c_9 (constantI S_ 32 0#32)
noncomputable def op115 : HloOp τ sig (Elt F) := StableHlo.unary main_c_9 main_v93 (broadcastInDim S32x16 ![] bcast_S_S32x16 : (⟨S_, .i32⟩ : BufTy).Contents (Elt F) → (⟨S32x16, .i32⟩ : BufTy).Contents (Elt F))
noncomputable def op116 : HloOp τ sig (Elt F) := StableHlo.binary main_v65 main_v93 main_v94 (cmpi .slt : (⟨S32x16, .i32⟩ : BufTy).Contents (Elt F) → (⟨S32x16, .i32⟩ : BufTy).Contents (Elt F) → (⟨S32x16, .i1⟩ : BufTy).Contents (Elt F))
noncomputable def op117 : HloOp τ sig (Elt F) := StableHlo.nullary main_c_10 (constantI S_ 32 8732#32)
noncomputable def op118 : HloOp τ sig (Elt F) := StableHlo.unary main_c_10 main_v95 (broadcastInDim S32x16 ![] bcast_S_S32x16 : (⟨S_, .i32⟩ : BufTy).Contents (Elt F) → (⟨S32x16, .i32⟩ : BufTy).Contents (Elt F))
noncomputable def op119 : HloOp τ sig (Elt F) := StableHlo.binary main_v65 main_v95 main_v96 (addi : (⟨S32x16, .i32⟩ : BufTy).Contents (Elt F) → (⟨S32x16, .i32⟩ : BufTy).Contents (Elt F) → (⟨S32x16, .i32⟩ : BufTy).Contents (Elt F))
noncomputable def op120 : HloOp τ sig (Elt F) := StableHlo.ternary main_v94 main_v96 main_v65 main_v97 (select : (⟨S32x16, .i1⟩ : BufTy).Contents (Elt F) → (⟨S32x16, .i32⟩ : BufTy).Contents (Elt F) → (⟨S32x16, .i32⟩ : BufTy).Contents (Elt F) → (⟨S32x16, .i32⟩ : BufTy).Contents (Elt F))
noncomputable def op121 : HloOp τ sig (Elt F) := StableHlo.unary main_v92 main_v98 (broadcastInDim S32x16 ![0, 1] bcast_S32x1_S32x16_0_1 : (⟨S32x1, .i32⟩ : BufTy).Contents (Elt F) → (⟨S32x16, .i32⟩ : BufTy).Contents (Elt F))
noncomputable def op122 : HloOp τ sig (Elt F) := StableHlo.unary main_v98 main_v99 (broadcastInDim S32x16x1 ![0, 1] bcast_S32x16_S32x16x1_0_1 : (⟨S32x16, .i32⟩ : BufTy).Contents (Elt F) → (⟨S32x16x1, .i32⟩ : BufTy).Contents (Elt F))
noncomputable def op123 : HloOp τ sig (Elt F) := StableHlo.unary main_v97 main_v100 (broadcastInDim S32x16x1 ![0, 1] bcast_S32x16_S32x16x1_0_1 : (⟨S32x16, .i32⟩ : BufTy).Contents (Elt F) → (⟨S32x16x1, .i32⟩ : BufTy).Contents (Elt F))
noncomputable def op124 : HloOp τ sig (Elt F) := StableHlo.binary main_v99 main_v100 main_v101 ((fun a b => concatenate S32x16x2 2 [⟨S32x16x1, a⟩, ⟨S32x16x1, b⟩] concatenates_S32x16x1_S32x16x1_S32x16x2_d2) : (⟨S32x16x1, .i32⟩ : BufTy).Contents (Elt F) → (⟨S32x16x1, .i32⟩ : BufTy).Contents (Elt F) → (⟨S32x16x2, .i32⟩ : BufTy).Contents (Elt F))
noncomputable def op125 : HloOp τ sig (Elt F) := StableHlo.unary main_v87 main_v102 (broadcastInDim S32x16 ![0, 1] bcast_S1x16_S32x16_0_1 : (⟨S1x16, .i32⟩ : BufTy).Contents (Elt F) → (⟨S32x16, .i32⟩ : BufTy).Contents (Elt F))
noncomputable def op126 : HloOp τ sig (Elt F) := StableHlo.ternary main_v67 main_v101 main_v102 main_v103 ((fun x i u => Host.scatter scatter_S32x8732_S32x16x2_S32x16_n_01_01_2 (fun _ b => b) x i u) : (⟨S32x8732, .i32⟩ : BufTy).Contents (Elt F) → (⟨S32x16x2, .i32⟩ : BufTy).Contents (Elt F) → (⟨S32x16, .i32⟩ : BufTy).Contents (Elt F) → (⟨S32x8732, .i32⟩ : BufTy).Contents (Elt F))
noncomputable def op127 : HloOp τ sig (Elt F) := StableHlo.nullary main_c_11 (constantI S_ 32 0#32)
noncomputable def op128 : HloOp τ sig (Elt F) := StableHlo.unary main_c_11 main_v104 (broadcastInDim S32x1 ![] bcast_S_S32x1 : (⟨S_, .i32⟩ : BufTy).Contents (Elt F) → (⟨S32x1, .i32⟩ : BufTy).Contents (Elt F))
noncomputable def op129 : HloOp τ sig (Elt F) := StableHlo.binary main_v69 main_v104 main_v105 (cmpi .slt : (⟨S32x1, .i32⟩ : BufTy).Contents (Elt F) → (⟨S32x1, .i32⟩ : BufTy).Contents (Elt F) → (⟨S32x1, .i1⟩ : BufTy).Contents (Elt F))
noncomputable def op130 : HloOp τ sig (Elt F) := StableHlo.nullary main_c_12 (constantI S_ 32 32#32)
noncomputable def op131 : HloOp τ sig (Elt F) := StableHlo.unary main_c_12 main_v106 (broadcastInDim S32x1 ![] bcast_S_S32x1 : (⟨S_, .i32⟩ : BufTy).Contents (Elt F) → (⟨S32x1, .i32⟩ : BufTy).Contents (Elt F))
noncomputable def op132 : HloOp τ sig (Elt F) := StableHlo.binary main_v69 main_v106 main_v107 (addi : (⟨S32x1, .i32⟩ : BufTy).Contents (Elt F) → (⟨S32x1, .i32⟩ : BufTy).Contents (Elt F) → (⟨S32x1, .i32⟩ : BufTy).Contents (Elt F))
noncomputable def op133 : HloOp τ sig (Elt F) := StableHlo.ternary main_v105 main_v107 main_v69 main_v108 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F))
noncomputable def op134 : HloOp τ sig (Elt F) := StableHlo.nullary main_c_13 (constantI S_ 32 0#32)
noncomputable def op135 : HloOp τ sig (Elt F) := StableHlo.unary main_c_13 main_v109 (broadcastInDim S32x8732 ![] bcast_S_S32x8732 : (⟨S_, .i32⟩ : BufTy).Contents (Elt F) → (⟨S32x8732, .i32⟩ : BufTy).Contents (Elt F))
noncomputable def op136 : HloOp τ sig (Elt F) := StableHlo.binary main_v103 main_v109 main_v110 (cmpi .slt : (⟨S32x8732, .i32⟩ : BufTy).Contents (Elt F) → (⟨S32x8732, .i32⟩ : BufTy).Contents (Elt F) → (⟨S32x8732, .i1⟩ : BufTy).Contents (Elt F))
noncomputable def op137 : HloOp τ sig (Elt F) := StableHlo.nullary main_c_14 (constantI S_ 32 16#32)
noncomputable def op138 : HloOp τ sig (Elt F) := StableHlo.unary main_c_14 main_v111 (broadcastInDim S32x8732 ![] bcast_S_S32x8732 : (⟨S_, .i32⟩ : BufTy).Contents (Elt F) → (⟨S32x8732, .i32⟩ : BufTy).Contents (Elt F))
noncomputable def op139 : HloOp τ sig (Elt F) := StableHlo.binary main_v103 main_v111 main_v112 (addi : (⟨S32x8732, .i32⟩ : BufTy).Contents (Elt F) → (⟨S32x8732, .i32⟩ : BufTy).Contents (Elt F) → (⟨S32x8732, .i32⟩ : BufTy).Contents (Elt F))
noncomputable def op140 : HloOp τ sig (Elt F) := StableHlo.ternary main_v110 main_v112 main_v103 main_v113 (select : (⟨S32x8732, .i1⟩ : BufTy).Contents (Elt F) → (⟨S32x8732, .i32⟩ : BufTy).Contents (Elt F) → (⟨S32x8732, .i32⟩ : BufTy).Contents (Elt F) → (⟨S32x8732, .i32⟩ : BufTy).Contents (Elt F))
noncomputable def op141 : HloOp τ sig (Elt F) := StableHlo.unary main_v108 main_v114 (broadcastInDim S32x8732 ![0, 1] bcast_S32x1_S32x8732_0_1 : (⟨S32x1, .i32⟩ : BufTy).Contents (Elt F) → (⟨S32x8732, .i32⟩ : BufTy).Contents (Elt F))
noncomputable def op142 : HloOp τ sig (Elt F) := StableHlo.unary main_v114 main_v115 (broadcastInDim S32x8732x1 ![0, 1] bcast_S32x8732_S32x8732x1_0_1 : (⟨S32x8732, .i32⟩ : BufTy).Contents (Elt F) → (⟨S32x8732x1, .i32⟩ : BufTy).Contents (Elt F))
noncomputable def op143 : HloOp τ sig (Elt F) := StableHlo.unary main_v113 main_v116 (broadcastInDim S32x8732x1 ![0, 1] bcast_S32x8732_S32x8732x1_0_1 : (⟨S32x8732, .i32⟩ : BufTy).Contents (Elt F) → (⟨S32x8732x1, .i32⟩ : BufTy).Contents (Elt F))
noncomputable def op144 : HloOp τ sig (Elt F) := StableHlo.binary main_v115 main_v116 main_v117 ((fun a b => concatenate S32x8732x2 2 [⟨S32x8732x1, a⟩, ⟨S32x8732x1, b⟩] concatenates_S32x8732x1_S32x8732x1_S32x8732x2_d2) : (⟨S32x8732x1, .i32⟩ : BufTy).Contents (Elt F) → (⟨S32x8732x1, .i32⟩ : BufTy).Contents (Elt F) → (⟨S32x8732x2, .i32⟩ : BufTy).Contents (Elt F))
noncomputable def op145 : HloOp τ sig (Elt F) := StableHlo.binary main_v0 main_v117 main_v118 ((fun x i => Host.gather gather_S32x16x4_S32x8732x2_S32x8732x4_2_01_n_n_01_2_114 x i) : (⟨S32x16x4, .f32⟩ : BufTy).Contents (Elt F) → (⟨S32x8732x2, .i32⟩ : BufTy).Contents (Elt F) → (⟨S32x8732x4, .f32⟩ : BufTy).Contents (Elt F))
noncomputable def op146 : HloOp τ sig (Elt F) := StableHlo.nullary main_c_15 (constantI S_ 32 0#32)
noncomputable def op147 : HloOp τ sig (Elt F) := StableHlo.unary main_c_15 main_v119 (broadcastInDim S32x1 ![] bcast_S_S32x1 : (⟨S_, .i32⟩ : BufTy).Contents (Elt F) → (⟨S32x1, .i32⟩ : BufTy).Contents (Elt F))
noncomputable def op148 : HloOp τ sig (Elt F) := StableHlo.binary main_v69 main_v119 main_v120 (cmpi .slt : (⟨S32x1, .i32⟩ : BufTy).Contents (Elt F) → (⟨S32x1, .i32⟩ : BufTy).Contents (Elt F) → (⟨S32x1, .i1⟩ : BufTy).Contents (Elt F))
noncomputable def op149 : HloOp τ sig (Elt F) := StableHlo.nullary main_c_16 (constantI S_ 32 32#32)
noncomputable def op150 : HloOp τ sig (Elt F) := StableHlo.unary main_c_16 main_v121 (broadcastInDim S32x1 ![] bcast_S_S32x1 : (⟨S_, .i32⟩ : BufTy).Contents (Elt F) → (⟨S32x1, .i32⟩ : BufTy).Contents (Elt F))
noncomputable def op151 : HloOp τ sig (Elt F) := StableHlo.binary main_v69 main_v121 main_v122 (addi : (⟨S32x1, .i32⟩ : BufTy).Contents (Elt F) → (⟨S32x1, .i32⟩ : BufTy).Contents (Elt F) → (⟨S32x1, .i32⟩ : BufTy).Contents (Elt F))
noncomputable def op152 : HloOp τ sig (Elt F) := StableHlo.ternary main_v120 main_v122 main_v69 main_v123 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F))
noncomputable def op153 : HloOp τ sig (Elt F) := StableHlo.nullary main_c_17 (constantI S_ 32 0#32)
noncomputable def op154 : HloOp τ sig (Elt F) := StableHlo.unary main_c_17 main_v124 (broadcastInDim S32x8732 ![] bcast_S_S32x8732 : (⟨S_, .i32⟩ : BufTy).Contents (Elt F) → (⟨S32x8732, .i32⟩ : BufTy).Contents (Elt F))
noncomputable def op155 : HloOp τ sig (Elt F) := StableHlo.binary main_v103 main_v124 main_v125 (cmpi .slt : (⟨S32x8732, .i32⟩ : BufTy).Contents (Elt F) → (⟨S32x8732, .i32⟩ : BufTy).Contents (Elt F) → (⟨S32x8732, .i1⟩ : BufTy).Contents (Elt F))
noncomputable def op156 : HloOp τ sig (Elt F) := StableHlo.nullary main_c_18 (constantI S_ 32 16#32)
noncomputable def op157 : HloOp τ sig (Elt F) := StableHlo.unary main_c_18 main_v126 (broadcastInDim S32x8732 ![] bcast_S_S32x8732 : (⟨S_, .i32⟩ : BufTy).Contents (Elt F) → (⟨S32x8732, .i32⟩ : BufTy).Contents (Elt F))
noncomputable def op158 : HloOp τ sig (Elt F) := StableHlo.binary main_v103 main_v126 main_v127 (addi : (⟨S32x8732, .i32⟩ : BufTy).Contents (Elt F) → (⟨S32x8732, .i32⟩ : BufTy).Contents (Elt F) → (⟨S32x8732, .i32⟩ : BufTy).Contents (Elt F))
noncomputable def op159 : HloOp τ sig (Elt F) := StableHlo.ternary main_v125 main_v127 main_v103 main_v128 (select : (⟨S32x8732, .i1⟩ : BufTy).Contents (Elt F) → (⟨S32x8732, .i32⟩ : BufTy).Contents (Elt F) → (⟨S32x8732, .i32⟩ : BufTy).Contents (Elt F) → (⟨S32x8732, .i32⟩ : BufTy).Contents (Elt F))
noncomputable def op160 : HloOp τ sig (Elt F) := StableHlo.unary main_v123 main_v129 (broadcastInDim S32x8732 ![0, 1] bcast_S32x1_S32x8732_0_1 : (⟨S32x1, .i32⟩ : BufTy).Contents (Elt F) → (⟨S32x8732, .i32⟩ : BufTy).Contents (Elt F))
noncomputable def op161 : HloOp τ sig (Elt F) := StableHlo.unary main_v129 main_v130 (broadcastInDim S32x8732x1 ![0, 1] bcast_S32x8732_S32x8732x1_0_1 : (⟨S32x8732, .i32⟩ : BufTy).Contents (Elt F) → (⟨S32x8732x1, .i32⟩ : BufTy).Contents (Elt F))
noncomputable def op162 : HloOp τ sig (Elt F) := StableHlo.unary main_v128 main_v131 (broadcastInDim S32x8732x1 ![0, 1] bcast_S32x8732_S32x8732x1_0_1 : (⟨S32x8732, .i32⟩ : BufTy).Contents (Elt F) → (⟨S32x8732x1, .i32⟩ : BufTy).Contents (Elt F))
noncomputable def op163 : HloOp τ sig (Elt F) := StableHlo.binary main_v130 main_v131 main_v132 ((fun a b => concatenate S32x8732x2 2 [⟨S32x8732x1, a⟩, ⟨S32x8732x1, b⟩] concatenates_S32x8732x1_S32x8732x1_S32x8732x2_d2) : (⟨S32x8732x1, .i32⟩ : BufTy).Contents (Elt F) → (⟨S32x8732x1, .i32⟩ : BufTy).Contents (Elt F) → (⟨S32x8732x2, .i32⟩ : BufTy).Contents (Elt F))
noncomputable def op164 : HloOp τ sig (Elt F) := StableHlo.binary main_v3 main_v132 main_v133 ((fun x i => Host.gather gather_S32x16_S32x8732x2_S32x8732_n_01_n_n_01_2_11 x i) : (⟨S32x16, .i32⟩ : BufTy).Contents (Elt F) → (⟨S32x8732x2, .i32⟩ : BufTy).Contents (Elt F) → (⟨S32x8732, .i32⟩ : BufTy).Contents (Elt F))
noncomputable def op165 : HloOp τ sig (Elt F) := StableHlo.nullary main_cst_19 (constant S_ .f32 0x3F000000#32)
noncomputable def op166 : HloOp τ sig (Elt F) := StableHlo.unary main_cst_19 main_v134 (broadcastInDim S32x8732 ![] bcast_S_S32x8732 : (⟨S_, .f32⟩ : BufTy).Contents (Elt F) → (⟨S32x8732, .f32⟩ : BufTy).Contents (Elt F))
noncomputable def op167 : HloOp τ sig (Elt F) := StableHlo.binary main_v85 main_v134 main_v135 (cmpf .olt : (⟨S32x8732, .f32⟩ : BufTy).Contents (Elt F) → (⟨S32x8732, .f32⟩ : BufTy).Contents (Elt F) → (⟨S32x8732, .i1⟩ : BufTy).Contents (Elt F))
noncomputable def op168 : HloOp τ sig (Elt F) := StableHlo.nullary main_c_20 (constantI S_ 32 0#32)
noncomputable def op169 : HloOp τ sig (Elt F) := StableHlo.unary main_c_20 main_call3_v0 (id : (⟨S_, .i32⟩ : BufTy).Contents (Elt F) → (⟨S_, .i32⟩ : BufTy).Contents (Elt F))
noncomputable def op170 : HloOp τ sig (Elt F) := StableHlo.unary main_call3_v0 main_call3_v1 ((broadcastInDim S32x8732 ![] bcast_S_S32x8732) : (⟨S_, .i32⟩ : BufTy).Contents (Elt F) → (⟨S32x8732, .i32⟩ : BufTy).Contents (Elt F))
noncomputable def op171 : HloOp τ sig (Elt F) := StableHlo.ternary main_v135 main_call3_v1 main_v133 main_v136 (select : (⟨S32x8732, .i1⟩ : BufTy).Contents (Elt F) → (⟨S32x8732, .i32⟩ : BufTy).Contents (Elt F) → (⟨S32x8732, .i32⟩ : BufTy).Contents (Elt F) → (⟨S32x8732, .i32⟩ : BufTy).Contents (Elt F))
noncomputable def op172 : HloOp τ sig (Elt F) := StableHlo.unary main_v118 main_v137 ((extractStridedSlice S32x8732x2 ![0, 0, 0] · slices_S32x8732x4_S32x8732x2_0_0_0) : (⟨S32x8732x4, .f32⟩ : BufTy).Contents (Elt F) → (⟨S32x8732x2, .f32⟩ : BufTy).Contents (Elt F))
noncomputable def op173 : HloOp τ sig (Elt F) := StableHlo.unary main_v118 main_v138 ((extractStridedSlice S32x8732x2 ![0, 0, 2] · slices_S32x8732x4_S32x8732x2_0_0_2) : (⟨S32x8732x4, .f32⟩ : BufTy).Contents (Elt F) → (⟨S32x8732x2, .f32⟩ : BufTy).Contents (Elt F))
noncomputable def op174 : HloOp τ sig (Elt F) := StableHlo.binary main_v137 main_v138 main_v139 (addf : (⟨S32x8732x2, .f32⟩ : BufTy).Contents (Elt F) → (⟨S32x8732x2, .f32⟩ : BufTy).Contents (Elt F) → (⟨S32x8732x2, .f32⟩ : BufTy).Contents (Elt F))
noncomputable def op175 : HloOp τ sig (Elt F) := StableHlo.nullary main_cst_21 (constant S_ .f32 0x40000000#32)
noncomputable def op176 : HloOp τ sig (Elt F) := StableHlo.unary main_cst_21 main_v140 (broadcastInDim S32x8732x2 ![] bcast_S_S32x8732x2 : (⟨S_, .f32⟩ : BufTy).Contents (Elt F) → (⟨S32x8732x2, .f32⟩ : BufTy).Contents (Elt F))
noncomputable def op177 : HloOp τ sig (Elt F) := StableHlo.binary main_v139 main_v140 main_v141 (Host.divf : (⟨S32x8732x2, .f32⟩ : BufTy).Contents (Elt F) → (⟨S32x8732x2, .f32⟩ : BufTy).Contents (Elt F) → (⟨S32x8732x2, .f32⟩ : BufTy).Contents (Elt F))
noncomputable def op178 : HloOp τ sig (Elt F) := StableHlo.unary main_arg2 main_v142 ((extractStridedSlice S8732x2 ![0, 0] · slices_S8732x4_S8732x2_0_0) : (⟨S8732x4, .f32⟩ : BufTy).Contents (Elt F) → (⟨S8732x2, .f32⟩ : BufTy).Contents (Elt F))
noncomputable def op179 : HloOp τ sig (Elt F) := StableHlo.unary main_v142 main_v143 (broadcastInDim S1x8732x2 ![1, 2] bcast_S8732x2_S1x8732x2_1_2 : (⟨S8732x2, .f32⟩ : BufTy).Contents (Elt F) → (⟨S1x8732x2, .f32⟩ : BufTy).Contents (Elt F))
noncomputable def op180 : HloOp τ sig (Elt F) := StableHlo.unary main_v143 main_v144 (broadcastInDim S32x8732x2 ![0, 1, 2] bcast_S1x8732x2_S32x8732x2_0_1_2 : (⟨S1x8732x2, .f32⟩ : BufTy).Contents (Elt F) → (⟨S32x8732x2, .f32⟩ : BufTy).Contents (Elt F))
noncomputable def op181 : HloOp τ sig (Elt F) := StableHlo.binary main_v141 main_v144 main_v145 (subf : (⟨S32x8732x2, .f32⟩ : BufTy).Contents (Elt F) → (⟨S32x8732x2, .f32⟩ : BufTy).Contents (Elt F) → (⟨S32x8732x2, .f32⟩ : BufTy).Contents (Elt F))
noncomputable def op182 : HloOp τ sig (Elt F) := StableHlo.unary main_arg2 main_v146 ((extractStridedSlice S8732x2 ![0, 2] · slices_S8732x4_S8732x2_0_2) : (⟨S8732x4, .f32⟩ : BufTy).Contents (Elt F) → (⟨S8732x2, .f32⟩ : BufTy).Contents (Elt F))
noncomputable def op183 : HloOp τ sig (Elt F) := StableHlo.unary main_v146 main_v147 (broadcastInDim S1x8732x2 ![1, 2] bcast_S8732x2_S1x8732x2_1_2 : (⟨S8732x2, .f32⟩ : BufTy).Contents (Elt F) → (⟨S1x8732x2, .f32⟩ : BufTy).Contents (Elt F))
noncomputable def op184 : HloOp τ sig (Elt F) := StableHlo.nullary main_cst_22 (constant S_ .f32 0x3DCCCCCD#32)
noncomputable def op185 : HloOp τ sig (Elt F) := StableHlo.unary main_cst_22 main_v148 (broadcastInDim S1x8732x2 ![] bcast_S_S1x8732x2 : (⟨S_, .f32⟩ : BufTy).Contents (Elt F) → (⟨S1x8732x2, .f32⟩ : BufTy).Contents (Elt F))
noncomputable def op186 : HloOp τ sig (Elt F) := StableHlo.binary main_v148 main_v147 main_v149 (mulf : (⟨S1x8732x2, .f32⟩ : BufTy).Contents (Elt F) → (⟨S1x8732x2, .f32⟩ : BufTy).Contents (Elt F) → (⟨S1x8732x2, .f32⟩ : BufTy).Contents (Elt F))
noncomputable def op187 : HloOp τ sig (Elt F) := StableHlo.unary main_v149 main_v150 (broadcastInDim S32x8732x2 ![0, 1, 2] bcast_S1x8732x2_S32x8732x2_0_1_2 : (⟨S1x8732x2, .f32⟩ : BufTy).Contents (Elt F) → (⟨S32x8732x2, .f32⟩ : BufTy).Contents (Elt F))
noncomputable def op188 : HloOp τ sig (Elt F) := StableHlo.binary main_v145 main_v150 main_v151 (Host.divf : (⟨S32x8732x2, .f32⟩ : BufTy).Contents (Elt F) → (⟨S32x8732x2, .f32⟩ : BufTy).Contents (Elt F) → (⟨S32x8732x2, .f32⟩ : BufTy).Contents (Elt F))
noncomputable def op189 : HloOp τ sig (Elt F) := StableHlo.unary main_v118 main_v152 ((extractStridedSlice S32x8732x2 ![0, 0, 2] · slices_S32x8732x4_S32x8732x2_0_0_2) : (⟨S32x8732x4, .f32⟩ : BufTy).Contents (Elt F) → (⟨S32x8732x2, .f32⟩ : BufTy).Contents (Elt F))
noncomputable def op190 : HloOp τ sig (Elt F) := StableHlo.unary main_v118 main_v153 ((extractStridedSlice S32x8732x2 ![0, 0, 0] · slices_S32x8732x4_S32x8732x2_0_0_0) : (⟨S32x8732x4, .f32⟩ : BufTy).Contents (Elt F) → (⟨S32x8732x2, .f32⟩ : BufTy).Contents (Elt F))
noncomputable def op191 : HloOp τ sig (Elt F) := StableHlo.binary main_v152 main_v153 main_v154 (subf : (⟨S32x8732x2, .f32⟩ : BufTy).Contents (Elt F) → (⟨S32x8732x2, .f32⟩ : BufTy).Contents (Elt F) → (⟨S32x8732x2, .f32⟩ : BufTy).Contents (Elt F))
noncomputable def op192 : HloOp τ sig (Elt F) := StableHlo.unary main_arg2 main_v155 ((extractStridedSlice S8732x2 ![0, 2] · slices_S8732x4_S8732x2_0_2) : (⟨S8732x4, .f32⟩ : BufTy).Contents (Elt F) → (⟨S8732x2, .f32⟩ : BufTy).Contents (Elt F))
noncomputable def op193 : HloOp τ sig (Elt F) := StableHlo.unary main_v155 main_v156 (broadcastInDim S1x8732x2 ![1, 2] bcast_S8732x2_S1x8732x2_1_2 : (⟨S8732x2, .f32⟩ : BufTy).Contents (Elt F) → (⟨S1x8732x2, .f32⟩ : BufTy).Contents (Elt F))
noncomputable def op194 : HloOp τ sig (Elt F) := StableHlo.unary main_v156 main_v157 (broadcastInDim S32x8732x2 ![0, 1, 2] bcast_S1x8732x2_S32x8732x2_0_1_2 : (⟨S1x8732x2, .f32⟩ : BufTy).Contents (Elt F) → (⟨S32x8732x2, .f32⟩ : BufTy).Contents (Elt F))
noncomputable def op195 : HloOp τ sig (Elt F) := StableHlo.binary main_v154 main_v157 main_v158 (Host.divf : (⟨S32x8732x2, .f32⟩ : BufTy).Contents (Elt F) → (⟨S32x8732x2, .f32⟩ : BufTy).Contents (Elt F) → (⟨S32x8732x2, .f32⟩ : BufTy).Contents (Elt F))
noncomputable def op196 : HloOp τ sig (Elt F) := StableHlo.nullary main_cst_23 (constant S_ .f32 0x322BCC77#32)
noncomputable def op197 : HloOp τ sig (Elt F) := StableHlo.unary main_cst_23 main_v159 (broadcastInDim S32x8732x2 ![] bcast_S_S32x8732x2 : (⟨S_, .f32⟩ : BufTy).Contents (Elt F) → (⟨S32x8732x2, .f32⟩ : BufTy).Contents (Elt F))
noncomputable def op198 : HloOp τ sig (Elt F) := StableHlo.binary main_v158 main_v159 main_v160 (maximumf : (⟨S32x8732x2, .f32⟩ : BufTy).Contents (Elt F) → (⟨S32x8732x2, .f32⟩ : BufTy).Contents (Elt F) → (⟨S32x8732x2, .f32⟩ : BufTy).Contents (Elt F))
noncomputable def op199 : HloOp τ sig (Elt F) := StableHlo.unary main_v160 main_v161 (Host.log : (⟨S32x8732x2, .f32⟩ : BufTy).Contents (Elt F) → (⟨S32x8732x2, .f32⟩ : BufTy).Contents (Elt F))
noncomputable def op200 : HloOp τ sig (Elt F) := StableHlo.nullary main_cst_24 (constant S_ .f32 0x3E4CCCCD#32)
noncomputable def op201 : HloOp τ sig (Elt F) := StableHlo.unary main_cst_24 main_v162 (broadcastInDim S32x8732x2 ![] bcast_S_S32x8732x2 : (⟨S_, .f32⟩ : BufTy).Contents (Elt F) → (⟨S32x8732x2, .f32⟩ : BufTy).Contents (Elt F))
noncomputable def op202 : HloOp τ sig (Elt F) := StableHlo.binary main_v161 main_v162 main_v163 (Host.divf : (⟨S32x8732x2, .f32⟩ : BufTy).Contents (Elt F) → (⟨S32x8732x2, .f32⟩ : BufTy).Contents (Elt F) → (⟨S32x8732x2, .f32⟩ : BufTy).Contents (Elt F))
noncomputable def op203 : HloOp τ sig (Elt F) := StableHlo.binary main_v151 main_v163 main_v164 ((fun a b => concatenate S32x8732x4 2 [⟨S32x8732x2, a⟩, ⟨S32x8732x2, b⟩] concatenates_S32x8732x2_S32x8732x2_S32x8732x4_d2) : (⟨S32x8732x2, .f32⟩ : BufTy).Contents (Elt F) → (⟨S32x8732x2, .f32⟩ : BufTy).Contents (Elt F) → (⟨S32x8732x4, .f32⟩ : BufTy).Contents (Elt F))
noncomputable def op204 : HloOp τ sig (Elt F) := StableHlo.nullary main_c_25 (constantI S_ 32 0#32)
noncomputable def op205 : HloOp τ sig (Elt F) := StableHlo.unary main_c_25 main_v165 (broadcastInDim S32x8732 ![] bcast_S_S32x8732 : (⟨S_, .i32⟩ : BufTy).Contents (Elt F) → (⟨S32x8732, .i32⟩ : BufTy).Contents (Elt F))
noncomputable def op206 : HloOp τ sig (Elt F) := StableHlo.binary main_v136 main_v165 main_v166 (cmpi .sgt : (⟨S32x8732, .i32⟩ : BufTy).Contents (Elt F) → (⟨S32x8732, .i32⟩ : BufTy).Contents (Elt F) → (⟨S32x8732, .i1⟩ : BufTy).Contents (Elt F))
noncomputable def op207 : HloOp τ sig (Elt F) := StableHlo.binary main_arg0 main_v164 main_v167 (subf : (⟨S32x8732x4, .f32⟩ : BufTy).Contents (Elt F) → (⟨S32x8732x4, .f32⟩ : BufTy).Contents (Elt F) → (⟨S32x8732x4, .f32⟩ : BufTy).Contents (Elt F))
noncomputable def op208 : HloOp τ sig (Elt F) := StableHlo.unary main_v167 main_v168 (Host.absf : (⟨S32x8732x4, .f32⟩ : BufTy).Contents (Elt F) → (⟨S32x8732x4, .f32⟩ : BufTy).Contents (Elt F))
noncomputable def op209 : HloOp τ sig (Elt F) := StableHlo.nullary main_cst_26 (constant S_ .f32 0x3F800000#32)
noncomputable def op210 : HloOp τ sig (Elt F) := StableHlo.unary main_cst_26 main_v169 (broadcastInDim S32x8732x4 ![] bcast_S_S32x8732x4 : (⟨S_, .f32⟩ : BufTy).Contents (Elt F) → (⟨S32x8732x4, .f32⟩ : BufTy).Contents (Elt F))
noncomputable def op211 : HloOp τ sig (Elt F) := StableHlo.binary main_v168 main_v169 main_v170 (cmpf .olt : (⟨S32x8732x4, .f32⟩ : BufTy).Contents (Elt F) → (⟨S32x8732x4, .f32⟩ : BufTy).Contents (Elt F) → (⟨S32x8732x4, .i1⟩ : BufTy).Contents (Elt F))
noncomputable def op212 : HloOp τ sig (Elt F) := StableHlo.nullary main_cst_27 (constant S_ .f32 0x3F000000#32)
noncomputable def op213 : HloOp τ sig (Elt F) := StableHlo.unary main_cst_27 main_v171 (broadcastInDim S32x8732x4 ![] bcast_S_S32x8732x4 : (⟨S_, .f32⟩ : BufTy).Contents (Elt F) → (⟨S32x8732x4, .f32⟩ : BufTy).Contents (Elt F))
noncomputable def op214 : HloOp τ sig (Elt F) := StableHlo.binary main_v171 main_v168 main_v172 (mulf : (⟨S32x8732x4, .f32⟩ : BufTy).Contents (Elt F) → (⟨S32x8732x4, .f32⟩ : BufTy).Contents (Elt F) → (⟨S32x8732x4, .f32⟩ : BufTy).Contents (Elt F))
noncomputable def op215 : HloOp τ sig (Elt F) := StableHlo.binary main_v172 main_v168 main_v173 (mulf : (⟨S32x8732x4, .f32⟩ : BufTy).Contents (Elt F) → (⟨S32x8732x4, .f32⟩ : BufTy).Contents (Elt F) → (⟨S32x8732x4, .f32⟩ : BufTy).Contents (Elt F))
noncomputable def op216 : HloOp τ sig (Elt F) := StableHlo.nullary main_cst_28 (constant S_ .f32 0x3F000000#32)
noncomputable def op217 : HloOp τ sig (Elt F) := StableHlo.unary main_cst_28 main_v174 (broadcastInDim S32x8732x4 ![] bcast_S_S32x8732x4 : (⟨S_, .f32⟩ : BufTy).Contents (Elt F) → (⟨S32x8732x4, .f32⟩ : BufTy).Contents (Elt F))
noncomputable def op218 : HloOp τ sig (Elt F) := StableHlo.binary main_v168 main_v174 main_v175 (subf : (⟨S32x8732x4, .f32⟩ : BufTy).Contents (Elt F) → (⟨S32x8732x4, .f32⟩ : BufTy).Contents (Elt F) → (⟨S32x8732x4, .f32⟩ : BufTy).Contents (Elt F))
noncomputable def op219 : HloOp τ sig (Elt F) := StableHlo.ternary main_v170 main_v173 main_v175 main_v176 (select : (⟨S32x8732x4, .i1⟩ : BufTy).Contents (Elt F) → (⟨S32x8732x4, .f32⟩ : BufTy).Contents (Elt F) → (⟨S32x8732x4, .f32⟩ : BufTy).Contents (Elt F) → (⟨S32x8732x4, .f32⟩ : BufTy).Contents (Elt F))
noncomputable def op220 : HloOp τ sig (Elt F) := StableHlo.unary main_v166 main_v177 (broadcastInDim S32x8732x1 ![0, 1] bcast_S32x8732_S32x8732x1_0_1 : (⟨S32x8732, .i1⟩ : BufTy).Contents (Elt F) → (⟨S32x8732x1, .i1⟩ : BufTy).Contents (Elt F))
noncomputable def op221 : HloOp τ sig (Elt F) := StableHlo.nullary main_cst_29 (constant S_ .f32 0x00000000#32)
noncomputable def op222 : HloOp τ sig (Elt F) := StableHlo.unary main_cst_29 main_call5_v0 (id : (⟨S_, .f32⟩ : BufTy).Contents (Elt F) → (⟨S_, .f32⟩ : BufTy).Contents (Elt F))
noncomputable def op223 : HloOp τ sig (Elt F) := StableHlo.unary main_v177 main_call5_v1 ((broadcastInDim S32x8732x4 ![0, 1, 2] bcast_S32x8732x1_S32x8732x4_0_1_2) : (⟨S32x8732x1, .i1⟩ : BufTy).Contents (Elt F) → (⟨S32x8732x4, .i1⟩ : BufTy).Contents (Elt F))
noncomputable def op224 : HloOp τ sig (Elt F) := StableHlo.unary main_call5_v0 main_call5_v2 ((broadcastInDim S32x8732x4 ![] bcast_S_S32x8732x4) : (⟨S_, .f32⟩ : BufTy).Contents (Elt F) → (⟨S32x8732x4, .f32⟩ : BufTy).Contents (Elt F))
noncomputable def op225 : HloOp τ sig (Elt F) := StableHlo.ternary main_call5_v1 main_v176 main_call5_v2 main_v178 (select : (⟨S32x8732x4, .i1⟩ : BufTy).Contents (Elt F) → (⟨S32x8732x4, .f32⟩ : BufTy).Contents (Elt F) → (⟨S32x8732x4, .f32⟩ : BufTy).Contents (Elt F) → (⟨S32x8732x4, .f32⟩ : BufTy).Contents (Elt F))
noncomputable def op226 : HloOp τ sig (Elt F) := StableHlo.nullary main_cst_30 (constant S_ .f32 0x00000000#32)
noncomputable def op227 : HloOp τ sig (Elt F) := StableHlo.binary main_v178 main_cst_30 main_v179 ((fun x v => Host.reduceAdd x v reducesTo_S32x8732x4_S_d0_1_2 h_S_) : (⟨S32x8732x4, .f32⟩ : BufTy).Contents (Elt F) → (⟨S_, .f32⟩ : BufTy).Contents (Elt F) → (⟨S_, .f32⟩ : BufTy).Contents (Elt F))
noncomputable def op228 : HloOp τ sig (Elt F) := StableHlo.nullary main_cst_31 (constant S_ .f32 0xFF800000#32)
noncomputable def op229 : HloOp τ sig (Elt F) := StableHlo.binary main_arg1 main_cst_31 main_v180 ((fun x v => Host.reduce FloatOps.maximumf x v reducesTo_S32x8732x21_S32x8732_d2 h_S_) : (⟨S32x8732x21, .f32⟩ : BufTy).Contents (Elt F) → (⟨S_, .f32⟩ : BufTy).Contents (Elt F) → (⟨S32x8732, .f32⟩ : BufTy).Contents (Elt F))
noncomputable def op230 : HloOp τ sig (Elt F) := StableHlo.unary main_v180 main_v181 (broadcastInDim S32x8732x1 ![0, 1] bcast_S32x8732_S32x8732x1_0_1 : (⟨S32x8732, .f32⟩ : BufTy).Contents (Elt F) → (⟨S32x8732x1, .f32⟩ : BufTy).Contents (Elt F))
noncomputable def op231 : HloOp τ sig (Elt F) := StableHlo.unary main_v181 main_v182 (Host.absf : (⟨S32x8732x1, .f32⟩ : BufTy).Contents (Elt F) → (⟨S32x8732x1, .f32⟩ : BufTy).Contents (Elt F))
noncomputable def op232 : HloOp τ sig (Elt F) := StableHlo.nullary main_cst_32 (constant S_ .f32 0x7F800000#32)
noncomputable def op233 : HloOp τ sig (Elt F) := StableHlo.unary main_cst_32 main_v183 (broadcastInDim S32x8732x1 ![] bcast_S_S32x8732x1 : (⟨S_, .f32⟩ : BufTy).Contents (Elt F) → (⟨S32x8732x1, .f32⟩ : BufTy).Contents (Elt F))
noncomputable def op234 : HloOp τ sig (Elt F) := StableHlo.binary main_v182 main_v183 main_v184 (cmpf .olt : (⟨S32x8732x1, .f32⟩ : BufTy).Contents (Elt F) → (⟨S32x8732x1, .f32⟩ : BufTy).Contents (Elt F) → (⟨S32x8732x1, .i1⟩ : BufTy).Contents (Elt F))
noncomputable def op235 : HloOp τ sig (Elt F) := StableHlo.nullary main_cst_33 (constant S_ .f32 0x00000000#32)
noncomputable def op236 : HloOp τ sig (Elt F) := StableHlo.unary main_cst_33 main_call6_v0 (id : (⟨S_, .f32⟩ : BufTy).Contents (Elt F) → (⟨S_, .f32⟩ : BufTy).Contents (Elt F))
noncomputable def op237 : HloOp τ sig (Elt F) := StableHlo.unary main_call6_v0 main_call6_v1 ((broadcastInDim S32x8732x1 ![] bcast_S_S32x8732x1) : (⟨S_, .f32⟩ : BufTy).Contents (Elt F) → (⟨S32x8732x1, .f32⟩ : BufTy).Contents (Elt F))
noncomputable def op238 : HloOp τ sig (Elt F) := StableHlo.ternary main_v184 main_v181 main_call6_v1 main_v185 (select : (⟨S32x8732x1, .i1⟩ : BufTy).Contents (Elt F) → (⟨S32x8732x1, .f32⟩ : BufTy).Contents (Elt F) → (⟨S32x8732x1, .f32⟩ : BufTy).Contents (Elt F) → (⟨S32x8732x1, .f32⟩ : BufTy).Contents (Elt F))
noncomputable def op239 : HloOp τ sig (Elt F) := StableHlo.unary main_v185 main_v186 (broadcastInDim S32x8732x21 ![0, 1, 2] bcast_S32x8732x1_S32x8732x21_0_1_2 : (⟨S32x8732x1, .f32⟩ : BufTy).Contents (Elt F) → (⟨S32x8732x21, .f32⟩ : BufTy).Contents (Elt F))
noncomputable def op240 : HloOp τ sig (Elt F) := StableHlo.binary main_arg1 main_v186 main_v187 (subf : (⟨S32x8732x21, .f32⟩ : BufTy).Contents (Elt F) → (⟨S32x8732x21, .f32⟩ : BufTy).Contents (Elt F) → (⟨S32x8732x21, .f32⟩ : BufTy).Contents (Elt F))
noncomputable def op241 : HloOp τ sig (Elt F) := StableHlo.unary main_v187 main_v188 (Host.exp : (⟨S32x8732x21, .f32⟩ : BufTy).Contents (Elt F) → (⟨S32x8732x21, .f32⟩ : BufTy).Contents (Elt F))
noncomputable def op242 : HloOp τ sig (Elt F) := StableHlo.nullary main_cst_34 (constant S_ .f32 0x00000000#32)
noncomputable def op243 : HloOp τ sig (Elt F) := StableHlo.binary main_v188 main_cst_34 main_v189 ((fun x v => Host.reduceAdd x v reducesTo_S32x8732x21_S32x8732_d2 h_S_) : (⟨S32x8732x21, .f32⟩ : BufTy).Contents (Elt F) → (⟨S_, .f32⟩ : BufTy).Contents (Elt F) → (⟨S32x8732, .f32⟩ : BufTy).Contents (Elt F))
noncomputable def op244 : HloOp τ sig (Elt F) := StableHlo.unary main_v189 main_v190 (broadcastInDim S32x8732x1 ![0, 1] bcast_S32x8732_S32x8732x1_0_1 : (⟨S32x8732, .f32⟩ : BufTy).Contents (Elt F) → (⟨S32x8732x1, .f32⟩ : BufTy).Contents (Elt F))
noncomputable def op245 : HloOp τ sig (Elt F) := StableHlo.unary main_v190 main_v191 (Host.log : (⟨S32x8732x1, .f32⟩ : BufTy).Contents (Elt F) → (⟨S32x8732x1, .f32⟩ : BufTy).Contents (Elt F))
noncomputable def op246 : HloOp τ sig (Elt F) := StableHlo.binary main_v191 main_v185 main_v192 (addf : (⟨S32x8732x1, .f32⟩ : BufTy).Contents (Elt F) → (⟨S32x8732x1, .f32⟩ : BufTy).Contents (Elt F) → (⟨S32x8732x1, .f32⟩ : BufTy).Contents (Elt F))
noncomputable def op247 : HloOp τ sig (Elt F) := StableHlo.reshape main_v192 main_v193 (rfl : (.f32 : EltTy) = .f32) shapeCasts_S32x8732x1_S32x8732
noncomputable def op248 : HloOp τ sig (Elt F) := StableHlo.unary main_v136 main_v194 (broadcastInDim S32x8732x1 ![0, 1] bcast_S32x8732_S32x8732x1_0_1 : (⟨S32x8732, .i32⟩ : BufTy).Contents (Elt F) → (⟨S32x8732x1, .i32⟩ : BufTy).Contents (Elt F))
noncomputable def op249 : HloOp τ sig (Elt F) := StableHlo.nullary main_call7_c ((constantI S_ 32 0#32) : (⟨S_, .i32⟩ : BufTy).Contents (Elt F))
noncomputable def op250 : HloOp τ sig (Elt F) := StableHlo.unary main_call7_c main_call7_v0 ((broadcastInDim S32x8732x1 ![] bcast_S_S32x8732x1) : (⟨S_, .i32⟩ : BufTy).Contents (Elt F) → (⟨S32x8732x1, .i32⟩ : BufTy).Contents (Elt F))
noncomputable def op251 : HloOp τ sig (Elt F) := StableHlo.binary main_v194 main_call7_v0 main_call7_v1 ((cmpi .slt) : (⟨S32x8732x1, .i32⟩ : BufTy).Contents (Elt F) → (⟨S32x8732x1, .i32⟩ : BufTy).Contents (Elt F) → (⟨S32x8732x1, .i1⟩ : BufTy).Contents (Elt F))
noncomputable def op252 : HloOp τ sig (Elt F) := StableHlo.nullary main_call7_c_0 ((constantI S_ 32 21#32) : (⟨S_, .i32⟩ : BufTy).Contents (Elt F))
noncomputable def op253 : HloOp τ sig (Elt F) := StableHlo.unary main_call7_c_0 main_call7_v2 ((broadcastInDim S32x8732x1 ![] bcast_S_S32x8732x1) : (⟨S_, .i32⟩ : BufTy).Contents (Elt F) → (⟨S32x8732x1, .i32⟩ : BufTy).Contents (Elt F))
noncomputable def op254 : HloOp τ sig (Elt F) := StableHlo.binary main_v194 main_call7_v2 main_call7_v3 (addi : (⟨S32x8732x1, .i32⟩ : BufTy).Contents (Elt F) → (⟨S32x8732x1, .i32⟩ : BufTy).Contents (Elt F) → (⟨S32x8732x1, .i32⟩ : BufTy).Contents (Elt F))
noncomputable def op255 : HloOp τ sig (Elt F) := StableHlo.ternary main_call7_v1 main_call7_v3 main_v194 main_call7_v4 (select : (⟨S32x8732x1, .i1⟩ : BufTy).Contents (Elt F) → (⟨S32x8732x1, .i32⟩ : BufTy).Contents (Elt F) → (⟨S32x8732x1, .i32⟩ : BufTy).Contents (Elt F) → (⟨S32x8732x1, .i32⟩ : BufTy).Contents (Elt F))
noncomputable def op256 : HloOp τ sig (Elt F) := StableHlo.reshape main_call7_v4 main_call7_v5 (rfl : (.i32 : EltTy) = .i32) shapeCasts_S32x8732x1_S32x8732x1x1
noncomputable def op257 : HloOp τ sig (Elt F) := StableHlo.nullary main_call7_c_1 ((constantI S1 32 20#32) : (⟨S1, .i32⟩ : BufTy).Contents (Elt F))
noncomputable def op258 : HloOp τ sig (Elt F) := StableHlo.nullary main_call7_c_2 ((constantI S_ 32 0#32) : (⟨S_, .i32⟩ : BufTy).Contents (Elt F))
noncomputable def op259 : HloOp τ sig (Elt F) := StableHlo.unary main_call7_c_2 main_call7_v6 ((broadcastInDim S32x8732x1x1 ![] bcast_S_S32x8732x1x1) : (⟨S_, .i32⟩ : BufTy).Contents (Elt F) → (⟨S32x8732x1x1, .i32⟩ : BufTy).Contents (Elt F))
noncomputable def op260 : HloOp τ sig (Elt F) := StableHlo.binary main_call7_v5 main_call7_v6 main_call7_v7 ((cmpi .sge) : (⟨S32x8732x1x1, .i32⟩ : BufTy).Contents (Elt F) → (⟨S32x8732x1x1, .i32⟩ : BufTy).Contents (Elt F) → (⟨S32x8732x1x1, .i1⟩ : BufTy).Contents (Elt F))
noncomputable def op261 : HloOp τ sig (Elt F) := StableHlo.unary main_call7_c_1 main_call7_v8 ((broadcastInDim S1x1x1x1 ![3] bcast_S1_S1x1x1x1_3) : (⟨S1, .i32⟩ : BufTy).Contents (Elt F) → (⟨S1x1x1x1, .i32⟩ : BufTy).Contents (Elt F))
noncomputable def op262 : HloOp τ sig (Elt F) := StableHlo.unary main_call7_v8 main_call7_v9 ((broadcastInDim S32x8732x1x1 ![0, 1, 2, 3] bcast_S1x1x1x1_S32x8732x1x1_0_1_2_3) : (⟨S1x1x1x1, .i32⟩ : BufTy).Contents (Elt F) → (⟨S32x8732x1x1, .i32⟩ : BufTy).Contents (Elt F))
noncomputable def op263 : HloOp τ sig (Elt F) := StableHlo.binary main_call7_v5 main_call7_v9 main_call7_v10 ((cmpi .sle) : (⟨S32x8732x1x1, .i32⟩ : BufTy).Contents (Elt F) → (⟨S32x8732x1x1, .i32⟩ : BufTy).Contents (Elt F) → (⟨S32x8732x1x1, .i1⟩ : BufTy).Contents (Elt F))
noncomputable def op264 : HloOp τ sig (Elt F) := StableHlo.binary main_call7_v7 main_call7_v10 main_call7_v11 (andi : (⟨S32x8732x1x1, .i1⟩ : BufTy).Contents (Elt F) → (⟨S32x8732x1x1, .i1⟩ : BufTy).Contents (Elt F) → (⟨S32x8732x1x1, .i1⟩ : BufTy).Contents (Elt F))
noncomputable def op265 : HloOp τ sig (Elt F) := StableHlo.nullary main_call7_c_3 ((constantI S_ 1 1#1) : (⟨S_, .i1⟩ : BufTy).Contents (Elt F))
noncomputable def op266 : HloOp τ sig (Elt F) := StableHlo.binary main_call7_v11 main_call7_c_3 main_call7_v12 ((fun x v => Host.reduce IntOp.andi x v reducesTo_S32x8732x1x1_S32x8732x1_d3 h_S_) : (⟨S32x8732x1x1, .i1⟩ : BufTy).Contents (Elt F) → (⟨S_, .i1⟩ : BufTy).Contents (Elt F) → (⟨S32x8732x1, .i1⟩ : BufTy).Contents (Elt F))
noncomputable def op267 : HloOp τ sig (Elt F) := StableHlo.binary main_arg1 main_call7_v5 main_call7_v13 ((fun x i => Host.gather gather_S32x8732x21_S32x8732x1x1_S32x8732x1_n_2_01_01_2_3_111 x i) : (⟨S32x8732x21, .f32⟩ : BufTy).Contents (Elt F) → (⟨S32x8732x1x1, .i32⟩ : BufTy).Contents (Elt F) → (⟨S32x8732x1, .f32⟩ : BufTy).Contents (Elt F))
noncomputable def op268 : HloOp τ sig (Elt F) := StableHlo.nullary main_call7_cst ((constant S_ .f32 0x7FC00000#32) : (⟨S_, .f32⟩ : BufTy).Contents (Elt F))
noncomputable def op269 : HloOp τ sig (Elt F) := StableHlo.unary main_call7_cst main_call7_v14 ((broadcastInDim S32x8732x1 ![] bcast_S_S32x8732x1) : (⟨S_, .f32⟩ : BufTy).Contents (Elt F) → (⟨S32x8732x1, .f32⟩ : BufTy).Contents (Elt F))
noncomputable def op270 : HloOp τ sig (Elt F) := StableHlo.ternary main_call7_v12 main_call7_v13 main_call7_v14 main_v195 (select : (⟨S32x8732x1, .i1⟩ : BufTy).Contents (Elt F) → (⟨S32x8732x1, .f32⟩ : BufTy).Contents (Elt F) → (⟨S32x8732x1, .f32⟩ : BufTy).Contents (Elt F) → (⟨S32x8732x1, .f32⟩ : BufTy).Contents (Elt F))
noncomputable def op271 : HloOp τ sig (Elt F) := StableHlo.reshape main_v195 main_v196 (rfl : (.f32 : EltTy) = .f32) shapeCasts_S32x8732x1_S32x8732
noncomputable def op272 : HloOp τ sig (Elt F) := StableHlo.binary main_v193 main_v196 main_v197 (subf : (⟨S32x8732, .f32⟩ : BufTy).Contents (Elt F) → (⟨S32x8732, .f32⟩ : BufTy).Contents (Elt F) → (⟨S32x8732, .f32⟩ : BufTy).Contents (Elt F))
noncomputable def op273 : HloOp τ sig (Elt F) := StableHlo.nullary main_cst_35 (constant S_ .f32 0x00000000#32)
noncomputable def op274 : HloOp τ sig (Elt F) := StableHlo.unary main_cst_35 main_call8_v0 (id : (⟨S_, .f32⟩ : BufTy).Contents (Elt F) → (⟨S_, .f32⟩ : BufTy).Contents (Elt F))
noncomputable def op275 : HloOp τ sig (Elt F) := StableHlo.unary main_call8_v0 main_call8_v1 ((broadcastInDim S32x8732 ![] bcast_S_S32x8732) : (⟨S_, .f32⟩ : BufTy).Contents (Elt F) → (⟨S32x8732, .f32⟩ : BufTy).Contents (Elt F))
noncomputable def op276 : HloOp τ sig (Elt F) := StableHlo.ternary main_v166 main_call8_v1 main_v197 main_v198 (select : (⟨S32x8732, .i1⟩ : BufTy).Contents (Elt F) → (⟨S32x8732, .f32⟩ : BufTy).Contents (Elt F) → (⟨S32x8732, .f32⟩ : BufTy).Contents (Elt F) → (⟨S32x8732, .f32⟩ : BufTy).Contents (Elt F))
noncomputable def op277 : HloOp τ sig (Elt F) := StableHlo.unary main_v198 main_v199 (Host.negf : (⟨S32x8732, .f32⟩ : BufTy).Contents (Elt F) → (⟨S32x8732, .f32⟩ : BufTy).Contents (Elt F))
noncomputable def op278 : HloOp τ sig (Elt F) := StableHlo.nullary main_call9_v0 ((iotaInDim S32x8732 32 1) : (⟨S32x8732, .i32⟩ : BufTy).Contents (Elt F))
noncomputable def op279 : HloOp τ sig (Elt F) := StableHlo.binary main_v199 main_call9_v0 main_call9_v1_0 ((fun x y => (Host.sort2 S32x8732 1 comparator_f32_i32_d1 x y).1) : (⟨S32x8732, .f32⟩ : BufTy).Contents (Elt F) → (⟨S32x8732, .i32⟩ : BufTy).Contents (Elt F) → (⟨S32x8732, .f32⟩ : BufTy).Contents (Elt F))
noncomputable def op280 : HloOp τ sig (Elt F) := StableHlo.binary main_v199 main_call9_v0 main_v200 ((fun x y => (Host.sort2 S32x8732 1 comparator_f32_i32_d1 x y).2) : (⟨S32x8732, .f32⟩ : BufTy).Contents (Elt F) → (⟨S32x8732, .i32⟩ : BufTy).Contents (Elt F) → (⟨S32x8732, .i32⟩ : BufTy).Contents (Elt F))
noncomputable def op281 : HloOp τ sig (Elt F) := StableHlo.nullary main_call10_v0 ((iotaInDim S32x8732 32 1) : (⟨S32x8732, .i32⟩ : BufTy).Contents (Elt F))
noncomputable def op282 : HloOp τ sig (Elt F) := StableHlo.binary main_v200 main_call10_v0 main_call10_v1_0 ((fun x y => (Host.sort2 S32x8732 1 comparator_i32_i32_d1 x y).1) : (⟨S32x8732, .i32⟩ : BufTy).Contents (Elt F) → (⟨S32x8732, .i32⟩ : BufTy).Contents (Elt F) → (⟨S32x8732, .i32⟩ : BufTy).Contents (Elt F))
noncomputable def op283 : HloOp τ sig (Elt F) := StableHlo.binary main_v200 main_call10_v0 main_v201 ((fun x y => (Host.sort2 S32x8732 1 comparator_i32_i32_d1 x y).2) : (⟨S32x8732, .i32⟩ : BufTy).Contents (Elt F) → (⟨S32x8732, .i32⟩ : BufTy).Contents (Elt F) → (⟨S32x8732, .i32⟩ : BufTy).Contents (Elt F))
noncomputable def op284 : HloOp τ sig (Elt F) := StableHlo.unary main_v166 main_v202 ((extui 32 · natLt_1_32) : (⟨S32x8732, .i1⟩ : BufTy).Contents (Elt F) → (⟨S32x8732, .i32⟩ : BufTy).Contents (Elt F))
noncomputable def op285 : HloOp τ sig (Elt F) := StableHlo.nullary main_c_36 (constantI S_ 32 0#32)
noncomputable def op286 : HloOp τ sig (Elt F) := StableHlo.binary main_v202 main_c_36 main_v203 ((fun x v => Host.reduce IntOp.addi x v reducesTo_S32x8732_S32_d1 h_S_) : (⟨S32x8732, .i32⟩ : BufTy).Contents (Elt F) → (⟨S_, .i32⟩ : BufTy).Contents (Elt F) → (⟨S32, .i32⟩ : BufTy).Contents (Elt F))
noncomputable def op287 : HloOp τ sig (Elt F) := StableHlo.unary main_v203 main_v204 (broadcastInDim S32x1 ![0] bcast_S32_S32x1_0 : (⟨S32, .i32⟩ : BufTy).Contents (Elt F) → (⟨S32x1, .i32⟩ : BufTy).Contents (Elt F))
noncomputable def op288 : HloOp τ sig (Elt F) := StableHlo.nullary main_c_37 (constantI S_ 32 3#32)
noncomputable def op289 : HloOp τ sig (Elt F) := StableHlo.unary main_c_37 main_v205 (broadcastInDim S32x1 ![] bcast_S_S32x1 : (⟨S_, .i32⟩ : BufTy).Contents (Elt F) → (⟨S32x1, .i32⟩ : BufTy).Contents (Elt F))
noncomputable def op290 : HloOp τ sig (Elt F) := StableHlo.binary main_v205 main_v204 main_v206 (muli : (⟨S32x1, .i32⟩ : BufTy).Contents (Elt F) → (⟨S32x1, .i32⟩ : BufTy).Contents (Elt F) → (⟨S32x1, .i32⟩ : BufTy).Contents (Elt F))
noncomputable def op291 : HloOp τ sig (Elt F) := StableHlo.nullary main_c_38 (constantI S_ 32 8731#32)
noncomputable def op292 : HloOp τ sig (Elt F) := StableHlo.unary main_c_38 main_v207 (broadcastInDim S32x1 ![] bcast_S_S32x1 : (⟨S_, .i32⟩ : BufTy).Contents (Elt F) → (⟨S32x1, .i32⟩ : BufTy).Contents (Elt F))
noncomputable def op293 : HloOp τ sig (Elt F) := StableHlo.binary main_v206 main_v207 main_v208 (minsi : (⟨S32x1, .i32⟩ : BufTy).Contents (Elt F) → (⟨S32x1, .i32⟩ : BufTy).Contents (Elt F) → (⟨S32x1, .i32⟩ : BufTy).Contents (Elt F))
noncomputable def op294 : HloOp τ sig (Elt F) := StableHlo.unary main_v208 main_v209 (broadcastInDim S32x8732 ![0, 1] bcast_S32x1_S32x8732_0_1 : (⟨S32x1, .i32⟩ : BufTy).Contents (Elt F) → (⟨S32x8732, .i32⟩ : BufTy).Contents (Elt F))
noncomputable def op295 : HloOp τ sig (Elt F) := StableHlo.binary main_v201 main_v209 main_v210 (cmpi .slt : (⟨S32x8732, .i32⟩ : BufTy).Contents (Elt F) → (⟨S32x8732, .i32⟩ : BufTy).Contents (Elt F) → (⟨S32x8732, .i1⟩ : BufTy).Contents (Elt F))
noncomputable def op296 : HloOp τ sig (Elt F) := StableHlo.binary main_v166 main_v210 main_v211 (ori : (⟨S32x8732, .i1⟩ : BufTy).Contents (Elt F) → (⟨S32x8732, .i1⟩ : BufTy).Contents (Elt F) → (⟨S32x8732, .i1⟩ : BufTy).Contents (Elt F))
noncomputable def op297 : HloOp τ sig (Elt F) := StableHlo.nullary main_cst_39 (constant S_ .f32 0x00000000#32)
noncomputable def op298 : HloOp τ sig (Elt F) := StableHlo.unary main_cst_39 main_call11_v0 (id : (⟨S_, .f32⟩ : BufTy).Contents (Elt F) → (⟨S_, .f32⟩ : BufTy).Contents (Elt F))
noncomputable def op299 : HloOp τ sig (Elt F) := StableHlo.unary main_call11_v0 main_call11_v1 ((broadcastInDim S32x8732 ![] bcast_S_S32x8732) : (⟨S_, .f32⟩ : BufTy).Contents (Elt F) → (⟨S32x8732, .f32⟩ : BufTy).Contents (Elt F))
noncomputable def op300 : HloOp τ sig (Elt F) := StableHlo.ternary main_v211 main_v197 main_call11_v1 main_v212 (select : (⟨S32x8732, .i1⟩ : BufTy).Contents (Elt F) → (⟨S32x8732, .f32⟩ : BufTy).Contents (Elt F) → (⟨S32x8732, .f32⟩ : BufTy).Contents (Elt F) → (⟨S32x8732, .f32⟩ : BufTy).Contents (Elt F))
noncomputable def op301 : HloOp τ sig (Elt F) := StableHlo.nullary main_cst_40 (constant S_ .f32 0x00000000#32)
noncomputable def op302 : HloOp τ sig (Elt F) := StableHlo.binary main_v212 main_cst_40 main_v213 ((fun x v => Host.reduceAdd x v reducesTo_S32x8732_S_d0_1 h_S_) : (⟨S32x8732, .f32⟩ : BufTy).Contents (Elt F) → (⟨S_, .f32⟩ : BufTy).Contents (Elt F) → (⟨S_, .f32⟩ : BufTy).Contents (Elt F))
noncomputable def op303 : HloOp τ sig (Elt F) := StableHlo.nullary main_c_41 (constantI S_ 32 0#32)
noncomputable def op304 : HloOp τ sig (Elt F) := StableHlo.binary main_v204 main_c_41 main_v214 ((fun x v => Host.reduce IntOp.addi x v reducesTo_S32x1_S_d0_1 h_S_) : (⟨S32x1, .i32⟩ : BufTy).Contents (Elt F) → (⟨S_, .i32⟩ : BufTy).Contents (Elt F) → (⟨S_, .i32⟩ : BufTy).Contents (Elt F))
noncomputable def op305 : HloOp τ sig (Elt F) := StableHlo.unary main_v214 main_v215 (sitofp .f32 : (⟨S_, .i32⟩ : BufTy).Contents (Elt F) → (⟨S_, .f32⟩ : BufTy).Contents (Elt F))
noncomputable def op306 : HloOp τ sig (Elt F) := StableHlo.nullary main_cst_42 (constant S_ .f32 0x3F800000#32)
noncomputable def op307 : HloOp τ sig (Elt F) := StableHlo.binary main_v215 main_cst_42 main_v216 (maximumf : (⟨S_, .f32⟩ : BufTy).Contents (Elt F) → (⟨S_, .f32⟩ : BufTy).Contents (Elt F) → (⟨S_, .f32⟩ : BufTy).Contents (Elt F))
noncomputable def op308 : HloOp τ sig (Elt F) := StableHlo.binary main_v179 main_v216 main_v217 (Host.divf : (⟨S_, .f32⟩ : BufTy).Contents (Elt F) → (⟨S_, .f32⟩ : BufTy).Contents (Elt F) → (⟨S_, .f32⟩ : BufTy).Contents (Elt F))
noncomputable def op309 : HloOp τ sig (Elt F) := StableHlo.binary main_v213 main_v216 main_v218 (Host.divf : (⟨S_, .f32⟩ : BufTy).Contents (Elt F) → (⟨S_, .f32⟩ : BufTy).Contents (Elt F) → (⟨S_, .f32⟩ : BufTy).Contents (Elt F))
noncomputable def op310 : HloOp τ sig (Elt F) := StableHlo.unary main_v217 main_v219 (broadcastInDim S1 ![] bcast_S_S1 : (⟨S_, .f32⟩ : BufTy).Contents (Elt F) → (⟨S1, .f32⟩ : BufTy).Contents (Elt F))
noncomputable def op311 : HloOp τ sig (Elt F) := StableHlo.unary main_v218 main_v220 (broadcastInDim S1 ![] bcast_S_S1 : (⟨S_, .f32⟩ : BufTy).Contents (Elt F) → (⟨S1, .f32⟩ : BufTy).Contents (Elt F))
noncomputable def op312 : HloOp τ sig (Elt F) := StableHlo.binary main_v219 main_v220 main_v221 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F))

/-- The reference's host operations in the order in which its `main` runs them, its calls' bodies in place. -/
noncomputable def ops : List (HloOp τ sig (Elt F)) := [op0, op1, op2, op3, op4, op5, op6, op7, op8, op9, op10, op11, op12, op13, op14, op15, op16, op17, op18, op19, op20, op21, op22, op23, op24, op25, op26, op27, op28, op29, op30, op31, op32, op33, op34, op35, op36, op37, op38, op39, op40, op41, op42, op43, op44, op45, op46, op47, op48, op49, op50, op51, op52, op53, op54, op55, op56, op57, op58, op59, op60, op61, op62, op63, op64, op65, op66, op67, op68, op69, op70, op71, op72, op73, op74, op75, op76, op77, op78, op79, op80, op81, op82, op83, op84, op85, op86, op87, op88, op89, op90, op91, op92, op93, op94, op95, op96, op97, op98, op99, op100, op101, op102, op103, op104, op105, op106, op107, op108, op109, op110, op111, op112, op113, op114, op115, op116, op117, op118, op119, op120, op121, op122, op123, op124, op125, op126, op127, op128, op129, op130, op131, op132, op133, op134, op135, op136, op137, op138, op139, op140, op141, op142, op143, op144, op145, op146, op147, op148, op149, op150, op151, op152, op153, op154, op155, op156, op157, op158, op159, op160, op161, op162, op163, op164, op165, op166, op167, op168, op169, op170, op171, op172, op173, op174, op175, op176, op177, op178, op179, op180, op181, op182, op183, op184, op185, op186, op187, op188, op189, op190, op191, op192, op193, op194, op195, op196, op197, op198, op199, op200, op201, op202, op203, op204, op205, op206, op207, op208, op209, op210, op211, op212, op213, op214, op215, op216, op217, op218, op219, op220, op221, op222, op223, op224, op225, op226, op227, op228, op229, op230, op231, op232, op233, op234, op235, op236, op237, op238, op239, op240, op241, op242, op243, op244, op245, op246, op247, op248, op249, op250, op251, op252, op253, op254, op255, op256, op257, op258, op259, op260, op261, op262, op263, op264, op265, op266, op267, op268, op269, op270, op271, op272, op273, op274, op275, op276, op277, op278, op279, op280, op281, op282, op283, op284, op285, op286, op287, op288, op289, op290, op291, op292, op293, op294, op295, op296, op297, op298, op299, op300, op301, op302, op303, op304, op305, op306, op307, op308, op309, op310, op311, op312]

/-- What the operations write, in order. -/
noncomputable def written : List (Ref sig .tc) := [
  main_v0, main_v1, main_v2, main_v3, main_v4, main_v5, main_cst, main_v6, main_v7, main_v8, main_v9, main_v10, main_cst_0, main_v11, main_v12, main_v13, main_v14, main_v15, main_v16, main_v17, main_v18, main_v19, main_v20, main_v21, main_v22, main_v23, main_v24, main_v25, main_v26, main_v27, main_v28, main_v29, main_cst_1, main_call0_v0, main_call0_v1, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_call1_v0, main_call1_cst, main_call1_c, main_call1_v1_0, main_v65, main_cst_2, main_v66, main_call2_v0, main_call2_cst, main_call2_c, main_call2_v1_0, main_v67, main_v68, main_v69, main_c, main_v70, main_v71, main_c_3, main_v72, main_v73, main_v74, main_c_4, main_v75, main_v76, main_c_5, main_v77, main_v78, main_v79, main_v80, main_v81, main_v82, main_v83, main_cst_6, main_v84, main_v85, main_v86, main_v87, main_c_7, main_v88, main_v89, main_c_8, main_v90, main_v91, main_v92, main_c_9, main_v93, main_v94, main_c_10, main_v95, main_v96, main_v97, main_v98, main_v99, main_v100, main_v101, main_v102, main_v103, main_c_11, main_v104, main_v105, main_c_12, main_v106, main_v107, main_v108, main_c_13, main_v109, main_v110, main_c_14, main_v111, main_v112, main_v113, main_v114, main_v115, main_v116, main_v117, main_v118, main_c_15, main_v119, main_v120, main_c_16, main_v121, main_v122, main_v123, main_c_17, main_v124, main_v125, main_c_18, main_v126, main_v127, main_v128, main_v129, main_v130, main_v131, main_v132, main_v133, main_cst_19, main_v134, main_v135, main_c_20, main_call3_v0, main_call3_v1, main_v136, main_v137, main_v138, main_v139, main_cst_21, main_v140, main_v141, main_v142, main_v143, main_v144, main_v145, main_v146, main_v147, main_cst_22, main_v148, main_v149, main_v150, main_v151, main_v152, main_v153, main_v154, main_v155, main_v156, main_v157, main_v158, main_cst_23, main_v159, main_v160, main_v161, main_cst_24, main_v162, main_v163, main_v164, main_c_25, main_v165, main_v166, main_v167, main_v168, main_cst_26, main_v169, main_v170, main_cst_27, main_v171, main_v172, main_v173, main_cst_28, main_v174, main_v175, main_v176, main_v177, main_cst_29, main_call5_v0, main_call5_v1, main_call5_v2, main_v178, main_cst_30, main_v179, main_cst_31, main_v180, main_v181, main_v182, main_cst_32, main_v183, main_v184, main_cst_33, main_call6_v0, main_call6_v1, main_v185, main_v186, main_v187, main_v188, main_cst_34, main_v189, main_v190, main_v191, main_v192, main_v193, main_v194, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v195, main_v196, main_v197, main_cst_35, main_call8_v0, main_call8_v1, main_v198, main_v199, main_call9_v0, main_call9_v1_0, main_v200, main_call10_v0, main_call10_v1_0, main_v201, main_v202, main_c_36, main_v203, main_v204, main_c_37, main_v205, main_v206, main_c_38, main_v207, main_v208, main_v209, main_v210, main_v211, main_cst_39, main_call11_v0, main_call11_v1, main_v212, main_cst_40, main_v213, main_c_41, main_v214, main_v215, main_cst_42, main_v216, main_v217, main_v218, main_v219, main_v220, main_v221]

set_option maxRecDepth 100000 in
set_option maxHeartbeats 4000000 in
theorem ops_writes : (ops (F := F)).map HloOp.writes = written.map fun w => {Proc.devRef (τ := τ) .tc w} := rfl

set_option maxRecDepth 100000 in
set_option maxHeartbeats 4000000 in
theorem ops_fresh : (ops (F := F)).map HloOp.fresh = (ops (F := F)).map fun _ => (∅ : Finset (DevRef τ sig)) := rfl

end Cert.RefRun
-- ==== Proof.RefVals.lean ====
module

public import proofs.«01_k».proof.Proof.RefOps

@[expose] public section

set_option maxRecDepth 16384

namespace Cert.RefRun

open Idealize.ShloMosaic Idealize.SL.Sem Idealize.ShloMosaic.StableHlo
open Cert.ReferenceIdeal Cert.ReferenceIdeal.Gen

variable {F : FTy → Type} [FloatOps F]

/-- What the line leaves at a reference. -/
noncomputable def val (V : Valuation τ sig (Elt F)) (r : Ref sig .tc) : r.ty.Contents (Elt F) := after ops V (Proc.devRef .tc r)

/-- From position `i` on the line writes only references numbered `4 + i` and up. -/
theorem le_of_mem_drop : ∀ i : Fin 314, ∀ r ∈ written.drop i.val, 4 + i.val ≤ r.idx.val := by decide +kernel

theorem not_mem_drop (i : ℕ) (hi : i < 314) {r : Ref sig .tc} (h : r.idx.val < 4 + i) : r ∉ written.drop i :=
  fun hr => absurd (le_of_mem_drop ⟨i, hi⟩ r hr) (Nat.not_le.2 h)

/-- What an operation at position `i` reads is what the line leaves there: nothing later writes it. -/
theorem upto_val (V : Valuation τ sig (Elt F)) (i : ℕ) (hi : i < 314) (r : Ref sig .tc) (h : r.idx.val < 4 + i) :
    upto ops V i (Proc.devRef .tc r) = val V r := by
  have hs : ops (F := F) = ops.take i ++ ops.drop i := (List.take_append_drop _ _).symm
  have hW : ((ops (F := F)).drop i).map HloOp.writes = (written.drop i).map fun w => {Proc.devRef (τ := τ) .tc w} := by
    rw [List.map_drop, ops_writes, List.map_drop]
  have ha : ∀ (l₁ l₂ : List (HloOp τ sig (Elt F))) (W : Valuation τ sig (Elt F)), after (l₁ ++ l₂) W = after l₂ (after l₁ W) := by
    intro l₁ l₂
    induction l₁ with
    | nil => intro W; rfl
    | cons op l ih => intro W; exact ih _
  unfold val upto
  conv_rhs => rw [hs]
  rw [ha, after_unwritten _ hW (not_mem_drop i hi h)]

/-- A reference holds at the end what its writer left there. -/
theorem val_result (V : Valuation τ sig (Elt F)) (i : ℕ) (hi : i < 313) (op : HloOp τ sig (Elt F)) (hop : (ops (F := F))[i]? = some op)
    (y : Ref sig .tc) (h : y.idx.val < 4 + (i + 1)) :
    val V y = op.result (upto ops V i) (Proc.devRef .tc y) := by
  obtain ⟨hlt, he⟩ := List.getElem?_eq_some_iff.1 hop
  have hseg : (ops (F := F)).drop i = op :: ops.drop (i + 1) := by rw [← he]; exact List.drop_eq_getElem_cons hlt
  have hW : ((ops (F := F)).drop (i + 1)).map HloOp.writes = (written.drop (i + 1)).map fun w => {Proc.devRef (τ := τ) .tc w} := by
    rw [List.map_drop, ops_writes, List.map_drop]
  exact after_last_write _ hseg hW (not_mem_drop (i + 1) (by omega) h) V

theorem val_nullary (V : Valuation τ sig (Elt F)) (i : ℕ) (y : Ref sig .tc) (v) (hy)
    (hop : (ops (F := F))[i]? = some (nullary y v hy)) (hi : i < 313) (h : y.idx.val < 4 + (i + 1)) : val V y = v := by
  rw [val_result V i hi _ hop y h]; exact nullary_result y v hy _

theorem val_unary (V : Valuation τ sig (Elt F)) (i : ℕ) (x y : Ref sig .tc) (f) (hx hy)
    (hop : (ops (F := F))[i]? = some (unary x y f hx hy)) (hi : i < 313) (h : y.idx.val < 4 + (i + 1)) (h1 : x.idx.val < 4 + i) :
    val V y = f (val V x) := by
  rw [val_result V i hi _ hop y h, ← upto_val V i (by omega) x h1]; exact unary_result x y f hx hy _

theorem val_reshape (V : Valuation τ sig (Elt F)) (i : ℕ) (x y : Ref sig .tc) (he hn) (hx hy)
    (hop : (ops (F := F))[i]? = some (reshape x y he hn hx hy)) (hi : i < 313) (h : y.idx.val < 4 + (i + 1)) (h1 : x.idx.val < 4 + i) :
    val V y = fun j => he ▸ shapeCast y.ty.shape (val V x) hn j := by
  rw [val_result V i hi _ hop y h, ← upto_val V i (by omega) x h1]; exact reshape_result x y he hn hx hy _

theorem val_binary (V : Valuation τ sig (Elt F)) (i : ℕ) (a b y : Ref sig .tc) (f) (ha hb hy)
    (hop : (ops (F := F))[i]? = some (binary a b y f ha hb hy)) (hi : i < 313) (h : y.idx.val < 4 + (i + 1)) (h1 : a.idx.val < 4 + i)
    (h2 : b.idx.val < 4 + i) : val V y = f (val V a) (val V b) := by
  rw [val_result V i hi _ hop y h, ← upto_val V i (by omega) a h1, ← upto_val V i (by omega) b h2]; exact binary_result a b y f ha hb hy _

theorem val_ternary (V : Valuation τ sig (Elt F)) (i : ℕ) (a b c y : Ref sig .tc) (f) (ha hb hc hy)
    (hop : (ops (F := F))[i]? = some (ternary a b c y f ha hb hc hy)) (hi : i < 313) (h : y.idx.val < 4 + (i + 1)) (h1 : a.idx.val < 4 + i)
    (h2 : b.idx.val < 4 + i) (h3 : c.idx.val < 4 + i) : val V y = f (val V a) (val V b) (val V c) := by
  rw [val_result V i hi _ hop y h, ← upto_val V i (by omega) a h1, ← upto_val V i (by omega) b h2, ← upto_val V i (by omega) c h3]
  exact ternary_result a b c y f ha hb hc hy _

theorem val_quaternary (V : Valuation τ sig (Elt F)) (i : ℕ) (a b c e y : Ref sig .tc) (f) (ha hb hc he hy)
    (hop : (ops (F := F))[i]? = some (quaternary a b c e y f ha hb hc he hy)) (hi : i < 313) (h : y.idx.val < 4 + (i + 1)) (h1 : a.idx.val < 4 + i)
    (h2 : b.idx.val < 4 + i) (h3 : c.idx.val < 4 + i) (h4 : e.idx.val < 4 + i) : val V y = f (val V a) (val V b) (val V c) (val V e) := by
  rw [val_result V i hi _ hop y h, ← upto_val V i (by omega) a h1, ← upto_val V i (by omega) b h2, ← upto_val V i (by omega) c h3,
    ← upto_val V i (by omega) e h4]
  exact quaternary_result a b c e y f ha hb hc he hy _
noncomputable def r_arg0 (V : Valuation τ sig (Elt F)) : FVec F S32x8732x4 .f32 := val V main_arg0
noncomputable def r_arg1 (V : Valuation τ sig (Elt F)) : FVec F S32x8732x21 .f32 := val V main_arg1
noncomputable def r_arg2 (V : Valuation τ sig (Elt F)) : FVec F S8732x4 .f32 := val V main_arg2
noncomputable def r_arg3 (V : Valuation τ sig (Elt F)) : FVec F S32x16x5 .f32 := val V main_arg3
noncomputable def r_v0 (V : Valuation τ sig (Elt F)) : FVec F S32x16x4 .f32 := val V main_v0
noncomputable def r_v1 (V : Valuation τ sig (Elt F)) : FVec F S32x16x1 .f32 := val V main_v1
noncomputable def r_v2 (V : Valuation τ sig (Elt F)) : FVec F S32x16 .f32 := val V main_v2
noncomputable def r_v3 (V : Valuation τ sig (Elt F)) : IVec S32x16 32 := val V main_v3
noncomputable def r_v4 (V : Valuation τ sig (Elt F)) : FVec F S8732x2 .f32 := val V main_v4
noncomputable def r_v5 (V : Valuation τ sig (Elt F)) : FVec F S8732x2 .f32 := val V main_v5
noncomputable def r_cst (V : Valuation τ sig (Elt F)) : FVec F S_ .f32 := val V main_cst
noncomputable def r_v6 (V : Valuation τ sig (Elt F)) : FVec F S8732x2 .f32 := val V main_v6
noncomputable def r_v7 (V : Valuation τ sig (Elt F)) : FVec F S8732x2 .f32 := val V main_v7
noncomputable def r_v8 (V : Valuation τ sig (Elt F)) : FVec F S8732x2 .f32 := val V main_v8
noncomputable def r_v9 (V : Valuation τ sig (Elt F)) : FVec F S8732x2 .f32 := val V main_v9
noncomputable def r_v10 (V : Valuation τ sig (Elt F)) : FVec F S8732x2 .f32 := val V main_v10
noncomputable def r_cst_0 (V : Valuation τ sig (Elt F)) : FVec F S_ .f32 := val V main_cst_0
noncomputable def r_v11 (V : Valuation τ sig (Elt F)) : FVec F S8732x2 .f32 := val V main_v11
noncomputable def r_v12 (V : Valuation τ sig (Elt F)) : FVec F S8732x2 .f32 := val V main_v12
noncomputable def r_v13 (V : Valuation τ sig (Elt F)) : FVec F S8732x2 .f32 := val V main_v13
noncomputable def r_v14 (V : Valuation τ sig (Elt F)) : FVec F S8732x4 .f32 := val V main_v14
noncomputable def r_v15 (V : Valuation τ sig (Elt F)) : FVec F S32x16x2 .f32 := val V main_v15
noncomputable def r_v16 (V : Valuation τ sig (Elt F)) : FVec F S32x16x1x2 .f32 := val V main_v16
noncomputable def r_v17 (V : Valuation τ sig (Elt F)) : FVec F S8732x2 .f32 := val V main_v17
noncomputable def r_v18 (V : Valuation τ sig (Elt F)) : FVec F S1x1x8732x2 .f32 := val V main_v18
noncomputable def r_v19 (V : Valuation τ sig (Elt F)) : FVec F S32x16x8732x2 .f32 := val V main_v19
noncomputable def r_v20 (V : Valuation τ sig (Elt F)) : FVec F S32x16x8732x2 .f32 := val V main_v20
noncomputable def r_v21 (V : Valuation τ sig (Elt F)) : FVec F S32x16x8732x2 .f32 := val V main_v21
noncomputable def r_v22 (V : Valuation τ sig (Elt F)) : FVec F S32x16x2 .f32 := val V main_v22
noncomputable def r_v23 (V : Valuation τ sig (Elt F)) : FVec F S32x16x1x2 .f32 := val V main_v23
noncomputable def r_v24 (V : Valuation τ sig (Elt F)) : FVec F S8732x2 .f32 := val V main_v24
noncomputable def r_v25 (V : Valuation τ sig (Elt F)) : FVec F S1x1x8732x2 .f32 := val V main_v25
noncomputable def r_v26 (V : Valuation τ sig (Elt F)) : FVec F S32x16x8732x2 .f32 := val V main_v26
noncomputable def r_v27 (V : Valuation τ sig (Elt F)) : FVec F S32x16x8732x2 .f32 := val V main_v27
noncomputable def r_v28 (V : Valuation τ sig (Elt F)) : FVec F S32x16x8732x2 .f32 := val V main_v28
noncomputable def r_v29 (V : Valuation τ sig (Elt F)) : FVec F S32x16x8732x2 .f32 := val V main_v29
noncomputable def r_cst_1 (V : Valuation τ sig (Elt F)) : FVec F S_ .f32 := val V main_cst_1
noncomputable def r_call0_v0 (V : Valuation τ sig (Elt F)) : FVec F S_ .f32 := val V main_call0_v0
noncomputable def r_call0_v1 (V : Valuation τ sig (Elt F)) : FVec F S32x16x8732x2 .f32 := val V main_call0_v1
noncomputable def r_v30 (V : Valuation τ sig (Elt F)) : FVec F S32x16x8732x2 .f32 := val V main_v30
noncomputable def r_v31 (V : Valuation τ sig (Elt F)) : FVec F S32x16x8732x1 .f32 := val V main_v31
noncomputable def r_v32 (V : Valuation τ sig (Elt F)) : FVec F S32x16x8732 .f32 := val V main_v32
noncomputable def r_v33 (V : Valuation τ sig (Elt F)) : FVec F S32x16x8732x1 .f32 := val V main_v33
noncomputable def r_v34 (V : Valuation τ sig (Elt F)) : FVec F S32x16x8732 .f32 := val V main_v34
noncomputable def r_v35 (V : Valuation τ sig (Elt F)) : FVec F S32x16x8732 .f32 := val V main_v35
noncomputable def r_v36 (V : Valuation τ sig (Elt F)) : FVec F S32x16x1 .f32 := val V main_v36
noncomputable def r_v37 (V : Valuation τ sig (Elt F)) : FVec F S32x16 .f32 := val V main_v37
noncomputable def r_v38 (V : Valuation τ sig (Elt F)) : FVec F S32x16x1 .f32 := val V main_v38
noncomputable def r_v39 (V : Valuation τ sig (Elt F)) : FVec F S32x16 .f32 := val V main_v39
noncomputable def r_v40 (V : Valuation τ sig (Elt F)) : FVec F S32x16 .f32 := val V main_v40
noncomputable def r_v41 (V : Valuation τ sig (Elt F)) : FVec F S32x16x1 .f32 := val V main_v41
noncomputable def r_v42 (V : Valuation τ sig (Elt F)) : FVec F S32x16 .f32 := val V main_v42
noncomputable def r_v43 (V : Valuation τ sig (Elt F)) : FVec F S32x16x1 .f32 := val V main_v43
noncomputable def r_v44 (V : Valuation τ sig (Elt F)) : FVec F S32x16 .f32 := val V main_v44
noncomputable def r_v45 (V : Valuation τ sig (Elt F)) : FVec F S32x16 .f32 := val V main_v45
noncomputable def r_v46 (V : Valuation τ sig (Elt F)) : FVec F S32x16 .f32 := val V main_v46
noncomputable def r_v47 (V : Valuation τ sig (Elt F)) : FVec F S32x16x1 .f32 := val V main_v47
noncomputable def r_v48 (V : Valuation τ sig (Elt F)) : FVec F S8732x1 .f32 := val V main_v48
noncomputable def r_v49 (V : Valuation τ sig (Elt F)) : FVec F S8732 .f32 := val V main_v49
noncomputable def r_v50 (V : Valuation τ sig (Elt F)) : FVec F S8732x1 .f32 := val V main_v50
noncomputable def r_v51 (V : Valuation τ sig (Elt F)) : FVec F S8732 .f32 := val V main_v51
noncomputable def r_v52 (V : Valuation τ sig (Elt F)) : FVec F S8732 .f32 := val V main_v52
noncomputable def r_v53 (V : Valuation τ sig (Elt F)) : FVec F S8732x1 .f32 := val V main_v53
noncomputable def r_v54 (V : Valuation τ sig (Elt F)) : FVec F S8732 .f32 := val V main_v54
noncomputable def r_v55 (V : Valuation τ sig (Elt F)) : FVec F S8732x1 .f32 := val V main_v55
noncomputable def r_v56 (V : Valuation τ sig (Elt F)) : FVec F S8732 .f32 := val V main_v56
noncomputable def r_v57 (V : Valuation τ sig (Elt F)) : FVec F S8732 .f32 := val V main_v57
noncomputable def r_v58 (V : Valuation τ sig (Elt F)) : FVec F S8732 .f32 := val V main_v58
noncomputable def r_v59 (V : Valuation τ sig (Elt F)) : FVec F S1x1x8732 .f32 := val V main_v59
noncomputable def r_v60 (V : Valuation τ sig (Elt F)) : FVec F S32x16x8732 .f32 := val V main_v60
noncomputable def r_v61 (V : Valuation τ sig (Elt F)) : FVec F S32x16x8732 .f32 := val V main_v61
noncomputable def r_v62 (V : Valuation τ sig (Elt F)) : FVec F S32x16x8732 .f32 := val V main_v62
noncomputable def r_v63 (V : Valuation τ sig (Elt F)) : FVec F S32x16x8732 .f32 := val V main_v63
noncomputable def r_v64 (V : Valuation τ sig (Elt F)) : FVec F S32x16x8732 .f32 := val V main_v64
noncomputable def r_call1_v0 (V : Valuation τ sig (Elt F)) : IVec S32x16x8732 32 := val V main_call1_v0
noncomputable def r_call1_cst (V : Valuation τ sig (Elt F)) : FVec F S_ .f32 := val V main_call1_cst
noncomputable def r_call1_c (V : Valuation τ sig (Elt F)) : IVec S_ 32 := val V main_call1_c
noncomputable def r_call1_v1_0 (V : Valuation τ sig (Elt F)) : FVec F S32x16 .f32 := val V main_call1_v1_0
noncomputable def r_v65 (V : Valuation τ sig (Elt F)) : IVec S32x16 32 := val V main_v65
noncomputable def r_cst_2 (V : Valuation τ sig (Elt F)) : FVec F S_ .f32 := val V main_cst_2
noncomputable def r_v66 (V : Valuation τ sig (Elt F)) : FVec F S32x8732 .f32 := val V main_v66
noncomputable def r_call2_v0 (V : Valuation τ sig (Elt F)) : IVec S32x16x8732 32 := val V main_call2_v0
noncomputable def r_call2_cst (V : Valuation τ sig (Elt F)) : FVec F S_ .f32 := val V main_call2_cst
noncomputable def r_call2_c (V : Valuation τ sig (Elt F)) : IVec S_ 32 := val V main_call2_c
noncomputable def r_call2_v1_0 (V : Valuation τ sig (Elt F)) : FVec F S32x8732 .f32 := val V main_call2_v1_0
noncomputable def r_v67 (V : Valuation τ sig (Elt F)) : IVec S32x8732 32 := val V main_v67
noncomputable def r_v68 (V : Valuation τ sig (Elt F)) : IVec S32 32 := val V main_v68
noncomputable def r_v69 (V : Valuation τ sig (Elt F)) : IVec S32x1 32 := val V main_v69
noncomputable def r_c (V : Valuation τ sig (Elt F)) : IVec S_ 32 := val V main_c
noncomputable def r_v70 (V : Valuation τ sig (Elt F)) : IVec S32x1 32 := val V main_v70
noncomputable def r_v71 (V : Valuation τ sig (Elt F)) : IVec S32x1 1 := val V main_v71
noncomputable def r_c_3 (V : Valuation τ sig (Elt F)) : IVec S_ 32 := val V main_c_3
noncomputable def r_v72 (V : Valuation τ sig (Elt F)) : IVec S32x1 32 := val V main_v72
noncomputable def r_v73 (V : Valuation τ sig (Elt F)) : IVec S32x1 32 := val V main_v73
noncomputable def r_v74 (V : Valuation τ sig (Elt F)) : IVec S32x1 32 := val V main_v74
noncomputable def r_c_4 (V : Valuation τ sig (Elt F)) : IVec S_ 32 := val V main_c_4
noncomputable def r_v75 (V : Valuation τ sig (Elt F)) : IVec S32x16 32 := val V main_v75
noncomputable def r_v76 (V : Valuation τ sig (Elt F)) : IVec S32x16 1 := val V main_v76
noncomputable def r_c_5 (V : Valuation τ sig (Elt F)) : IVec S_ 32 := val V main_c_5
noncomputable def r_v77 (V : Valuation τ sig (Elt F)) : IVec S32x16 32 := val V main_v77
noncomputable def r_v78 (V : Valuation τ sig (Elt F)) : IVec S32x16 32 := val V main_v78
noncomputable def r_v79 (V : Valuation τ sig (Elt F)) : IVec S32x16 32 := val V main_v79
noncomputable def r_v80 (V : Valuation τ sig (Elt F)) : IVec S32x16 32 := val V main_v80
noncomputable def r_v81 (V : Valuation τ sig (Elt F)) : IVec S32x16x1 32 := val V main_v81
noncomputable def r_v82 (V : Valuation τ sig (Elt F)) : IVec S32x16x1 32 := val V main_v82
noncomputable def r_v83 (V : Valuation τ sig (Elt F)) : IVec S32x16x2 32 := val V main_v83
noncomputable def r_cst_6 (V : Valuation τ sig (Elt F)) : FVec F S_ .f32 := val V main_cst_6
noncomputable def r_v84 (V : Valuation τ sig (Elt F)) : FVec F S32x16 .f32 := val V main_v84
noncomputable def r_v85 (V : Valuation τ sig (Elt F)) : FVec F S32x8732 .f32 := val V main_v85
noncomputable def r_v86 (V : Valuation τ sig (Elt F)) : IVec S16 32 := val V main_v86
noncomputable def r_v87 (V : Valuation τ sig (Elt F)) : IVec S1x16 32 := val V main_v87
noncomputable def r_c_7 (V : Valuation τ sig (Elt F)) : IVec S_ 32 := val V main_c_7
noncomputable def r_v88 (V : Valuation τ sig (Elt F)) : IVec S32x1 32 := val V main_v88
noncomputable def r_v89 (V : Valuation τ sig (Elt F)) : IVec S32x1 1 := val V main_v89
noncomputable def r_c_8 (V : Valuation τ sig (Elt F)) : IVec S_ 32 := val V main_c_8
noncomputable def r_v90 (V : Valuation τ sig (Elt F)) : IVec S32x1 32 := val V main_v90
noncomputable def r_v91 (V : Valuation τ sig (Elt F)) : IVec S32x1 32 := val V main_v91
noncomputable def r_v92 (V : Valuation τ sig (Elt F)) : IVec S32x1 32 := val V main_v92
noncomputable def r_c_9 (V : Valuation τ sig (Elt F)) : IVec S_ 32 := val V main_c_9
noncomputable def r_v93 (V : Valuation τ sig (Elt F)) : IVec S32x16 32 := val V main_v93
noncomputable def r_v94 (V : Valuation τ sig (Elt F)) : IVec S32x16 1 := val V main_v94
noncomputable def r_c_10 (V : Valuation τ sig (Elt F)) : IVec S_ 32 := val V main_c_10
noncomputable def r_v95 (V : Valuation τ sig (Elt F)) : IVec S32x16 32 := val V main_v95
noncomputable def r_v96 (V : Valuation τ sig (Elt F)) : IVec S32x16 32 := val V main_v96
noncomputable def r_v97 (V : Valuation τ sig (Elt F)) : IVec S32x16 32 := val V main_v97
noncomputable def r_v98 (V : Valuation τ sig (Elt F)) : IVec S32x16 32 := val V main_v98
noncomputable def r_v99 (V : Valuation τ sig (Elt F)) : IVec S32x16x1 32 := val V main_v99
noncomputable def r_v100 (V : Valuation τ sig (Elt F)) : IVec S32x16x1 32 := val V main_v100
noncomputable def r_v101 (V : Valuation τ sig (Elt F)) : IVec S32x16x2 32 := val V main_v101
noncomputable def r_v102 (V : Valuation τ sig (Elt F)) : IVec S32x16 32 := val V main_v102
noncomputable def r_v103 (V : Valuation τ sig (Elt F)) : IVec S32x8732 32 := val V main_v103
noncomputable def r_c_11 (V : Valuation τ sig (Elt F)) : IVec S_ 32 := val V main_c_11
noncomputable def r_v104 (V : Valuation τ sig (Elt F)) : IVec S32x1 32 := val V main_v104
noncomputable def r_v105 (V : Valuation τ sig (Elt F)) : IVec S32x1 1 := val V main_v105
noncomputable def r_c_12 (V : Valuation τ sig (Elt F)) : IVec S_ 32 := val V main_c_12
noncomputable def r_v106 (V : Valuation τ sig (Elt F)) : IVec S32x1 32 := val V main_v106
noncomputable def r_v107 (V : Valuation τ sig (Elt F)) : IVec S32x1 32 := val V main_v107
noncomputable def r_v108 (V : Valuation τ sig (Elt F)) : IVec S32x1 32 := val V main_v108
noncomputable def r_c_13 (V : Valuation τ sig (Elt F)) : IVec S_ 32 := val V main_c_13
noncomputable def r_v109 (V : Valuation τ sig (Elt F)) : IVec S32x8732 32 := val V main_v109
noncomputable def r_v110 (V : Valuation τ sig (Elt F)) : IVec S32x8732 1 := val V main_v110
noncomputable def r_c_14 (V : Valuation τ sig (Elt F)) : IVec S_ 32 := val V main_c_14
noncomputable def r_v111 (V : Valuation τ sig (Elt F)) : IVec S32x8732 32 := val V main_v111
noncomputable def r_v112 (V : Valuation τ sig (Elt F)) : IVec S32x8732 32 := val V main_v112
noncomputable def r_v113 (V : Valuation τ sig (Elt F)) : IVec S32x8732 32 := val V main_v113
noncomputable def r_v114 (V : Valuation τ sig (Elt F)) : IVec S32x8732 32 := val V main_v114
noncomputable def r_v115 (V : Valuation τ sig (Elt F)) : IVec S32x8732x1 32 := val V main_v115
noncomputable def r_v116 (V : Valuation τ sig (Elt F)) : IVec S32x8732x1 32 := val V main_v116
noncomputable def r_v117 (V : Valuation τ sig (Elt F)) : IVec S32x8732x2 32 := val V main_v117
noncomputable def r_v118 (V : Valuation τ sig (Elt F)) : FVec F S32x8732x4 .f32 := val V main_v118
noncomputable def r_c_15 (V : Valuation τ sig (Elt F)) : IVec S_ 32 := val V main_c_15
noncomputable def r_v119 (V : Valuation τ sig (Elt F)) : IVec S32x1 32 := val V main_v119
noncomputable def r_v120 (V : Valuation τ sig (Elt F)) : IVec S32x1 1 := val V main_v120
noncomputable def r_c_16 (V : Valuation τ sig (Elt F)) : IVec S_ 32 := val V main_c_16
noncomputable def r_v121 (V : Valuation τ sig (Elt F)) : IVec S32x1 32 := val V main_v121
noncomputable def r_v122 (V : Valuation τ sig (Elt F)) : IVec S32x1 32 := val V main_v122
noncomputable def r_v123 (V : Valuation τ sig (Elt F)) : IVec S32x1 32 := val V main_v123
noncomputable def r_c_17 (V : Valuation τ sig (Elt F)) : IVec S_ 32 := val V main_c_17
noncomputable def r_v124 (V : Valuation τ sig (Elt F)) : IVec S32x8732 32 := val V main_v124
noncomputable def r_v125 (V : Valuation τ sig (Elt F)) : IVec S32x8732 1 := val V main_v125
noncomputable def r_c_18 (V : Valuation τ sig (Elt F)) : IVec S_ 32 := val V main_c_18
noncomputable def r_v126 (V : Valuation τ sig (Elt F)) : IVec S32x8732 32 := val V main_v126
noncomputable def r_v127 (V : Valuation τ sig (Elt F)) : IVec S32x8732 32 := val V main_v127
noncomputable def r_v128 (V : Valuation τ sig (Elt F)) : IVec S32x8732 32 := val V main_v128
noncomputable def r_v129 (V : Valuation τ sig (Elt F)) : IVec S32x8732 32 := val V main_v129
noncomputable def r_v130 (V : Valuation τ sig (Elt F)) : IVec S32x8732x1 32 := val V main_v130
noncomputable def r_v131 (V : Valuation τ sig (Elt F)) : IVec S32x8732x1 32 := val V main_v131
noncomputable def r_v132 (V : Valuation τ sig (Elt F)) : IVec S32x8732x2 32 := val V main_v132
noncomputable def r_v133 (V : Valuation τ sig (Elt F)) : IVec S32x8732 32 := val V main_v133
noncomputable def r_cst_19 (V : Valuation τ sig (Elt F)) : FVec F S_ .f32 := val V main_cst_19
noncomputable def r_v134 (V : Valuation τ sig (Elt F)) : FVec F S32x8732 .f32 := val V main_v134
noncomputable def r_v135 (V : Valuation τ sig (Elt F)) : IVec S32x8732 1 := val V main_v135
noncomputable def r_c_20 (V : Valuation τ sig (Elt F)) : IVec S_ 32 := val V main_c_20
noncomputable def r_call3_v0 (V : Valuation τ sig (Elt F)) : IVec S_ 32 := val V main_call3_v0
noncomputable def r_call3_v1 (V : Valuation τ sig (Elt F)) : IVec S32x8732 32 := val V main_call3_v1
noncomputable def r_v136 (V : Valuation τ sig (Elt F)) : IVec S32x8732 32 := val V main_v136
noncomputable def r_v137 (V : Valuation τ sig (Elt F)) : FVec F S32x8732x2 .f32 := val V main_v137
noncomputable def r_v138 (V : Valuation τ sig (Elt F)) : FVec F S32x8732x2 .f32 := val V main_v138
noncomputable def r_v139 (V : Valuation τ sig (Elt F)) : FVec F S32x8732x2 .f32 := val V main_v139
noncomputable def r_cst_21 (V : Valuation τ sig (Elt F)) : FVec F S_ .f32 := val V main_cst_21
noncomputable def r_v140 (V : Valuation τ sig (Elt F)) : FVec F S32x8732x2 .f32 := val V main_v140
noncomputable def r_v141 (V : Valuation τ sig (Elt F)) : FVec F S32x8732x2 .f32 := val V main_v141
noncomputable def r_v142 (V : Valuation τ sig (Elt F)) : FVec F S8732x2 .f32 := val V main_v142
noncomputable def r_v143 (V : Valuation τ sig (Elt F)) : FVec F S1x8732x2 .f32 := val V main_v143
noncomputable def r_v144 (V : Valuation τ sig (Elt F)) : FVec F S32x8732x2 .f32 := val V main_v144
noncomputable def r_v145 (V : Valuation τ sig (Elt F)) : FVec F S32x8732x2 .f32 := val V main_v145
noncomputable def r_v146 (V : Valuation τ sig (Elt F)) : FVec F S8732x2 .f32 := val V main_v146
noncomputable def r_v147 (V : Valuation τ sig (Elt F)) : FVec F S1x8732x2 .f32 := val V main_v147
noncomputable def r_cst_22 (V : Valuation τ sig (Elt F)) : FVec F S_ .f32 := val V main_cst_22
noncomputable def r_v148 (V : Valuation τ sig (Elt F)) : FVec F S1x8732x2 .f32 := val V main_v148
noncomputable def r_v149 (V : Valuation τ sig (Elt F)) : FVec F S1x8732x2 .f32 := val V main_v149
noncomputable def r_v150 (V : Valuation τ sig (Elt F)) : FVec F S32x8732x2 .f32 := val V main_v150
noncomputable def r_v151 (V : Valuation τ sig (Elt F)) : FVec F S32x8732x2 .f32 := val V main_v151
noncomputable def r_v152 (V : Valuation τ sig (Elt F)) : FVec F S32x8732x2 .f32 := val V main_v152
noncomputable def r_v153 (V : Valuation τ sig (Elt F)) : FVec F S32x8732x2 .f32 := val V main_v153
noncomputable def r_v154 (V : Valuation τ sig (Elt F)) : FVec F S32x8732x2 .f32 := val V main_v154
noncomputable def r_v155 (V : Valuation τ sig (Elt F)) : FVec F S8732x2 .f32 := val V main_v155
noncomputable def r_v156 (V : Valuation τ sig (Elt F)) : FVec F S1x8732x2 .f32 := val V main_v156
noncomputable def r_v157 (V : Valuation τ sig (Elt F)) : FVec F S32x8732x2 .f32 := val V main_v157
noncomputable def r_v158 (V : Valuation τ sig (Elt F)) : FVec F S32x8732x2 .f32 := val V main_v158
noncomputable def r_cst_23 (V : Valuation τ sig (Elt F)) : FVec F S_ .f32 := val V main_cst_23
noncomputable def r_v159 (V : Valuation τ sig (Elt F)) : FVec F S32x8732x2 .f32 := val V main_v159
noncomputable def r_v160 (V : Valuation τ sig (Elt F)) : FVec F S32x8732x2 .f32 := val V main_v160
noncomputable def r_v161 (V : Valuation τ sig (Elt F)) : FVec F S32x8732x2 .f32 := val V main_v161
noncomputable def r_cst_24 (V : Valuation τ sig (Elt F)) : FVec F S_ .f32 := val V main_cst_24
noncomputable def r_v162 (V : Valuation τ sig (Elt F)) : FVec F S32x8732x2 .f32 := val V main_v162
noncomputable def r_v163 (V : Valuation τ sig (Elt F)) : FVec F S32x8732x2 .f32 := val V main_v163
noncomputable def r_v164 (V : Valuation τ sig (Elt F)) : FVec F S32x8732x4 .f32 := val V main_v164
noncomputable def r_c_25 (V : Valuation τ sig (Elt F)) : IVec S_ 32 := val V main_c_25
noncomputable def r_v165 (V : Valuation τ sig (Elt F)) : IVec S32x8732 32 := val V main_v165
noncomputable def r_v166 (V : Valuation τ sig (Elt F)) : IVec S32x8732 1 := val V main_v166
noncomputable def r_v167 (V : Valuation τ sig (Elt F)) : FVec F S32x8732x4 .f32 := val V main_v167
noncomputable def r_v168 (V : Valuation τ sig (Elt F)) : FVec F S32x8732x4 .f32 := val V main_v168
noncomputable def r_cst_26 (V : Valuation τ sig (Elt F)) : FVec F S_ .f32 := val V main_cst_26
noncomputable def r_v169 (V : Valuation τ sig (Elt F)) : FVec F S32x8732x4 .f32 := val V main_v169
noncomputable def r_v170 (V : Valuation τ sig (Elt F)) : IVec S32x8732x4 1 := val V main_v170
noncomputable def r_cst_27 (V : Valuation τ sig (Elt F)) : FVec F S_ .f32 := val V main_cst_27
noncomputable def r_v171 (V : Valuation τ sig (Elt F)) : FVec F S32x8732x4 .f32 := val V main_v171
noncomputable def r_v172 (V : Valuation τ sig (Elt F)) : FVec F S32x8732x4 .f32 := val V main_v172
noncomputable def r_v173 (V : Valuation τ sig (Elt F)) : FVec F S32x8732x4 .f32 := val V main_v173
noncomputable def r_cst_28 (V : Valuation τ sig (Elt F)) : FVec F S_ .f32 := val V main_cst_28
noncomputable def r_v174 (V : Valuation τ sig (Elt F)) : FVec F S32x8732x4 .f32 := val V main_v174
noncomputable def r_v175 (V : Valuation τ sig (Elt F)) : FVec F S32x8732x4 .f32 := val V main_v175
noncomputable def r_v176 (V : Valuation τ sig (Elt F)) : FVec F S32x8732x4 .f32 := val V main_v176
noncomputable def r_v177 (V : Valuation τ sig (Elt F)) : IVec S32x8732x1 1 := val V main_v177
noncomputable def r_cst_29 (V : Valuation τ sig (Elt F)) : FVec F S_ .f32 := val V main_cst_29
noncomputable def r_call5_v0 (V : Valuation τ sig (Elt F)) : FVec F S_ .f32 := val V main_call5_v0
noncomputable def r_call5_v1 (V : Valuation τ sig (Elt F)) : IVec S32x8732x4 1 := val V main_call5_v1
noncomputable def r_call5_v2 (V : Valuation τ sig (Elt F)) : FVec F S32x8732x4 .f32 := val V main_call5_v2
noncomputable def r_v178 (V : Valuation τ sig (Elt F)) : FVec F S32x8732x4 .f32 := val V main_v178
noncomputable def r_cst_30 (V : Valuation τ sig (Elt F)) : FVec F S_ .f32 := val V main_cst_30
noncomputable def r_v179 (V : Valuation τ sig (Elt F)) : FVec F S_ .f32 := val V main_v179
noncomputable def r_cst_31 (V : Valuation τ sig (Elt F)) : FVec F S_ .f32 := val V main_cst_31
noncomputable def r_v180 (V : Valuation τ sig (Elt F)) : FVec F S32x8732 .f32 := val V main_v180
noncomputable def r_v181 (V : Valuation τ sig (Elt F)) : FVec F S32x8732x1 .f32 := val V main_v181
noncomputable def r_v182 (V : Valuation τ sig (Elt F)) : FVec F S32x8732x1 .f32 := val V main_v182
noncomputable def r_cst_32 (V : Valuation τ sig (Elt F)) : FVec F S_ .f32 := val V main_cst_32
noncomputable def r_v183 (V : Valuation τ sig (Elt F)) : FVec F S32x8732x1 .f32 := val V main_v183
noncomputable def r_v184 (V : Valuation τ sig (Elt F)) : IVec S32x8732x1 1 := val V main_v184
noncomputable def r_cst_33 (V : Valuation τ sig (Elt F)) : FVec F S_ .f32 := val V main_cst_33
noncomputable def r_call6_v0 (V : Valuation τ sig (Elt F)) : FVec F S_ .f32 := val V main_call6_v0
noncomputable def r_call6_v1 (V : Valuation τ sig (Elt F)) : FVec F S32x8732x1 .f32 := val V main_call6_v1
noncomputable def r_v185 (V : Valuation τ sig (Elt F)) : FVec F S32x8732x1 .f32 := val V main_v185
noncomputable def r_v186 (V : Valuation τ sig (Elt F)) : FVec F S32x8732x21 .f32 := val V main_v186
noncomputable def r_v187 (V : Valuation τ sig (Elt F)) : FVec F S32x8732x21 .f32 := val V main_v187
noncomputable def r_v188 (V : Valuation τ sig (Elt F)) : FVec F S32x8732x21 .f32 := val V main_v188
noncomputable def r_cst_34 (V : Valuation τ sig (Elt F)) : FVec F S_ .f32 := val V main_cst_34
noncomputable def r_v189 (V : Valuation τ sig (Elt F)) : FVec F S32x8732 .f32 := val V main_v189
noncomputable def r_v190 (V : Valuation τ sig (Elt F)) : FVec F S32x8732x1 .f32 := val V main_v190
noncomputable def r_v191 (V : Valuation τ sig (Elt F)) : FVec F S32x8732x1 .f32 := val V main_v191
noncomputable def r_v192 (V : Valuation τ sig (Elt F)) : FVec F S32x8732x1 .f32 := val V main_v192
noncomputable def r_v193 (V : Valuation τ sig (Elt F)) : FVec F S32x8732 .f32 := val V main_v193
noncomputable def r_v194 (V : Valuation τ sig (Elt F)) : IVec S32x8732x1 32 := val V main_v194
noncomputable def r_call7_c (V : Valuation τ sig (Elt F)) : IVec S_ 32 := val V main_call7_c
noncomputable def r_call7_v0 (V : Valuation τ sig (Elt F)) : IVec S32x8732x1 32 := val V main_call7_v0
noncomputable def r_call7_v1 (V : Valuation τ sig (Elt F)) : IVec S32x8732x1 1 := val V main_call7_v1
noncomputable def r_call7_c_0 (V : Valuation τ sig (Elt F)) : IVec S_ 32 := val V main_call7_c_0
noncomputable def r_call7_v2 (V : Valuation τ sig (Elt F)) : IVec S32x8732x1 32 := val V main_call7_v2
noncomputable def r_call7_v3 (V : Valuation τ sig (Elt F)) : IVec S32x8732x1 32 := val V main_call7_v3
noncomputable def r_call7_v4 (V : Valuation τ sig (Elt F)) : IVec S32x8732x1 32 := val V main_call7_v4
noncomputable def r_call7_v5 (V : Valuation τ sig (Elt F)) : IVec S32x8732x1x1 32 := val V main_call7_v5
noncomputable def r_call7_c_1 (V : Valuation τ sig (Elt F)) : IVec S1 32 := val V main_call7_c_1
noncomputable def r_call7_c_2 (V : Valuation τ sig (Elt F)) : IVec S_ 32 := val V main_call7_c_2
noncomputable def r_call7_v6 (V : Valuation τ sig (Elt F)) : IVec S32x8732x1x1 32 := val V main_call7_v6
noncomputable def r_call7_v7 (V : Valuation τ sig (Elt F)) : IVec S32x8732x1x1 1 := val V main_call7_v7
noncomputable def r_call7_v8 (V : Valuation τ sig (Elt F)) : IVec S1x1x1x1 32 := val V main_call7_v8
noncomputable def r_call7_v9 (V : Valuation τ sig (Elt F)) : IVec S32x8732x1x1 32 := val V main_call7_v9
noncomputable def r_call7_v10 (V : Valuation τ sig (Elt F)) : IVec S32x8732x1x1 1 := val V main_call7_v10
noncomputable def r_call7_v11 (V : Valuation τ sig (Elt F)) : IVec S32x8732x1x1 1 := val V main_call7_v11
noncomputable def r_call7_c_3 (V : Valuation τ sig (Elt F)) : IVec S_ 1 := val V main_call7_c_3
noncomputable def r_call7_v12 (V : Valuation τ sig (Elt F)) : IVec S32x8732x1 1 := val V main_call7_v12
noncomputable def r_call7_v13 (V : Valuation τ sig (Elt F)) : FVec F S32x8732x1 .f32 := val V main_call7_v13
noncomputable def r_call7_cst (V : Valuation τ sig (Elt F)) : FVec F S_ .f32 := val V main_call7_cst
noncomputable def r_call7_v14 (V : Valuation τ sig (Elt F)) : FVec F S32x8732x1 .f32 := val V main_call7_v14
noncomputable def r_v195 (V : Valuation τ sig (Elt F)) : FVec F S32x8732x1 .f32 := val V main_v195
noncomputable def r_v196 (V : Valuation τ sig (Elt F)) : FVec F S32x8732 .f32 := val V main_v196
noncomputable def r_v197 (V : Valuation τ sig (Elt F)) : FVec F S32x8732 .f32 := val V main_v197
noncomputable def r_cst_35 (V : Valuation τ sig (Elt F)) : FVec F S_ .f32 := val V main_cst_35
noncomputable def r_call8_v0 (V : Valuation τ sig (Elt F)) : FVec F S_ .f32 := val V main_call8_v0
noncomputable def r_call8_v1 (V : Valuation τ sig (Elt F)) : FVec F S32x8732 .f32 := val V main_call8_v1
noncomputable def r_v198 (V : Valuation τ sig (Elt F)) : FVec F S32x8732 .f32 := val V main_v198
noncomputable def r_v199 (V : Valuation τ sig (Elt F)) : FVec F S32x8732 .f32 := val V main_v199
noncomputable def r_call9_v0 (V : Valuation τ sig (Elt F)) : IVec S32x8732 32 := val V main_call9_v0
noncomputable def r_call9_v1_0 (V : Valuation τ sig (Elt F)) : FVec F S32x8732 .f32 := val V main_call9_v1_0
noncomputable def r_v200 (V : Valuation τ sig (Elt F)) : IVec S32x8732 32 := val V main_v200
noncomputable def r_call10_v0 (V : Valuation τ sig (Elt F)) : IVec S32x8732 32 := val V main_call10_v0
noncomputable def r_call10_v1_0 (V : Valuation τ sig (Elt F)) : IVec S32x8732 32 := val V main_call10_v1_0
noncomputable def r_v201 (V : Valuation τ sig (Elt F)) : IVec S32x8732 32 := val V main_v201
noncomputable def r_v202 (V : Valuation τ sig (Elt F)) : IVec S32x8732 32 := val V main_v202
noncomputable def r_c_36 (V : Valuation τ sig (Elt F)) : IVec S_ 32 := val V main_c_36
noncomputable def r_v203 (V : Valuation τ sig (Elt F)) : IVec S32 32 := val V main_v203
noncomputable def r_v204 (V : Valuation τ sig (Elt F)) : IVec S32x1 32 := val V main_v204
noncomputable def r_c_37 (V : Valuation τ sig (Elt F)) : IVec S_ 32 := val V main_c_37
noncomputable def r_v205 (V : Valuation τ sig (Elt F)) : IVec S32x1 32 := val V main_v205
noncomputable def r_v206 (V : Valuation τ sig (Elt F)) : IVec S32x1 32 := val V main_v206
noncomputable def r_c_38 (V : Valuation τ sig (Elt F)) : IVec S_ 32 := val V main_c_38
noncomputable def r_v207 (V : Valuation τ sig (Elt F)) : IVec S32x1 32 := val V main_v207
noncomputable def r_v208 (V : Valuation τ sig (Elt F)) : IVec S32x1 32 := val V main_v208
noncomputable def r_v209 (V : Valuation τ sig (Elt F)) : IVec S32x8732 32 := val V main_v209
noncomputable def r_v210 (V : Valuation τ sig (Elt F)) : IVec S32x8732 1 := val V main_v210
noncomputable def r_v211 (V : Valuation τ sig (Elt F)) : IVec S32x8732 1 := val V main_v211
noncomputable def r_cst_39 (V : Valuation τ sig (Elt F)) : FVec F S_ .f32 := val V main_cst_39
noncomputable def r_call11_v0 (V : Valuation τ sig (Elt F)) : FVec F S_ .f32 := val V main_call11_v0
noncomputable def r_call11_v1 (V : Valuation τ sig (Elt F)) : FVec F S32x8732 .f32 := val V main_call11_v1
noncomputable def r_v212 (V : Valuation τ sig (Elt F)) : FVec F S32x8732 .f32 := val V main_v212
noncomputable def r_cst_40 (V : Valuation τ sig (Elt F)) : FVec F S_ .f32 := val V main_cst_40
noncomputable def r_v213 (V : Valuation τ sig (Elt F)) : FVec F S_ .f32 := val V main_v213
noncomputable def r_c_41 (V : Valuation τ sig (Elt F)) : IVec S_ 32 := val V main_c_41
noncomputable def r_v214 (V : Valuation τ sig (Elt F)) : IVec S_ 32 := val V main_v214
noncomputable def r_v215 (V : Valuation τ sig (Elt F)) : FVec F S_ .f32 := val V main_v215
noncomputable def r_cst_42 (V : Valuation τ sig (Elt F)) : FVec F S_ .f32 := val V main_cst_42
noncomputable def r_v216 (V : Valuation τ sig (Elt F)) : FVec F S_ .f32 := val V main_v216
noncomputable def r_v217 (V : Valuation τ sig (Elt F)) : FVec F S_ .f32 := val V main_v217
noncomputable def r_v218 (V : Valuation τ sig (Elt F)) : FVec F S_ .f32 := val V main_v218
noncomputable def r_v219 (V : Valuation τ sig (Elt F)) : FVec F S1 .f32 := val V main_v219
noncomputable def r_v220 (V : Valuation τ sig (Elt F)) : FVec F S1 .f32 := val V main_v220
noncomputable def r_v221 (V : Valuation τ sig (Elt F)) : FVec F S2 .f32 := val V main_v221

end Cert.RefRun
-- ==== Proof.RefMain.lean ====
module

public import proofs.«01_k».proof.Proof.RefOps
public import Idealize.ShloMosaic.Lib.Pipeline.Regions

@[expose] public section

set_option maxRecDepth 16384

namespace Cert.RefRun

open Idealize.ShloMosaic Idealize.SL.Sem Idealize.ShloMosaic.StableHlo
open Cert.ReferenceIdeal Cert.ReferenceIdeal.Gen

variable {F : FTy → Type} [FloatOps F]

set_option maxRecDepth 100000 in
set_option maxHeartbeats 4000000 in
theorem main_isSeq (d : Dev nD) : main (F := F) d = seq ops := by
  chain_rfl

end Cert.RefRun
-- ==== Proof.RefRun.lean ====
/-
  The reference's run: every buffer ends at what the line of operations leaves there, every counter at zero.
-/
module

public import proofs.«01_k».proof.Proof.RefVals
public import proofs.«01_k».proof.Proof.RefMain
public import Idealize.ShloMosaic.Lib.StableHlo.RunHlo
public import Idealize.ShloMosaic.Lib.Quiescent

@[expose] public section

set_option maxRecDepth 16384

namespace Cert.RefRun

open Idealize.ShloMosaic Idealize.SL.Sem Idealize.ShloMosaic.StableHlo
open Cert.ReferenceIdeal Cert.ReferenceIdeal.Gen

variable {F : FTy → Type} [FloatOps F]

set_option maxRecDepth 100000 in
/-- Each operation touches the core's own buffers only. -/
theorem ops_sub : (ops (F := F)).Forall fun op => op.bufs ⊆ tcRefs τ sig :=
  ⟨unary_bufs_sub .., unary_bufs_sub .., reshape_bufs_sub .., unary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., binary_bufs_sub .., unary_bufs_sub .., unary_bufs_sub .., unary_bufs_sub ..,
    unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub ..,
    binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., reshape_bufs_sub .., unary_bufs_sub .., reshape_bufs_sub .., binary_bufs_sub .., unary_bufs_sub .., reshape_bufs_sub ..,
    unary_bufs_sub .., reshape_bufs_sub .., binary_bufs_sub .., binary_bufs_sub .., unary_bufs_sub .., unary_bufs_sub .., unary_bufs_sub .., binary_bufs_sub .., binary_bufs_sub .., binary_bufs_sub .., nullary_bufs_sub .., nullary_bufs_sub .., nullary_bufs_sub .., quaternary_bufs_sub .., quaternary_bufs_sub .., nullary_bufs_sub .., binary_bufs_sub .., nullary_bufs_sub .., nullary_bufs_sub .., nullary_bufs_sub ..,
    quaternary_bufs_sub .., quaternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..,
    unary_bufs_sub .., binary_bufs_sub .., nullary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..,
    ternary_bufs_sub .., unary_bufs_sub .., unary_bufs_sub .., unary_bufs_sub .., binary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..,
    ternary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..,
    unary_bufs_sub .., unary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub ..,
    unary_bufs_sub .., binary_bufs_sub .., unary_bufs_sub .., unary_bufs_sub .., nullary_bufs_sub .., unary_bufs_sub .., binary_bufs_sub .., unary_bufs_sub .., binary_bufs_sub .., unary_bufs_sub .., unary_bufs_sub .., binary_bufs_sub .., unary_bufs_sub .., unary_bufs_sub .., unary_bufs_sub .., binary_bufs_sub .., nullary_bufs_sub .., unary_bufs_sub .., binary_bufs_sub .., unary_bufs_sub ..,
    nullary_bufs_sub .., unary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., ternary_bufs_sub ..,
    unary_bufs_sub .., nullary_bufs_sub .., unary_bufs_sub .., unary_bufs_sub .., unary_bufs_sub .., ternary_bufs_sub .., nullary_bufs_sub .., binary_bufs_sub .., nullary_bufs_sub .., binary_bufs_sub .., unary_bufs_sub .., unary_bufs_sub .., nullary_bufs_sub .., unary_bufs_sub .., binary_bufs_sub .., nullary_bufs_sub .., unary_bufs_sub .., unary_bufs_sub .., ternary_bufs_sub .., unary_bufs_sub ..,
    binary_bufs_sub .., unary_bufs_sub .., nullary_bufs_sub .., binary_bufs_sub .., unary_bufs_sub .., unary_bufs_sub .., binary_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub ..,
    binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., binary_bufs_sub .., nullary_bufs_sub .., unary_bufs_sub .., unary_bufs_sub .., ternary_bufs_sub .., unary_bufs_sub .., nullary_bufs_sub .., binary_bufs_sub ..,
    binary_bufs_sub .., nullary_bufs_sub .., binary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., binary_bufs_sub .., nullary_bufs_sub .., unary_bufs_sub .., unary_bufs_sub ..,
    ternary_bufs_sub .., nullary_bufs_sub .., binary_bufs_sub .., nullary_bufs_sub .., binary_bufs_sub .., unary_bufs_sub .., nullary_bufs_sub .., binary_bufs_sub .., binary_bufs_sub .., binary_bufs_sub .., unary_bufs_sub .., unary_bufs_sub .., binary_bufs_sub ..⟩

theorem no_scoped_refs : (Finset.univ.filter fun b : Ref sig .tc => b.isScoped) = ∅ := by decide +kernel
theorem no_scoped_sems : (Finset.univ.filter fun sm : SemLoc sig => sm.isScoped .tc) = ∅ := by decide +kernel

theorem fresh_of_mem (op : HloOp τ sig (Elt F)) (h : op ∈ (ops (F := F))) : op.fresh = ∅ := by
  have h' := List.mem_map_of_mem (f := HloOp.fresh) h
  rw [ops_fresh] at h'
  obtain ⟨_, _, e⟩ := List.mem_map.mp h'
  exact e.symm

variable (m : (ℓ : Loc nD τ sig) → Buf (Elt F) ℓ) (ρ : Dev nD → PrngReg)

/-- The launch contents, as a valuation. -/
abbrev V₀ (d : Dev nD) : Valuation τ sig (Elt F) := launchContents m d

theorem run_main : θ_run defs (onTc (τ := τ) (main (F := F))) ⟨m, fun _ => 0, ρ⟩ fun r =>
    (∀ (d : Dev nD) (b : Ref sig .tc), r.2.mem ((d.tc : Thread nD τ).loc b) = val (V₀ m d) b) ∧ r.2.sem = fun _ => 0 :=
  (θ_run defs _ _).mono (fun r h => ⟨h, sem_eq_zero_of_no_sems (by decide) r.2⟩)
    (run_hlo defs main main_isSeq no_scoped_refs no_scoped_sems ops_sub fresh_of_mem m ρ)

/-- An argument is written by no operation. -/
theorem val_arg (V : Valuation τ sig (Elt F)) (r : Ref sig .tc) (h : r.idx.val < 4) : val V r = V (Proc.devRef .tc r) :=
  after_unwritten (ops := ops (F := F)) written ops_writes (not_mem_drop 0 (by omega) (by omega)) V

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c main_arg0).trans (val_arg _ main_arg0 (by decide)), (h.1 c main_arg1).trans (val_arg _ main_arg1 (by decide)),
    (h.1 c main_arg2).trans (val_arg _ main_arg2 (by decide)), (h.1 c main_arg3).trans (val_arg _ main_arg3 (by decide))⟩, h.2⟩) (run_main m ρ)

end Cert.RefRun
-- ==== Proof.KArrays.lean ====
/-
  The arrays of the two kernel calls: the blocks they read and the arrays they leave, at an index.
-/
module

public import proofs.«01_k».proof.Proof.MatchData
public import proofs.«01_k».proof.Proof.LossData
public import Idealize.ShloMosaic.Lib.Pipeline.ValueKit

@[expose] public section

set_option maxRecDepth 16384

namespace Cert.KernelIdeal.MatchArr

open Cert.KernelIdeal Cert.KernelIdeal.Gen Cert.KernelIdeal.Match
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx : ∀ t : Fin cfg0.N, win0_0.index t = ![0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] :=
  (by decide +kernel : ∀ t : Fin grid0.N, _)

/-- The point of an image. -/
def pt (b : Fin 32) : Fin cfg0.N := ⟨b.val, lt_of_lt_of_eq b.isLt (show cfg0.N = 32 from N_0).symm⟩

theorem blk0 (c : Dev nD) (t : Fin cfg0.N) (k : Fin 4) (p : Fin 8732) :
    iblk V c 0 t (ix2 k p) = V c main_v2 (ix2 k p) := by
  blk_point [iblk, idx t]
theorem blk1 (c : Dev nD) (t : Fin cfg0.N) (b : Fin 32) (h : t.val = b.val) (o : Fin 16) (k : Fin 5) :
    iblk V c 1 t (ix3 0 o k) = V c main_arg3 (ix3 b o k) := by
  blk_point [iblk, idx t, h]
theorem blk2 (c : Dev nD) (t : Fin cfg0.N) (b : Fin 32) (h : t.val = b.val) (k : Fin 5) (o : Fin 16) :
    iblk V c 2 t (ix3 0 k o) = V c main_v3 (ix3 b k o) := by
  blk_point [iblk, idx t, h]

theorem row_eq {α : Type} {s : Shape} (f : Fin cfg0.N → s.Idx → α) {t t' : Fin cfg0.N} {y y' : s.Idx} (ht : t' = t) (hy : y' = y) :
    f t y = f t' y' := by rw [ht, hy]

/-- The labels left for every image. -/
theorem lbl (c : Dev nD) :
    (dat V c).arrAt 3 cfg0.N = fun j : S32x1x8732.Idx => matchLbl (iblk V c 0 (pt (j 0))) (iblk V c 1 (pt (j 0))) (iblk V c 2 (pt (j 0))) (ix3 0 (j 1) (j 2)) := by
  refine (dat V c).arrAt_eq_of_covers 3 _ (by decide +kernel) fun t hf y => ?_
  have hy0 : (y 0).val < 1 := (y 0).isLt
  have h0 : ((((cfg0.win 3).blk t).view.emb y) 0 : ℕ) = t.val := by blk_simp [idx t]
  blk_simp
  rw [after3]
  refine row_eq (fun t y => matchLbl (iblk V c 0 t) (iblk V c 1 t) (iblk V c 2 t) y) (Fin.ext h0) ?_
  blk_ext [idx t]

/-- The encoded boxes left for every image. -/
theorem loct (c : Dev nD) :
    (dat V c).arrAt 4 cfg0.N = fun j : S32x4x8732.Idx => matchLoct (iblk V c 0 (pt (j 0))) (iblk V c 1 (pt (j 0))) (iblk V c 2 (pt (j 0))) (ix3 0 (j 1) (j 2)) := by
  refine (dat V c).arrAt_eq_of_covers 4 _ (by decide +kernel) fun t hf y => ?_
  have hy0 : (y 0).val < 1 := (y 0).isLt
  have h0 : ((((cfg0.win 4).blk t).view.emb y) 0 : ℕ) = t.val := by blk_simp [idx t]
  blk_simp
  rw [after4]
  refine row_eq (fun t y => matchLoct (iblk V c 0 t) (iblk V c 1 t) (iblk V c 2 t) y) (Fin.ext h0) ?_
  blk_ext [idx t]

/-- The counts left for every image. -/
theorem stats (c : Dev nD) :
    (dat V c).arrAt 5 cfg0.N = fun j : S32x1x128.Idx => matchStats (iblk V c 0 (pt (j 0))) (iblk V c 1 (pt (j 0))) (iblk V c 2 (pt (j 0))) (ix3 0 (j 1) (j 2)) := by
  refine (dat V c).arrAt_eq_of_covers 5 _ (by decide +kernel) fun t hf y => ?_
  have hy0 : (y 0).val < 1 := (y 0).isLt
  have h0 : ((((cfg0.win 5).blk t).view.emb y) 0 : ℕ) = t.val := by blk_simp [idx t]
  blk_simp
  rw [after5]
  refine row_eq (fun t y => matchStats (iblk V c 0 t) (iblk V c 1 t) (iblk V c 2 t) y) (Fin.ext h0) ?_
  blk_ext [idx t]

end Cert.KernelIdeal.MatchArr

namespace Cert.KernelIdeal.LossArr

open Cert.KernelIdeal Cert.KernelIdeal.Gen Cert.KernelIdeal.Loss
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx : ∀ t : Fin cfg1.N, win1_0.index t = ![min t.val 31, 0, 0] ∧ win1_1.index t = ![min t.val 31, 0, 0] ∧ win1_2.index t = ![min t.val 31, 0, 0]
    ∧ win1_3.index t = ![min t.val 31, 0, 0] ∧ win1_4.index t = ![min t.val 31, 0, 0] ∧ win1_5.index t = ![0, 0] :=
  (by decide +kernel : ∀ t : Fin grid1.N, _)

theorem blk0 (c : Dev nD) (t : Fin cfg1.N) (b : Fin 32) (h : min t.val 31 = b.val) (k : Fin 21) (p : Fin 8732) :
    iblk V c 0 t (ix3 0 k p) = V c main_v1 (ix3 b k p) := by
  blk_point [iblk, idx t, h]
theorem blk1 (c : Dev nD) (t : Fin cfg1.N) (b : Fin 32) (h : min t.val 31 = b.val) (k : Fin 4) (p : Fin 8732) :
    iblk V c 1 t (ix3 0 k p) = V c main_v0 (ix3 b k p) := by
  blk_point [iblk, idx t, h]
theorem blk2 (c : Dev nD) (t : Fin cfg1.N) (b : Fin 32) (h : min t.val 31 = b.val) (p : Fin 8732) :
    iblk V c 2 t (ix3 0 0 p) = V c main_v4_0 (ix3 b 0 p) := by
  blk_point [iblk, idx t, h]
theorem blk3 (c : Dev nD) (t : Fin cfg1.N) (b : Fin 32) (h : min t.val 31 = b.val) (k : Fin 4) (p : Fin 8732) :
    iblk V c 3 t (ix3 0 k p) = V c main_v4_1 (ix3 b k p) := by
  blk_point [iblk, idx t, h]
theorem blk4 (c : Dev nD) (t : Fin cfg1.N) (b : Fin 32) (h : min t.val 31 = b.val) (k : Fin 128) :
    iblk V c 4 t (ix3 0 0 k) = V c main_v4_2 (ix3 b 0 k) := by
  blk_point [iblk, idx t, h]

/-- The row of results left. -/
theorem out (c : Dev nD) : (dat V c).arrAt 5 cfg1.N = (mined (lossAll V c) (sumAll V c) : FVec Ideal S1x128 .f32) := by
  refine (dat V c).arrAt_eq_of_covers 5 _ (by decide +kernel) fun t hf y => ?_
  blk_simp
  rw [after5]
  refine congrArg (mined (lossAll V c) (sumAll V c)) ?_
  blk_ext [idx t]

end Cert.KernelIdeal.LossArr
-- ==== Proof.Spec.lean ====
/-
  The loss in plain mathematics: the functions of one image that both programs compute.

  `pr`, `tg`, `lo`, `cf` are one prior, one target, one row of predicted offsets and one row of logits; an image has
  8732 priors and 16 targets. Everything is over the extended reals.
-/
module

public import Idealize.ShloMosaic.Lib.Pointwise
public import Mathlib.Data.Finset.Max
public import Mathlib.Data.Fintype.Basic

@[expose] public section

namespace Cert.Spec

open Idealize.ShloMosaic

/-- The half of an extended real, as both programs take it: the quotient by the word of 2.0. -/
noncomputable def half (x : EReal) : EReal := Ideal.div x (Ideal.ofBits .f32 0x40000000#32)
/-- The length of a side of the overlap of `[a0, a1]` and `[b0, b1]`. -/
noncomputable def side (a0 a1 b0 b1 : EReal) : EReal := max 0 (min a1 b1 - max a0 b0)
/-- The overlap area of a target box with a prior, the prior in centre form. -/
noncomputable def inter (pr : Fin 4 → EReal) (tg : Fin 5 → EReal) : EReal :=
  side (tg 0) (tg 2) (pr 0 - half (pr 2)) (pr 0 + half (pr 2)) * side (tg 1) (tg 3) (pr 1 - half (pr 3)) (pr 1 + half (pr 3))
/-- The intersection over union of a target box with a prior. -/
noncomputable def iou (pr : Fin 4 → EReal) (tg : Fin 5 → EReal) : EReal :=
  Ideal.div (inter pr tg)
    ((tg 2 - tg 0) * (tg 3 - tg 1)
      + ((pr 0 + half (pr 2)) - (pr 0 - half (pr 2))) * ((pr 1 + half (pr 3)) - (pr 1 - half (pr 3))) - inter pr tg)

/-- The first position of a largest value. -/
noncomputable def amax {n : ℕ} [NeZero n] (f : Fin n → EReal) : Fin n :=
  (Finset.univ.filter fun i => ∀ j, f j ≤ f i).min' (by
    obtain ⟨i, hi⟩ := Finite.exists_max f
    exact ⟨i, Finset.mem_filter.2 ⟨Finset.mem_univ _, hi⟩⟩)

theorem amax_max {n : ℕ} [NeZero n] (f : Fin n → EReal) (j : Fin n) : f j ≤ f (amax f) :=
  (Finset.mem_filter.1 (Finset.min'_mem (Finset.univ.filter fun i => ∀ j, f j ≤ f i) _)).2 j

theorem amax_le {n : ℕ} [NeZero n] (f : Fin n → EReal) (i : Fin n) (h : ∀ j, f j ≤ f i) : amax f ≤ i :=
  Finset.min'_le _ _ (Finset.mem_filter.2 ⟨Finset.mem_univ _, h⟩)

/-- The two facts that say what `amax` is. -/
theorem amax_unique {n : ℕ} [NeZero n] (f : Fin n → EReal) (i : Fin n) (h : ∀ j, f j ≤ f i) (hl : ∀ j, j < i → f j ≠ f i) :
    amax f = i := by
  rcases lt_or_eq_of_le (amax_le f i h) with hlt | he
  · exact (hl _ hlt (le_antisymm (h _) (amax_max f i))).elim
  · exact he

/-- Whom prior `p` is forced to: the last target that names it, if one does. -/
noncomputable def forced (b : Fin 16 → Fin 8732) (p : Fin 8732) : WithBot (Fin 16) := (Finset.univ.filter fun o => b o = p).max

theorem forced_eq_coe (b : Fin 16 → Fin 8732) (p : Fin 8732) (o : Fin 16) (h : b o = p) (hl : ∀ o', o < o' → b o' ≠ p) :
    forced b p = (o : WithBot (Fin 16)) := by
  refine le_antisymm (Finset.max_le fun o' ho' => ?_) (Finset.le_max (Finset.mem_filter.2 ⟨Finset.mem_univ _, h⟩))
  exact WithBot.coe_le_coe.2 (not_lt.1 fun hlt => hl o' hlt (Finset.mem_filter.1 ho').2)

theorem forced_eq_bot (b : Fin 16 → Fin 8732) (p : Fin 8732) (h : ∀ o, b o ≠ p) : forced b p = ⊥ :=
  Finset.max_eq_bot.2 (Finset.filter_eq_empty_iff.2 fun o _ => h o)

/-- Every prior is forced to its last namer, or has none. -/
theorem forced_cases (b : Fin 16 → Fin 8732) (p : Fin 8732) :
    (∃ o : Fin 16, b o = p ∧ (∀ o', o < o' → b o' ≠ p) ∧ forced b p = (o : WithBot (Fin 16)))
      ∨ ((∀ o, b o ≠ p) ∧ forced b p = ⊥) := by
  by_cases h : ∀ o, b o ≠ p
  · exact Or.inr ⟨h, forced_eq_bot b p h⟩
  · push Not at h
    obtain ⟨o, ho⟩ := h
    have hne : (Finset.univ.filter fun o => b o = p).Nonempty := ⟨o, Finset.mem_filter.2 ⟨Finset.mem_univ _, ho⟩⟩
    have hm := Finset.max'_mem _ hne
    refine Or.inl ⟨_, (Finset.mem_filter.1 hm).2, fun o' hlt hb => ?_, (Finset.coe_max' hne).symm⟩
    exact absurd (Finset.le_max' _ o' (Finset.mem_filter.2 ⟨Finset.mem_univ _, hb⟩)) (not_le.2 hlt)

section Image
variable (pr : Fin 8732 → Fin 4 → EReal) (tg : Fin 16 → Fin 5 → EReal)

/-- The prior each target names: the first of its best overlap. -/
noncomputable def bestPrior (o : Fin 16) : Fin 8732 := amax fun p => iou (pr p) (tg o)
/-- The target each prior is matched to: the last that names it, else the first of its best overlap. -/
noncomputable def target (p : Fin 8732) : Fin 16 :=
  (forced (bestPrior pr tg) p).recBotCoe (amax fun o => iou (pr p) (tg o)) id
/-- The overlap each prior is matched with: 2.0 where forced. -/
noncomputable def overlap (p : Fin 8732) : EReal :=
  (forced (bestPrior pr tg) p).recBotCoe (iou (pr p) (tg (amax fun o => iou (pr p) (tg o)))) fun _ => Ideal.ofBits .f32 0x40000000#32
/-- The label of each prior: 0 (background) below the threshold 0.5, else the matched target's. -/
noncomputable def label (p : Fin 8732) : EReal :=
  if overlap pr tg p < Ideal.ofBits .f32 0x3F000000#32 then 0 else tg (target pr tg p) 4
end Image

/-- A target box encoded against a prior: the centre's offset and the logarithm of the sides' ratio, over the variances. -/
noncomputable def encode (pr : Fin 4 → EReal) (tg : Fin 5 → EReal) : Fin 4 → EReal :=
  ![Ideal.div (half (tg 0 + tg 2) - pr 0) (Ideal.ofBits .f32 0x3DCCCCCD#32 * pr 2),
    Ideal.div (half (tg 1 + tg 3) - pr 1) (Ideal.ofBits .f32 0x3DCCCCCD#32 * pr 3),
    Ideal.div (Ideal.log (max (Ideal.div (tg 2 - tg 0) (pr 2)) (Ideal.ofBits .f32 0x322BCC77#32))) (Ideal.ofBits .f32 0x3E4CCCCD#32),
    Ideal.div (Ideal.log (max (Ideal.div (tg 3 - tg 1) (pr 3)) (Ideal.ofBits .f32 0x322BCC77#32))) (Ideal.ofBits .f32 0x3E4CCCCD#32)]

/-- The smooth absolute value of a difference. -/
noncomputable def smooth (d : EReal) : EReal :=
  if max d (-d) < 1 then Ideal.ofBits .f32 0x3F000000#32 * max d (-d) * max d (-d) else max d (-d) - Ideal.ofBits .f32 0x3F000000#32

end Cert.Spec
-- ==== Proof.ArgFold.lean ====
/-
  Folds that find a largest value and its position: the kernel's (a minimum of indices, a maximum of indices) and the
  host's (one fold over pairs of a value and an index), and the last writer of a scatter.
-/
module

public import proofs.«01_k».proof.Proof.Spec
public import proofs.«01_k».proof.Proof.Gen.ReferenceIdeal
public import Idealize.ShloMosaic.PureOps.Ideal.Laws
public import Idealize.ShloMosaic.Lib.Routing.OpsPair
public import Idealize.ShloMosaic.Lib.StableHlo.Predicate

@[expose] public section

namespace Cert.Spec

open Idealize.ShloMosaic

theorem ofBits_negInf : Ideal.ofBits .f32 0xFF800000#32 = ⊥ := by simp [Ideal.ofBits, Ideal.ieee]

/-- A fold by maximum from −∞ is the value at the first position of the largest. -/
theorem fold_max_eq {n : ℕ} [NeZero n] (f : Fin n → EReal) :
    Finset.univ.fold max (Ideal.ofBits .f32 0xFF800000#32) f = f (amax f) := by
  rw [ofBits_negInf]
  refine le_antisymm (Finset.fold_max_le _ |>.2 ⟨bot_le, fun i _ => amax_max f i⟩) (Finset.le_fold_max _ |>.2 (Or.inr ⟨_, Finset.mem_univ _, le_rfl⟩))

theorem minsi_eq (x y : BitVec 32) : IntOp.minsi x y = if x.slt y = true then x else y := rfl
theorem maxsi_eq (x y : BitVec 32) : IntOp.maxsi x y = if y.slt x = true then x else y := rfl

/-- A fold that always keeps one of its two operands and never lets the order go up ends at a least element: here for
    signed words. -/
theorem fold_minsi_eq {ι : Type} [Fintype ι] (g : ι → BitVec 32) (init : BitVec 32) (i0 : ι)
    (h0 : ∀ i, (g i0).toInt ≤ (g i).toInt) (hi : (g i0).toInt ≤ init.toInt) :
    Finset.univ.fold IntOp.minsi init g = g i0 := by
  classical
  have key : ∀ S : Finset ι, ((∀ i ∈ S, (S.fold IntOp.minsi init g).toInt ≤ (g i).toInt))
      ∧ (S.fold IntOp.minsi init g = init ∨ ∃ i ∈ S, S.fold IntOp.minsi init g = g i) := by
    intro S
    induction S using Finset.induction_on with
    | empty => exact ⟨fun i hi => absurd hi (Finset.notMem_empty i), Or.inl rfl⟩
    | insert a S ha ih =>
      rw [Finset.fold_insert ha]
      rw [minsi_eq]
      by_cases hlt : (g a).slt (S.fold IntOp.minsi init g) = true
      · rw [if_pos hlt]
        refine ⟨fun i hi => ?_, Or.inr ⟨a, Finset.mem_insert_self a S, rfl⟩⟩
        rcases Finset.mem_insert.1 hi with rfl | hi
        · exact le_rfl
        · exact le_trans (le_of_lt (BitVec.slt_iff_toInt_lt.1 hlt)) (ih.1 i hi)
      · rw [if_neg hlt]
        refine ⟨fun i hi => ?_, ih.2.imp id fun ⟨i, hi, e⟩ => ⟨i, Finset.mem_insert_of_mem hi, e⟩⟩
        rcases Finset.mem_insert.1 hi with rfl | hi
        · exact not_lt.1 fun h => hlt (BitVec.slt_iff_toInt_lt.2 h)
        · exact ih.1 i hi
  obtain ⟨h1, h2⟩ := key Finset.univ
  refine BitVec.eq_of_toInt_eq (le_antisymm (h1 i0 (Finset.mem_univ _)) ?_)
  rcases h2 with e | ⟨i, -, e⟩
  · rw [e]; exact hi
  · rw [e]; exact h0 i

theorem fold_maxsi_eq {ι : Type} [Fintype ι] (g : ι → BitVec 32) (init : BitVec 32) (i0 : ι)
    (h0 : ∀ i, (g i).toInt ≤ (g i0).toInt) (hi : init.toInt ≤ (g i0).toInt) :
    Finset.univ.fold IntOp.maxsi init g = g i0 := by
  classical
  have key : ∀ S : Finset ι, ((∀ i ∈ S, (g i).toInt ≤ (S.fold IntOp.maxsi init g).toInt))
      ∧ (S.fold IntOp.maxsi init g = init ∨ ∃ i ∈ S, S.fold IntOp.maxsi init g = g i) := by
    intro S
    induction S using Finset.induction_on with
    | empty => exact ⟨fun i hi => absurd hi (Finset.notMem_empty i), Or.inl rfl⟩
    | insert a S ha ih =>
      rw [Finset.fold_insert ha]
      rw [maxsi_eq]
      by_cases hlt : (S.fold IntOp.maxsi init g).slt (g a) = true
      · rw [if_pos hlt]
        refine ⟨fun i hi => ?_, Or.inr ⟨a, Finset.mem_insert_self a S, rfl⟩⟩
        rcases Finset.mem_insert.1 hi with rfl | hi
        · exact le_rfl
        · exact le_trans (ih.1 i hi) (le_of_lt (BitVec.slt_iff_toInt_lt.1 hlt))
      · rw [if_neg hlt]
        refine ⟨fun i hi => ?_, ih.2.imp id fun ⟨i, hi, e⟩ => ⟨i, Finset.mem_insert_of_mem hi, e⟩⟩
        rcases Finset.mem_insert.1 hi with rfl | hi
        · exact not_lt.1 fun h => hlt (BitVec.slt_iff_toInt_lt.2 h)
        · exact ih.1 i hi
  obtain ⟨h1, h2⟩ := key Finset.univ
  refine BitVec.eq_of_toInt_eq (le_antisymm ?_ (h1 i0 (Finset.mem_univ _)))
  rcases h2 with e | ⟨i, -, e⟩
  · rw [e]; exact hi
  · rw [e]; exact h0 i

theorem toInt_small (n : ℕ) (h : n < 2 ^ 31) : (BitVec.ofNat 32 n).toInt = (n : Int) :=
  StableHlo.Predicate.toInt_ofNat_small n h

/-- The least index at which a value is the largest, another word past every index standing for the rest. -/
theorem fold_minsi_amax {n : ℕ} [NeZero n] (hn : n < 2 ^ 31) (f : Fin n → EReal) (m : EReal) (hm : m = f (amax f)) :
    Finset.univ.fold IntOp.minsi 0x7FFFFFFF#32 (fun i : Fin n => if f i = m then BitVec.ofNat 32 i.val else BitVec.ofNat 32 n)
      = BitVec.ofNat 32 (amax f).val := by
  subst hm
  have hlt : ∀ i : Fin n, i.val < 2 ^ 31 := fun i => lt_trans i.isLt hn
  refine (fold_minsi_eq _ _ (amax f) (fun i => ?_) ?_).trans (if_pos rfl)
  · rw [if_pos rfl, toInt_small _ (hlt _)]
    split
    · next h =>
      rw [toInt_small _ (hlt _)]
      have := amax_le f i fun j => h ▸ amax_max f j
      exact_mod_cast this
    · rw [toInt_small _ hn]
      exact_mod_cast (amax f).isLt.le
  · rw [if_pos rfl, toInt_small _ (hlt _)]
    have := hlt (amax f)
    have e : (0x7FFFFFFF#32).toInt = 2 ^ 31 - 1 := by decide
    rw [e]; omega

/-- The greatest target that names prior `p`, or −1. -/
theorem fold_maxsi_forced (b : Fin 16 → Fin 8732) (p : Fin 8732) :
    Finset.univ.fold IntOp.maxsi 0x80000000#32 (fun o : Fin 16 => if b o = p then BitVec.ofNat 32 o.val else 0xFFFFFFFF#32)
      = (forced b p).recBotCoe 0xFFFFFFFF#32 fun o => BitVec.ofNat 32 o.val := by
  have em : (0xFFFFFFFF#32).toInt = -1 := by decide
  have ei : (0x80000000#32).toInt = -2 ^ 31 := by decide
  have hlt : ∀ i : Fin 16, i.val < 2 ^ 31 := fun i => lt_trans i.isLt (by decide)
  rcases forced_cases b p with ⟨o, ho, hl, e⟩ | ⟨h, e⟩
  · rw [e]
    refine (fold_maxsi_eq _ _ o (fun i => ?_) ?_).trans (if_pos ho)
    · rw [if_pos ho, toInt_small _ (hlt _)]
      split
      · next hi =>
        rw [toInt_small _ (hlt _)]
        exact_mod_cast not_lt.1 fun hlt' => hl i hlt' hi
      · rw [em]; omega
    · rw [if_pos ho, toInt_small _ (hlt _), ei]; omega
  · rw [e]
    refine (fold_maxsi_eq _ _ 0 (fun i => ?_) ?_).trans (if_neg (h 0))
    · rw [if_neg (h 0), if_neg (h i)]
    · rw [if_neg (h 0), em, ei]; decide

/-! ## The host's arg-max -/

theorem one_or (x : BitVec 1) : 1#1 ||| x = 1#1 := by revert x; decide

/-- What the host's arg-max body does to two pairs. -/
theorem reducer_eq (a b : EReal × BitVec 32) :
    Cert.ReferenceIdeal.reducer_argmax_f32_i32 (F := Ideal) a b
      = if b.1 < a.1 then a else if a.1 = b.1 ∧ a.2.slt b.2 = true then (b.1, a.2) else b := by
  obtain ⟨a1, a2⟩ := a
  obtain ⟨b1, b2⟩ := b
  by_cases h : b1 < a1
  · simp [Cert.ReferenceIdeal.reducer_argmax_f32_i32, Ideal.cmpf_def, Ideal.cmp, IntOp.cmpi, IntOp.ori, IntOp.andi, Scalar.select, h, one_or]
  · by_cases h2 : a1 = b1 <;> by_cases h3 : a2.slt b2 = true <;>
      simp [Cert.ReferenceIdeal.reducer_argmax_f32_i32, Ideal.cmpf_def, Ideal.cmp, IntOp.cmpi, IntOp.ori, IntOp.andi, Scalar.select, h, h2, h3]

/-- After a run of the body over a list of pairs, the pair held is one met, of a largest value, and of the least index
    among those of that value. -/
theorem foldl_reducer {ι : Type} (x : ι → EReal) (y : ι → BitVec 32) (l : List ι) (r0 : EReal × BitVec 32) :
    let r := l.foldl (fun r i => Cert.ReferenceIdeal.reducer_argmax_f32_i32 (F := Ideal) r (x i, y i)) r0
    (r = r0 ∨ ∃ i ∈ l, r = (x i, y i)) ∧ (r0.1 ≤ r.1 ∧ (r0.1 = r.1 → r.2.toInt ≤ r0.2.toInt))
      ∧ ∀ i ∈ l, x i ≤ r.1 ∧ (x i = r.1 → r.2.toInt ≤ (y i).toInt) := by
  induction l generalizing r0 with
  | nil => exact ⟨Or.inl rfl, ⟨le_rfl, fun _ => le_rfl⟩, fun i hi => absurd hi List.not_mem_nil⟩
  | cons a l ih =>
    simp only [List.foldl_cons]
    obtain ⟨h1, ⟨h2, h2'⟩, h3⟩ := ih (Cert.ReferenceIdeal.reducer_argmax_f32_i32 (F := Ideal) r0 (x a, y a))
    generalize List.foldl _ _ l = r at h1 h2 h2' h3 ⊢
    rw [reducer_eq] at h1 h2 h2'
    by_cases hlt : x a < r0.1
    · rw [if_pos hlt] at h1 h2 h2'
      refine ⟨h1.imp id fun ⟨i, hi, e⟩ => ⟨i, List.mem_cons_of_mem _ hi, e⟩, ⟨h2, h2'⟩, fun i hi => ?_⟩
      rcases List.mem_cons.1 hi with rfl | hi
      · exact ⟨(hlt.trans_le h2).le, fun e => absurd (hlt.trans_le h2) (e ▸ lt_irrefl _)⟩
      · exact h3 i hi
    · rw [if_neg hlt] at h1 h2 h2'
      by_cases he : r0.1 = x a ∧ r0.2.slt (y a) = true
      · rw [if_pos he] at h1 h2 h2'
        have er : (x a, r0.2) = r0 := Prod.ext he.1.symm rfl
        rw [er] at h1 h2 h2'
        refine ⟨h1.imp id fun ⟨i, hi, e⟩ => ⟨i, List.mem_cons_of_mem _ hi, e⟩, ⟨h2, h2'⟩, fun i hi => ?_⟩
        rcases List.mem_cons.1 hi with rfl | hi
        · exact ⟨he.1 ▸ h2, fun e => (h2' (he.1.trans e)).trans (BitVec.slt_iff_toInt_lt.1 he.2).le⟩
        · exact h3 i hi
      · rw [if_neg he] at h1 h2 h2'
        refine ⟨Or.inr ?_, ⟨(not_lt.1 hlt).trans h2, fun e => ?_⟩, fun i hi => ?_⟩
        · rcases h1 with e | ⟨i, hi, e⟩
          · exact ⟨a, List.mem_cons_self, e⟩
          · exact ⟨i, List.mem_cons_of_mem _ hi, e⟩
        · have ea : r0.1 = x a := le_antisymm (not_lt.1 hlt) (e ▸ h2)
          have : ¬ r0.2.toInt < (y a).toInt := fun h => he ⟨ea, BitVec.slt_iff_toInt_lt.2 h⟩
          exact (h2' (ea ▸ e)).trans (not_lt.1 this)
        · rcases List.mem_cons.1 hi with rfl | hi
          · exact ⟨h2, h2'⟩
          · exact h3 i hi

/-- The host's arg-max along one axis, its fibre at `j` enumerated by `g`: the first position of the largest value. -/
theorem argmax_apply {s t u : Shape} {axes : List (Fin s.rank)} {n : ℕ} [NeZero n] (hn : n < 2 ^ 31) (x : FVec Ideal s .f32)
    (y : IVec s 32) (ix : FVec Ideal u .f32) (iy : IVec u 32) (h : s.ReducesTo axes t) (hu : 0 < u.numel) (j : t.Idx)
    (g : Fin n → s.Idx) (hg : ∀ i, h.drop i = j ↔ ∃ k, i = g k) (hy : ∀ k, y (g k) = BitVec.ofNat 32 k.val)
    (hix : ix (Shape.Idx.first hu) = ⊥) (hiy : iy (Shape.Idx.first hu) = 0#32) :
    (Host.argReduce (Cert.ReferenceIdeal.reducer_argmax_f32_i32 (F := Ideal)) x y ix iy h hu j).2
      = BitVec.ofNat 32 (amax fun k => x (g k)).val := by
  rw [Ideal.argReduce_eq_reduce2]
  unfold Host.reduce2
  have hk := foldl_reducer (fun m => x (s.rowMajor.symm m)) (fun m => y (s.rowMajor.symm m))
    ((List.finRange s.numel).filter fun m => h.drop (s.rowMajor.symm m) = j) (ix (Shape.Idx.first hu), iy (Shape.Idx.first hu))
  have hmem : ∀ k : Fin n, s.rowMajor (g k) ∈ (List.finRange s.numel).filter fun m => h.drop (s.rowMajor.symm m) = j := fun k =>
    List.mem_filter.2 ⟨List.mem_finRange _, by rw [Equiv.symm_apply_apply]; exact decide_eq_true ((hg _).2 ⟨k, rfl⟩)⟩
  have hget : ∀ m ∈ (List.finRange s.numel).filter fun m => h.drop (s.rowMajor.symm m) = j, ∃ k, s.rowMajor.symm m = g k :=
    fun m hm => (hg _).1 (of_decide_eq_true (List.mem_filter.1 hm).2)
  revert hk
  generalize List.foldl _ _ _ = r
  rintro ⟨h1, ⟨h2, h2'⟩, h3⟩
  have hlt : ∀ k : Fin n, k.val < 2 ^ 31 := fun k => lt_trans k.isLt hn
  have hmax : ∀ k, x (g k) ≤ r.1 := fun k => by simpa using (h3 _ (hmem k)).1
  have hmin : ∀ k, x (g k) = r.1 → r.2.toInt ≤ (k.val : Int) := fun k e => by
    have := (h3 _ (hmem k)).2 (by simpa using e)
    simpa [hy, toInt_small _ (hlt k)] using this
  rcases h1 with e | ⟨m, hm, e⟩
  · have e1 : r.1 = ⊥ := by rw [e]; exact hix
    have e2 : r.2 = 0#32 := by rw [e]; exact hiy
    rw [e2, amax_unique (fun k => x (g k)) 0 (fun k => by
      have hb : x (g k) = ⊥ := le_bot_iff.1 (e1 ▸ hmax k)
      rw [hb]; exact bot_le) (fun k hk => absurd hk (Fin.not_lt_zero k))]
    rfl
  · obtain ⟨k, hk⟩ := hget m hm
    rw [hk, hy] at e
    have e1 : r.1 = x (g k) := by rw [e]
    have e2 : r.2 = BitVec.ofNat 32 k.val := by rw [e]
    rw [e2, amax_unique (fun k => x (g k)) k (fun k' => e1 ▸ hmax k') fun k' hlt' he => ?_]
    have := hmin k' (he.trans e1.symm)
    rw [e2, toInt_small _ (hlt k)] at this
    exact absurd (by exact_mod_cast this) (not_le.2 hlt')

/-! ## The last writer of a scatter -/

theorem foldl_noHit {ι α : Type} (hit : ι → Prop) [DecidablePred hit] (v : ι → α) (l : List ι) (a : α) (h : ∀ n ∈ l, ¬ hit n) :
    l.foldl (fun a n => if hit n then v n else a) a = a := by
  induction l with
  | nil => rfl
  | cons n l ih =>
    rw [List.foldl_cons, if_neg (h n List.mem_cons_self)]
    exact ih fun n hn => h n (List.mem_cons_of_mem _ hn)

theorem foldl_lastHit {N : ℕ} {α : Type} (hit : Fin N → Prop) [DecidablePred hit] (v : Fin N → α) (a : α) (n0 : Fin N)
    (h0 : hit n0) (hl : ∀ n, n0 < n → ¬ hit n) :
    (List.finRange N).foldl (fun a n => if hit n then v n else a) a = v n0 := by
  obtain ⟨l1, l2, e⟩ := List.append_of_mem (List.mem_finRange n0)
  have hp := List.pairwise_lt_finRange N
  rw [e] at hp
  rw [e, List.foldl_append, List.foldl_cons, if_pos h0]
  exact foldl_noHit hit v l2 _ fun n hn => hl n ((List.pairwise_cons.1 (List.pairwise_append.1 hp).2.1).1 n hn)

/-! ## Words -/

theorem cmpi_eq_small (n m : ℕ) (hn : n < 2 ^ 32) (hm : m < 2 ^ 32) :
    (IntOp.cmpi .eq (BitVec.ofNat 32 n) (BitVec.ofNat 32 m) : BitVec 1) = if n = m then 1#1 else 0#1 := by
  by_cases h : n = m
  · subst h; simp [IntOp.cmpi]
  · have hne : BitVec.ofNat 32 n ≠ BitVec.ofNat 32 m := fun e => h (by
      have := congrArg BitVec.toNat e
      rw [BitVec.toNat_ofNat, BitVec.toNat_ofNat, Nat.mod_eq_of_lt hn, Nat.mod_eq_of_lt hm] at this
      exact this)
    show BitVec.ofBool (BitVec.ofNat 32 n == BitVec.ofNat 32 m) = _
    rw [beq_eq_false_iff_ne.2 hne, if_neg h]; rfl

/-- A comparison's bit as a float. -/
theorem bit_float (a b : BitVec 32) :
    (FloatOps.sitofp (F := Ideal) .f32 (BitVec.setWidth 32 (IntOp.cmpi .eq a b)) : EReal) = if a = b then 1 else 0 := by
  by_cases h : a = b
  · subst h
    rw [if_pos rfl, show IntOp.cmpi .eq a a = 1#1 from by simp [IntOp.cmpi]]
    simp [FloatOps.sitofp]
  · rw [if_neg h, show IntOp.cmpi .eq a b = 0#1 from by
      show BitVec.ofBool (a == b) = _
      rw [beq_eq_false_iff_ne.2 h]; rfl]
    simp [FloatOps.sitofp]

theorem sel_one {α : Type} (x y : α) : Scalar.select 1#1 x y = x := rfl
theorem sel_zero {α : Type} (x y : α) : Scalar.select 0#1 x y = y := rfl

/-- The cross entropy of a row of logits at a label's word. -/
noncomputable def ce (x : Fin 21 → EReal) (w : BitVec 32) : EReal :=
  Ideal.log (∑ c, Ideal.exp (x c)) - ∑ c : Fin 21, x c * (if BitVec.ofNat 32 c.val = w then 1 else 0)

end Cert.Spec
-- ==== Proof.KMatch.lean ====
/-
  What the matching kernel's payloads are, element by element.
-/
module

public import proofs.«01_k».proof.Proof.MatchBody
public import proofs.«01_k».proof.Proof.ArgFold

@[expose] public section

set_option maxRecDepth 16384

namespace Cert.KernelIdeal.MatchValue

open Cert.KernelIdeal Cert.KernelIdeal.Gen Cert.KernelIdeal.Match
open Idealize.ShloMosaic Cert.Spec

/-- The priors, one by one, off the transposed array. -/
abbrev prOf (pr : FVec Ideal S4x8732 .f32) (p : Fin 8732) (k : Fin 4) : EReal := pr (ix2 k p)
/-- The targets of one image, one by one. -/
abbrev tgOf (tg : FVec Ideal S1x16x5 .f32) (o : Fin 16) (k : Fin 5) : EReal := tg (ix3 0 o k)

variable (pr : FVec Ideal S4x8732 .f32) (tg : FVec Ideal S1x16x5 .f32) (tt : FVec Ideal S1x5x16 .f32)

theorem iou_apply (o : Fin 16) (p : Fin 8732) :
    k0_pay22 (F := Ideal) (ov pr tg) (k0_pay19 tg) (k0_pay20 pr) (k0_pay21 pr) (ix2 o p) = iou (prOf pr p) (tgOf tg o) := by
  pointwise [ov, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4]
  rfl

/-! ## The match of one image -/

theorem max_apply (p : Fin 8732) :
    k0_pay23 (F := Ideal) (ov pr tg) (k0_pay19 tg) (k0_pay20 pr) (k0_pay21 pr) (ix2 0 p)
      = iou (prOf pr p) (tgOf tg (amax fun o => iou (prOf pr p) (tgOf tg o))) := by
  pointwise [k0_pay23]
  simp only [iou_apply]
  exact fold_max_eq _

/-- The target each prior is forced to, −1 where none. -/
theorem forced_apply (p : Fin 8732) :
    k0_pay24 (F := Ideal) (ov pr tg) (k0_pay19 tg) (k0_pay20 pr) (k0_pay21 pr) (ix2 0 p)
      = (forced (bestPrior (prOf pr) (tgOf tg)) p).recBotCoe 0xFFFFFFFF#32 fun o => BitVec.ofNat 32 o.val := by
  pointwise [k0_pay24]
  simp only [iou_apply]
  rw [← fold_maxsi_forced]
  refine congrArg (fun f => Finset.fold IntOp.maxsi 0x80000000#32 f Finset.univ) (funext fun o => ?_)
  rw [fold_minsi_amax (by decide) (fun x => iou (prOf pr x) (tgOf tg o)) _ (fold_max_eq _),
    cmpi_eq_small _ _ (by omega) (by omega)]
  change _ = if bestPrior (prOf pr) (tgOf tg) o = p then _ else _
  unfold bestPrior
  by_cases h : amax (fun x => iou (prOf pr x) (tgOf tg o)) = p
  · rw [if_pos h, if_pos (congrArg Fin.val h.symm)]; rfl
  · rw [if_neg h, if_neg fun e => h (Fin.ext e.symm)]; rfl

theorem isForced (f : WithBot (Fin 16)) :
    (IntOp.cmpi .sge (f.recBotCoe 0xFFFFFFFF#32 fun o => BitVec.ofNat 32 o.val : BitVec 32) 0#32 : BitVec 1)
      = f.recBotCoe 0#1 fun _ => 1#1 := by
  cases f with
  | bot => rfl
  | coe o => revert o; decide

theorem bto_apply (p : Fin 8732) : bto (F := Ideal) pr tg (ix2 0 p) = overlap (prOf pr) (tgOf tg) p := by
  pointwise [bto, k0_pay26, k0_pay25]
  rw [forced_apply, isForced, max_apply]
  unfold overlap
  cases forced (bestPrior (prOf pr) (tgOf tg)) p <;> rfl

theorem hot_apply (o : Fin 16) (p : Fin 8732) :
    hot (F := Ideal) pr tg (ix2 o p) = if o = target (prOf pr) (tgOf tg) p then 1 else 0 := by
  pointwise [hot, k0_pay27, k0_pay25]
  rw [forced_apply, isForced, max_apply]
  simp only [iou_apply]
  rw [fold_minsi_amax (by decide) (fun x => iou (prOf pr p) (tgOf tg x)) _ rfl]
  have e : (Scalar.select ((forced (bestPrior (prOf pr) (tgOf tg)) p).recBotCoe 0#1 fun _ => 1#1)
        ((forced (bestPrior (prOf pr) (tgOf tg)) p).recBotCoe 0xFFFFFFFF#32 fun o => BitVec.ofNat 32 o.val)
        (BitVec.ofNat 32 (amax fun x => iou (prOf pr p) (tgOf tg x)).val) : BitVec 32)
      = BitVec.ofNat 32 (target (prOf pr) (tgOf tg) p).val := by
    unfold target
    cases forced (bestPrior (prOf pr) (tgOf tg)) p <;> rfl
  rw [e, cmpi_eq_small _ _ (by omega) (by omega)]
  by_cases h : o = target (prOf pr) (tgOf tg) p
  · rw [if_pos h, if_pos (congrArg Fin.val h)]
    simp [FloatOps.sitofp]
  · rw [if_neg h, if_neg fun e => h (Fin.ext e)]
    simp [FloatOps.sitofp]

/-- A one-hot product picks out the matched target. -/
theorem pick_apply (ht : ∀ k o, tt (ix3 0 k o) = tg (ix3 0 o k)) (k : Fin 5) (p : Fin 8732) :
    k0_pay28 (F := Ideal) (hot pr tg) tt (ix2 k p) = tgOf tg (target (prOf pr) (tgOf tg) p) k := by
  pointwise [k0_pay28]
  simp only [hot_apply, ht]
  rw [Finset.sum_eq_single (target (prOf pr) (tgOf tg) p)]
  · rw [if_pos rfl, mul_one]
  · intro o _ h; rw [if_neg h, mul_zero]
  · intro h; exact absurd (Finset.mem_univ _) h

theorem lbl_row (ht : ∀ k o, tt (ix3 0 k o) = tg (ix3 0 o k)) (p : Fin 8732) :
    k0_pay33 (F := Ideal) (bto pr tg) (hot pr tg) tt (ix2 0 p) = label (prOf pr) (tgOf tg) p := by
  pointwise [k0_pay33]
  rw [bto_apply, pick_apply pr tg tt ht]
  rfl

theorem matchLbl_apply (ht : ∀ k o, tt (ix3 0 k o) = tg (ix3 0 o k)) (p : Fin 8732) :
    matchLbl (F := Ideal) pr tg tt (ix3 0 0 p) = label (prOf pr) (tgOf tg) p := by
  pointwise [matchLbl, k0_pay1]
  exact lbl_row pr tg tt ht p

theorem matchLoct_apply (ht : ∀ k o, tt (ix3 0 k o) = tg (ix3 0 o k)) (k : Fin 4) (p : Fin 8732) :
    matchLoct (F := Ideal) pr tg tt (ix3 0 k p)
      = encode (prOf pr p) (tgOf tg (target (prOf pr) (tgOf tg) p)) k := by
  pointwise [matchLoct, k0_pay2, k0_pay34, k0_pay35, k0_pay36, k0_pay37, k0_pay29, k0_pay30, k0_pay31, k0_pay32, k0_pay5, k0_pay6, k0_pay7, k0_pay8, k0_pay4]
  simp only [pick_apply pr tg tt ht]
  fin_cases k <;> rfl

end Cert.KernelIdeal.MatchValue
-- ==== Proof.KStats.lean ====
/-
  What the matching kernel's payloads are, in the lanes of its statistics.
-/
module

public import proofs.«01_k».proof.Proof.KMatch
public import proofs.«01_k».proof.Proof.ArgFold

@[expose] public section

set_option maxRecDepth 16384

namespace Cert.KernelIdeal.MatchValue

open Cert.KernelIdeal Cert.KernelIdeal.Gen Cert.KernelIdeal.Match
open Idealize.ShloMosaic Cert.Spec

variable (pr : FVec Ideal S4x8732 .f32) (tg : FVec Ideal S1x16x5 .f32) (tt : FVec Ideal S1x5x16 .f32)

variable (v : FVec Ideal S1x1x8732 .f32)

/-- Lane `l` of the statistics: the sum in lane 2, 0 elsewhere. -/
theorem lane_apply (l : Fin 128) :
    k0_pay3 (F := Ideal) v (ix3 0 0 l)
      = Scalar.select (IntOp.cmpi .eq (BitVec.ofNat 32 l.val) 2#32) (∑ x : Fin 1, ∑ p : Fin 8732, v (ix3 0 x p)) 0 := by
  pointwise [k0_pay3]

theorem matchStats_apply0 : matchStats (F := Ideal) pr tg tt (ix3 0 0 0) = 0 := by
  unfold matchStats
  rw [lane_apply, show IntOp.cmpi .eq (BitVec.ofNat 32 (0 : Fin 128).val) 2#32 = 0#1 from by decide, sel_zero]

theorem matchStats_apply1 : matchStats (F := Ideal) pr tg tt (ix3 0 0 1) = 0 := by
  unfold matchStats
  rw [lane_apply, show IntOp.cmpi .eq (BitVec.ofNat 32 (1 : Fin 128).val) 2#32 = 0#1 from by decide, sel_zero]

theorem one_apply (p : Fin 8732) (ht : ∀ k o, tt (ix3 0 k o) = tg (ix3 0 o k)) :
    k0_pay38 (F := Ideal) (bto pr tg) (hot pr tg) tt (ix3 0 0 p) = if 0 < label (prOf pr) (tgOf tg) p then 1 else 0 := by
  pointwise [k0_pay38]
  rw [lbl_row pr tg tt ht]

/-- The lane of the count. -/
theorem matchStats_apply2 (ht : ∀ k o, tt (ix3 0 k o) = tg (ix3 0 o k)) :
    matchStats (F := Ideal) pr tg tt (ix3 0 0 2) = ∑ p : Fin 8732, if 0 < label (prOf pr) (tgOf tg) p then 1 else 0 := by
  unfold matchStats
  rw [lane_apply, show IntOp.cmpi .eq (BitVec.ofNat 32 (2 : Fin 128).val) 2#32 = 1#1 from by decide, sel_one]
  refine (Fin.sum_univ_one _).trans (Finset.sum_congr rfl fun p _ => one_apply pr tg tt p ht)

end Cert.KernelIdeal.MatchValue
-- ==== Proof.Mine.lean ====
/-
  The sum of the k largest of a family, two ways: over the first k places of a sorted order, and by the threshold that
  the k-th largest is (everything above it, and it for what is left of k).
-/
module

public import Mathlib.Data.EReal.Basic
public import Mathlib.Data.EReal.Operations
public import Mathlib.Algebra.BigOperators.Ring.Finset
public import Mathlib.Order.Interval.Finset.Fin
public import Mathlib.Tactic.Ring

@[expose] public section

namespace Cert.Spec

/-- A threshold folded over all candidates: at least the start, at least every candidate that passes, and one of these. -/
theorem foldl_threshold {ι : Type} (P : ι → Prop) [DecidablePred P] (f : ι → EReal) (l : List ι) (t0 : EReal) :
    let r := l.foldl (fun t j => if P j then max t (f j) else t) t0
    t0 ≤ r ∧ (∀ j ∈ l, P j → f j ≤ r) ∧ (r = t0 ∨ ∃ j ∈ l, P j ∧ r = f j) := by
  induction l generalizing t0 with
  | nil => exact ⟨le_rfl, fun j hj => absurd hj List.not_mem_nil, Or.inl rfl⟩
  | cons a l ih =>
    simp only [List.foldl_cons]
    obtain ⟨h1, h2, h3⟩ := ih (if P a then max t0 (f a) else t0)
    generalize List.foldl _ _ l = r at h1 h2 h3 ⊢
    by_cases ha : P a
    · rw [if_pos ha] at h1 h3
      refine ⟨(le_max_left _ _).trans h1, fun j hj hp => ?_, ?_⟩
      · rcases List.mem_cons.1 hj with rfl | hj
        · exact (le_max_right _ _).trans h1
        · exact h2 j hj hp
      · rcases h3 with e | ⟨j, hj, hp, e⟩
        · rcases max_choice t0 (f a) with e' | e'
          · exact Or.inl (e.trans e')
          · exact Or.inr ⟨a, List.mem_cons_self, ha, e.trans e'⟩
        · exact Or.inr ⟨j, List.mem_cons_of_mem _ hj, hp, e⟩
    · rw [if_neg ha] at h1 h3
      refine ⟨h1, fun j hj hp => ?_, h3.imp id fun ⟨j, hj, hp, e⟩ => ⟨j, List.mem_cons_of_mem _ hj, hp, e⟩⟩
      rcases List.mem_cons.1 hj with rfl | hj
      · exact absurd hp ha
      · exact h2 j hj hp

theorem sum_ones {ι : Type} [Fintype ι] (P : ι → Prop) [DecidablePred P] :
    (∑ i, if P i then (1 : EReal) else 0) = ((Finset.univ.filter P).card : EReal) := Finset.sum_boole _ _

theorem card_lt {n : ℕ} (k : ℕ) (h : k < n) : (Finset.univ.filter fun a : Fin n => a.val < k).card = k := by
  have : (Finset.univ.filter fun a : Fin n => a.val < k) = Finset.Iio ⟨k, h⟩ := by
    ext a; simp [Fin.lt_def]
  rw [this, Fin.card_Iio]

theorem natCast_sub (c d : ℕ) : ((c + d : ℕ) : EReal) - (c : EReal) = (d : EReal) := by
  rw [← EReal.coe_natCast, ← EReal.coe_natCast, ← EReal.coe_natCast, ← EReal.coe_sub]
  congr 1
  push_cast
  ring

theorem natCast_le (c d : ℕ) : ((c : EReal) ≤ (d : EReal)) ↔ c ≤ d := by
  rw [← EReal.coe_natCast, ← EReal.coe_natCast, EReal.coe_le_coe_iff, Nat.cast_le]

/-- The sum of the first k places of a falling order, by the threshold. -/
theorem sum_top {n : ℕ} (f : Fin n → EReal) (σ : Fin n ≃ Fin n) (hσ : ∀ a b, a ≤ b → f (σ b) ≤ f (σ a)) (hf : ∀ i, 0 ≤ f i)
    (k : ℕ) (hk : k < n) (r : EReal) (h1 : ∀ j, (k : EReal) ≤ (∑ i, if f j ≤ f i then (1 : EReal) else 0) → f j ≤ r)
    (h2 : r = 0 ∨ ∃ j, (k : EReal) ≤ (∑ i, if f j ≤ f i then (1 : EReal) else 0) ∧ r = f j) :
    (∑ a, if a.val < k then f (σ a) else 0)
      = (∑ i, if r < f i then f i else 0) + ((k : EReal) - ∑ i, if r < f i then (1 : EReal) else 0) * r := by
  simp only [sum_ones, natCast_le] at h1 h2 ⊢
  rcases Nat.eq_zero_or_pos k with rfl | hpos
  · have hno : ∀ i, ¬ r < f i := fun i => not_lt.2 (h1 i (Nat.zero_le _))
    simp [hno]
  · obtain ⟨v, hv⟩ : ∃ v, v = f (σ ⟨k - 1, by omega⟩) := ⟨_, rfl⟩
    have hle : ∀ a : Fin n, a.val < k → v ≤ f (σ a) := fun a ha => hv ▸ hσ _ _ (Fin.le_def.2 (by dsimp only; omega))
    have hge : ∀ a : Fin n, k - 1 ≤ a.val → f (σ a) ≤ v := fun a ha => hv ▸ hσ _ _ (Fin.le_def.2 ha)
    have hcard : ∀ x : EReal, (Finset.univ.filter fun i => x ≤ f i).card = (Finset.univ.filter fun a => x ≤ f (σ a)).card := fun x => by
      rw [Finset.card_filter, Finset.card_filter]
      exact (Equiv.sum_comp σ fun i => if x ≤ f i then 1 else 0).symm
    have hr : r = v := by
      refine le_antisymm ?_ ?_
      · rcases h2 with e | ⟨j, hj, e⟩
        · rw [e, hv]; exact hf _
        · by_contra hlt
          rw [e, not_le] at hlt
          rw [hcard] at hj
          have hsub : (Finset.univ.filter fun a => f j ≤ f (σ a)) ⊆ Finset.univ.filter fun a : Fin n => a.val < k - 1 := fun a ha => by
            refine Finset.mem_filter.2 ⟨Finset.mem_univ _, ?_⟩
            by_contra hge'
            exact absurd (hlt.trans_le (Finset.mem_filter.1 ha).2) (not_lt.2 (hge a (not_lt.1 hge')))
          have := Finset.card_le_card hsub
          rw [card_lt _ (by omega)] at this
          omega
      · rw [hv]
        refine h1 _ ?_
        rw [hcard, ← hv]
        have hsub : (Finset.univ.filter fun a : Fin n => a.val < k) ⊆ Finset.univ.filter fun a => v ≤ f (σ a) := fun a ha =>
          Finset.mem_filter.2 ⟨Finset.mem_univ _, hle a (Finset.mem_filter.1 ha).2⟩
        have := Finset.card_le_card hsub
        rwa [card_lt _ hk] at this
    rw [← hr] at hle hge
    have hin : ∀ a : Fin n, r < f (σ a) → a.val < k := fun a ha => by
      by_contra h
      exact absurd ha (not_lt.2 (hge a (by omega)))
    have hsplit : ∀ (M : Type) [AddCommMonoid M] (g : EReal → M),
        (∑ a : Fin n, if a.val < k then g (f (σ a)) else 0)
          = (∑ i, if r < f i then g (f i) else 0)
            + (Finset.univ.filter fun a : Fin n => a.val < k ∧ ¬ r < f (σ a)).card • g r := fun M _ g => by
      rw [← Equiv.sum_comp σ fun i => if r < f i then g (f i) else 0, ← Finset.sum_const, Finset.sum_filter, ← Finset.sum_add_distrib]
      refine Finset.sum_congr rfl fun a _ => ?_
      by_cases ha : a.val < k
      · by_cases hb : r < f (σ a)
        · rw [if_pos ha, if_pos hb, if_neg fun h => h.2 hb, add_zero]
        · rw [if_pos ha, if_neg hb, if_pos ⟨ha, hb⟩, zero_add, le_antisymm (not_lt.1 hb) (hle a ha)]
      · rw [if_neg ha, if_neg fun h => ha (hin a h), if_neg fun h => ha h.1, add_zero]
    have hc := hsplit ℕ fun _ => 1
    rw [← Finset.card_filter, card_lt _ hk, ← Finset.card_filter, smul_eq_mul, mul_one] at hc
    have hs := hsplit EReal id
    simp only [id] at hs
    rw [hs, EReal.nsmul_eq_mul]
    conv_rhs => rw [show (k : EReal) = _ from congrArg Nat.cast hc]
    rw [natCast_sub]

end Cert.Spec
-- ==== Proof.KLoss.lean ====
/-
  What the loss kernel's payloads are, element by element.
-/
module

public import proofs.«01_k».proof.Proof.LossBody
public import proofs.«01_k».proof.Proof.ArgFold
public import proofs.«01_k».proof.Proof.Mine

@[expose] public section

set_option maxRecDepth 16384

namespace Cert.KernelIdeal.LossValue

open Cert.KernelIdeal Cert.KernelIdeal.Gen Cert.KernelIdeal.Loss
open Idealize.ShloMosaic Cert.Spec

variable (cf : FVec Ideal S1x21x8732 .f32) (lb : FVec Ideal S1x1x8732 .f32) (lc lt : FVec Ideal S1x4x8732 .f32) (st : FVec Ideal S1x1x128 .f32)

/-- The masked loss of each prior: 0 where the label is positive. -/
theorem lossRow_apply (p : Fin 8732) :
    lossRow (F := Ideal) cf lb (ix3 0 0 p)
      = if 0 < lb (ix3 0 0 p) then 0 else ce (fun c => cf (ix3 0 c p)) (FloatOps.fptosi 32 (lb (ix3 0 0 p))) := by
  pointwise [lossRow, k1_pay2, k1_pay1, k1_pay7, k1_pay6, k1_pay9, k1_pay10, k1_pay5]
  simp only [bit_float]
  rfl

/-- The sum over the positive priors of the smooth loss. -/
theorem smooth_apply :
    k1_pay8 (F := Ideal) lb lc lt
      = ∑ p : Fin 8732, if 0 < lb (ix3 0 0 p) then ∑ k : Fin 4, smooth (lc (ix3 0 k p) - lt (ix3 0 k p)) else 0 := by
  pointwise [k1_pay8, k1_pay7, k1_pay6]
  exact Fin.sum_univ_one _

variable (mk : IVec S1x8732 1) (A : EReal) (B : FVec Ideal S1x8732 .f32) (C : FVec Ideal S21x8732 .f32)

theorem sums_lane (l : Fin 128) :
    k1_pay3 (F := Ideal) mk A B C st (ix3 0 0 l)
      = Scalar.select (IntOp.cmpi .eq (BitVec.ofNat 32 l.val) 0#32) A 0
        + Scalar.select (IntOp.cmpi .eq (BitVec.ofNat 32 l.val) 1#32)
            (∑ x : Fin 1, ∑ p : Fin 8732, Scalar.select (mk (ix2 0 p)) (k1_pay1 B C (ix2 0 p)) 0) 0
        + st (ix3 0 0 l) := by
  pointwise [k1_pay3]

theorem pos_apply (p : Fin 8732) :
    Scalar.select (k1_pay7 (F := Ideal) lb (ix2 0 p)) (k1_pay1 (F := Ideal) (k1_pay9 cf) (k1_pay10 cf lb) (ix2 0 p)) 0
      = if 0 < lb (ix3 0 0 p) then ce (fun c => cf (ix3 0 c p)) (FloatOps.fptosi 32 (lb (ix3 0 0 p))) else 0 := by
  pointwise [k1_pay1, k1_pay7, k1_pay6, k1_pay9, k1_pay10, k1_pay5]
  simp only [bit_float]
  rfl

theorem sumRow_apply0 :
    sumRow (F := Ideal) cf lc lb lt st (ix3 0 0 0)
      = (∑ p : Fin 8732, if 0 < lb (ix3 0 0 p) then ∑ k : Fin 4, smooth (lc (ix3 0 k p) - lt (ix3 0 k p)) else 0)
        + st (ix3 0 0 0) := by
  unfold sumRow
  rw [sums_lane, show IntOp.cmpi .eq (BitVec.ofNat 32 (0 : Fin 128).val) 0#32 = 1#1 from by decide,
    show IntOp.cmpi .eq (BitVec.ofNat 32 (0 : Fin 128).val) 1#32 = 0#1 from by decide, sel_one, sel_zero, add_zero, smooth_apply]

theorem sumRow_apply1 :
    sumRow (F := Ideal) cf lc lb lt st (ix3 0 0 1)
      = (∑ p : Fin 8732, if 0 < lb (ix3 0 0 p) then ce (fun c => cf (ix3 0 c p)) (FloatOps.fptosi 32 (lb (ix3 0 0 p))) else 0)
        + st (ix3 0 0 1) := by
  unfold sumRow
  rw [sums_lane, show IntOp.cmpi .eq (BitVec.ofNat 32 (1 : Fin 128).val) 0#32 = 0#1 from by decide,
    show IntOp.cmpi .eq (BitVec.ofNat 32 (1 : Fin 128).val) 1#32 = 1#1 from by decide, sel_one, sel_zero, zero_add]
  exact congrArg (· + _) ((Fin.sum_univ_one _).trans (Finset.sum_congr rfl fun p _ => pos_apply cf lb p))

theorem sumRow_apply2 : sumRow (F := Ideal) cf lc lb lt st (ix3 0 0 2) = st (ix3 0 0 2) := by
  unfold sumRow
  rw [sums_lane, show IntOp.cmpi .eq (BitVec.ofNat 32 (2 : Fin 128).val) 0#32 = 0#1 from by decide,
    show IntOp.cmpi .eq (BitVec.ofNat 32 (2 : Fin 128).val) 1#32 = 0#1 from by decide, sel_zero, sel_zero, zero_add, zero_add]

/-! ## Mining -/

variable (a : FVec Ideal S32x1x8732 .f32) (s : FVec Ideal S32x1x128 .f32) (th : FVec Ideal S32x1 .f32)

theorem trips_eq : k1_t1_loop.trips = 8732 := by decide +kernel
/-- The prior whose turn a trip is. -/
def priorOf (j : Fin k1_t1_loop.trips) : Fin 8732 := ⟨j.val, lt_of_lt_of_eq j.isLt trips_eq⟩

/-- How many an image mines. -/
noncomputable def want (b : Fin 32) : EReal :=
  min (Ideal.ofBits .f32 0x40400000#32 * s (ix3 b 0 2)) (Ideal.ofBits .f32 0x46086C00#32)

theorem iv_eq (j : Fin k1_t1_loop.trips) : Scf.iv 0#32 1#32 j.val = BitVec.ofNat 32 (priorOf j).val := by
  simp [Scf.iv, priorOf]

theorem pick (f : Fin 8732 → EReal) (j : Fin k1_t1_loop.trips) :
    (∑ x : Fin 8732, Scalar.select (IntOp.cmpi .eq (BitVec.ofNat 32 x.val) (Scf.iv 0#32 1#32 j.val)) (f x) 0) = f (priorOf j) := by
  rw [iv_eq, Finset.sum_eq_single (priorOf j)]
  · rw [cmpi_eq_small _ _ (by omega) (by omega), if_pos rfl, sel_one]
  · intro x _ h
    rw [cmpi_eq_small _ _ (by omega) (by omega), if_neg fun e => h (Fin.ext e), sel_zero]
  · intro h; exact absurd (Finset.mem_univ _) h

/-- One trip of the threshold's loop, at one image. -/
theorem trip_apply (j : Fin k1_t1_loop.trips) (b : Fin 32) :
    k1_pay16 (F := Ideal) a s j th (ix2 b 0)
      = if want s b ≤ ∑ x : Fin 8732, if a (ix3 b 0 (priorOf j)) ≤ a (ix3 b 0 x) then (1 : EReal) else 0
        then max (th (ix2 b 0)) (a (ix3 b 0 (priorOf j))) else th (ix2 b 0) := by
  pointwise [k1_pay16, k1_pay13, k1_pay12, k1_pay11, k1_pay14]
  rw [pick fun x => a (ix3 b 0 x)]
  rfl

theorem foldl_at {ι κ α : Type} (g : ι → (κ → α) → κ → α) (i : κ) (h : ι → α → α) (hg : ∀ k x, g k x i = h k (x i)) (l : List ι)
    (x0 : κ → α) : (l.foldl (fun acc k => g k acc) x0) i = l.foldl (fun t k => h k t) (x0 i) := by
  induction l generalizing x0 with
  | nil => rfl
  | cons k l ih => rw [List.foldl_cons, List.foldl_cons, ih, hg]

/-- The folded threshold of an image. -/
noncomputable def thrOf (b : Fin 32) : EReal := thr (F := Ideal) a s (ix2 b 0)

/-- What the folded threshold is. -/
theorem thr_facts (b : Fin 32) :
    (∀ p : Fin 8732, want s b ≤ (∑ x : Fin 8732, if a (ix3 b 0 p) ≤ a (ix3 b 0 x) then (1 : EReal) else 0) → a (ix3 b 0 p) ≤ thrOf a s b)
      ∧ (thrOf a s b = 0
        ∨ ∃ p : Fin 8732, want s b ≤ (∑ x : Fin 8732, if a (ix3 b 0 p) ≤ a (ix3 b 0 x) then (1 : EReal) else 0) ∧ thrOf a s b = a (ix3 b 0 p)) := by
  have e : thrOf a s b = (List.finRange k1_t1_loop.trips).foldl (fun t j =>
      if want s b ≤ ∑ x : Fin 8732, if a (ix3 b 0 (priorOf j)) ≤ a (ix3 b 0 x) then (1 : EReal) else 0
      then max t (a (ix3 b 0 (priorOf j))) else t) 0 := by
    unfold thrOf thr
    rw [Scf.fold_eq, foldl_at (fun j x => k1_pay16 (F := Ideal) a s j x) (ix2 b 0)
      (fun j t => if want s b ≤ ∑ x : Fin 8732, if a (ix3 b 0 (priorOf j)) ≤ a (ix3 b 0 x) then (1 : EReal) else 0
        then max t (a (ix3 b 0 (priorOf j))) else t) fun j x => trip_apply a s x j b]
    congr 1
    pointwise [k1_pay15]
  obtain ⟨-, h2, h3⟩ := foldl_threshold (fun j : Fin k1_t1_loop.trips => want s b ≤ ∑ x : Fin 8732, if a (ix3 b 0 (priorOf j)) ≤ a (ix3 b 0 x) then (1 : EReal) else 0)
    (fun j => a (ix3 b 0 (priorOf j))) (List.finRange k1_t1_loop.trips) 0
  rw [← e] at h2 h3
  refine ⟨fun p hp => h2 ⟨p.val, lt_of_lt_of_eq p.isLt trips_eq.symm⟩ (List.mem_finRange _) hp, h3.imp id fun ⟨j, _, hj, ej⟩ => ⟨priorOf j, hj, ej⟩⟩

variable (v10 : FVec Ideal S32x1 .f32) (v44 : FVec Ideal S1 .f32) (x y : EReal)

theorem out_lane (l : Fin 128) :
    k1_pay4 (F := Ideal) v10 x y v44 (ix2 0 l)
      = Scalar.select (IntOp.cmpi .eq (BitVec.ofNat 32 l.val) 0#32) (Ideal.div x (max (∑ b : Fin 32, ∑ z : Fin 1, v10 (ix2 b 0)) 1)) 0
        + Scalar.select (IntOp.cmpi .eq (BitVec.ofNat 32 l.val) 1#32) (Ideal.div (y + v44 (ix1 0)) (max (∑ b : Fin 32, ∑ z : Fin 1, v10 (ix2 b 0)) 1)) 0 := by
  pointwise [k1_pay4]

theorem count_apply (b : Fin 32) (z : Fin 1) : k1_pay13 (F := Ideal) s (ix2 b z) = s (ix3 b 0 2) := by
  pointwise [k1_pay13, k1_pay12]

theorem first_apply : k1_pay17 (F := Ideal) s = ∑ b : Fin 32, s (ix3 b 0 0) := by
  pointwise [k1_pay17, k1_pay12]
  exact Finset.sum_congr rfl fun b _ => Fin.sum_univ_one _
theorem second_apply : k1_pay18 (F := Ideal) s = ∑ b : Fin 32, s (ix3 b 0 1) := by
  pointwise [k1_pay18, k1_pay12]
  exact Finset.sum_congr rfl fun b _ => Fin.sum_univ_one _

/-- What the threshold mines of one image. -/
noncomputable def minedOf (b : Fin 32) : EReal :=
  (∑ p : Fin 8732, if thrOf a s b < a (ix3 b 0 p) then a (ix3 b 0 p) else 0)
    + (want s b - ∑ p : Fin 8732, if thrOf a s b < a (ix3 b 0 p) then (1 : EReal) else 0) * thrOf a s b

theorem third_apply : k1_pay19 (F := Ideal) a s (thr (F := Ideal) a s) (ix1 0) = ∑ b : Fin 32, minedOf a s b := by
  pointwise [k1_pay19, k1_pay11, k1_pay14, k1_pay13, k1_pay12]
  exact Finset.sum_congr rfl fun b _ => Fin.sum_univ_one _

theorem count_sum : (∑ b : Fin 32, ∑ z : Fin 1, k1_pay13 (F := Ideal) s (ix2 b 0)) = ∑ b : Fin 32, s (ix3 b 0 2) :=
  Finset.sum_congr rfl fun b _ => (Fin.sum_univ_one _).trans (count_apply s b 0)

theorem mined_apply0 :
    mined (F := Ideal) a s (ix2 0 0) = Ideal.div (∑ b : Fin 32, s (ix3 b 0 0)) (max (∑ b : Fin 32, s (ix3 b 0 2)) 1) := by
  unfold mined
  rw [out_lane, show IntOp.cmpi .eq (BitVec.ofNat 32 (0 : Fin 128).val) 0#32 = 1#1 from by decide,
    show IntOp.cmpi .eq (BitVec.ofNat 32 (0 : Fin 128).val) 1#32 = 0#1 from by decide, sel_one, sel_zero, add_zero, first_apply, count_sum]

theorem mined_apply1 :
    mined (F := Ideal) a s (ix2 0 1)
      = Ideal.div ((∑ b : Fin 32, s (ix3 b 0 1)) + ∑ b : Fin 32, minedOf a s b) (max (∑ b : Fin 32, s (ix3 b 0 2)) 1) := by
  unfold mined
  rw [out_lane, show IntOp.cmpi .eq (BitVec.ofNat 32 (1 : Fin 128).val) 0#32 = 0#1 from by decide,
    show IntOp.cmpi .eq (BitVec.ofNat 32 (1 : Fin 128).val) 1#32 = 1#1 from by decide, sel_one, sel_zero, zero_add, second_apply, third_apply, count_sum]

end Cert.KernelIdeal.LossValue
-- ==== Proof.RefEqA.lean ====
module

public import proofs.«01_k».proof.Proof.RefVals

@[expose] public section

set_option maxRecDepth 16384

namespace Cert.RefRun

open Idealize.ShloMosaic Idealize.SL.Sem Idealize.ShloMosaic.StableHlo
open Cert.ReferenceIdeal Cert.ReferenceIdeal.Gen

variable {F : FTy → Type} [FloatOps F]

variable (V : Valuation τ sig (Elt F))

theorem e_v0 : r_v0 V = ((extractStridedSlice S32x16x4 ![0, 0, 0] · slices_S32x16x5_S32x16x4_0_0_0)) (r_arg3 V) := val_unary V 0 main_arg3 main_v0 _ _ _ rfl (by decide) (by decide) (by decide)
theorem e_v1 : r_v1 V = ((extractStridedSlice S32x16x1 ![0, 0, 4] · slices_S32x16x5_S32x16x1_0_0_4)) (r_arg3 V) := val_unary V 1 main_arg3 main_v1 _ _ _ rfl (by decide) (by decide) (by decide)
theorem e_v2 : r_v2 V = shapeCast S32x16 (r_v1 V) shapeCasts_S32x16x1_S32x16 := val_reshape V 2 main_v1 main_v2 _ _ _ _ rfl (by decide) (by decide) (by decide)
theorem e_v3 : r_v3 V = (fptosi 32) (r_v2 V) := val_unary V 3 main_v2 main_v3 _ _ _ rfl (by decide) (by decide) (by decide)
theorem e_v4 : r_v4 V = ((extractStridedSlice S8732x2 ![0, 0] · slices_S8732x4_S8732x2_0_0)) (r_arg2 V) := val_unary V 4 main_arg2 main_v4 _ _ _ rfl (by decide) (by decide) (by decide)
theorem e_v5 : r_v5 V = ((extractStridedSlice S8732x2 ![0, 2] · slices_S8732x4_S8732x2_0_2)) (r_arg2 V) := val_unary V 5 main_arg2 main_v5 _ _ _ rfl (by decide) (by decide) (by decide)
theorem e_cst : r_cst V = (constant S_ .f32 0x40000000#32) := val_nullary V 6 main_cst _ _ rfl (by decide) (by decide)
theorem e_v6 : r_v6 V = (broadcastInDim S8732x2 ![] bcast_S_S8732x2) (r_cst V) := val_unary V 7 main_cst main_v6 _ _ _ rfl (by decide) (by decide) (by decide)
theorem e_v7 : r_v7 V = (Host.divf) (r_v5 V) (r_v6 V) := val_binary V 8 main_v5 main_v6 main_v7 _ _ _ _ rfl (by decide) (by decide) (by decide) (by decide)
theorem e_v8 : r_v8 V = (subf) (r_v4 V) (r_v7 V) := val_binary V 9 main_v4 main_v7 main_v8 _ _ _ _ rfl (by decide) (by decide) (by decide) (by decide)
theorem e_v9 : r_v9 V = ((extractStridedSlice S8732x2 ![0, 0] · slices_S8732x4_S8732x2_0_0)) (r_arg2 V) := val_unary V 10 main_arg2 main_v9 _ _ _ rfl (by decide) (by decide) (by decide)
theorem e_v10 : r_v10 V = ((extractStridedSlice S8732x2 ![0, 2] · slices_S8732x4_S8732x2_0_2)) (r_arg2 V) := val_unary V 11 main_arg2 main_v10 _ _ _ rfl (by decide) (by decide) (by decide)
theorem e_cst_0 : r_cst_0 V = (constant S_ .f32 0x40000000#32) := val_nullary V 12 main_cst_0 _ _ rfl (by decide) (by decide)
theorem e_v11 : r_v11 V = (broadcastInDim S8732x2 ![] bcast_S_S8732x2) (r_cst_0 V) := val_unary V 13 main_cst_0 main_v11 _ _ _ rfl (by decide) (by decide) (by decide)
theorem e_v12 : r_v12 V = (Host.divf) (r_v10 V) (r_v11 V) := val_binary V 14 main_v10 main_v11 main_v12 _ _ _ _ rfl (by decide) (by decide) (by decide) (by decide)
theorem e_v13 : r_v13 V = (addf) (r_v9 V) (r_v12 V) := val_binary V 15 main_v9 main_v12 main_v13 _ _ _ _ rfl (by decide) (by decide) (by decide) (by decide)
theorem e_v14 : r_v14 V = ((fun a b => concatenate S8732x4 1 [⟨S8732x2, a⟩, ⟨S8732x2, b⟩] concatenates_S8732x2_S8732x2_S8732x4_d1)) (r_v8 V) (r_v13 V) := val_binary V 16 main_v8 main_v13 main_v14 _ _ _ _ rfl (by decide) (by decide) (by decide) (by decide)
theorem e_v15 : r_v15 V = ((extractStridedSlice S32x16x2 ![0, 0, 2] · slices_S32x16x4_S32x16x2_0_0_2)) (r_v0 V) := val_unary V 17 main_v0 main_v15 _ _ _ rfl (by decide) (by decide) (by decide)
theorem e_v16 : r_v16 V = (broadcastInDim S32x16x1x2 ![0, 1, 3] bcast_S32x16x2_S32x16x1x2_0_1_3) (r_v15 V) := val_unary V 18 main_v15 main_v16 _ _ _ rfl (by decide) (by decide) (by decide)
theorem e_v17 : r_v17 V = ((extractStridedSlice S8732x2 ![0, 2] · slices_S8732x4_S8732x2_0_2)) (r_v14 V) := val_unary V 19 main_v14 main_v17 _ _ _ rfl (by decide) (by decide) (by decide)
theorem e_v18 : r_v18 V = (broadcastInDim S1x1x8732x2 ![2, 3] bcast_S8732x2_S1x1x8732x2_2_3) (r_v17 V) := val_unary V 20 main_v17 main_v18 _ _ _ rfl (by decide) (by decide) (by decide)
theorem e_v19 : r_v19 V = (broadcastInDim S32x16x8732x2 ![0, 1, 2, 3] bcast_S32x16x1x2_S32x16x8732x2_0_1_2_3) (r_v16 V) := val_unary V 21 main_v16 main_v19 _ _ _ rfl (by decide) (by decide) (by decide)
theorem e_v20 : r_v20 V = (broadcastInDim S32x16x8732x2 ![0, 1, 2, 3] bcast_S1x1x8732x2_S32x16x8732x2_0_1_2_3) (r_v18 V) := val_unary V 22 main_v18 main_v20 _ _ _ rfl (by decide) (by decide) (by decide)
theorem e_v21 : r_v21 V = (minimumf) (r_v19 V) (r_v20 V) := val_binary V 23 main_v19 main_v20 main_v21 _ _ _ _ rfl (by decide) (by decide) (by decide) (by decide)
theorem e_v22 : r_v22 V = ((extractStridedSlice S32x16x2 ![0, 0, 0] · slices_S32x16x4_S32x16x2_0_0_0)) (r_v0 V) := val_unary V 24 main_v0 main_v22 _ _ _ rfl (by decide) (by decide) (by decide)
theorem e_v23 : r_v23 V = (broadcastInDim S32x16x1x2 ![0, 1, 3] bcast_S32x16x2_S32x16x1x2_0_1_3) (r_v22 V) := val_unary V 25 main_v22 main_v23 _ _ _ rfl (by decide) (by decide) (by decide)
theorem e_v24 : r_v24 V = ((extractStridedSlice S8732x2 ![0, 0] · slices_S8732x4_S8732x2_0_0)) (r_v14 V) := val_unary V 26 main_v14 main_v24 _ _ _ rfl (by decide) (by decide) (by decide)
theorem e_v25 : r_v25 V = (broadcastInDim S1x1x8732x2 ![2, 3] bcast_S8732x2_S1x1x8732x2_2_3) (r_v24 V) := val_unary V 27 main_v24 main_v25 _ _ _ rfl (by decide) (by decide) (by decide)
theorem e_v26 : r_v26 V = (broadcastInDim S32x16x8732x2 ![0, 1, 2, 3] bcast_S32x16x1x2_S32x16x8732x2_0_1_2_3) (r_v23 V) := val_unary V 28 main_v23 main_v26 _ _ _ rfl (by decide) (by decide) (by decide)
theorem e_v27 : r_v27 V = (broadcastInDim S32x16x8732x2 ![0, 1, 2, 3] bcast_S1x1x8732x2_S32x16x8732x2_0_1_2_3) (r_v25 V) := val_unary V 29 main_v25 main_v27 _ _ _ rfl (by decide) (by decide) (by decide)
theorem e_v28 : r_v28 V = (maximumf) (r_v26 V) (r_v27 V) := val_binary V 30 main_v26 main_v27 main_v28 _ _ _ _ rfl (by decide) (by decide) (by decide) (by decide)
theorem e_v29 : r_v29 V = (subf) (r_v21 V) (r_v28 V) := val_binary V 31 main_v21 main_v28 main_v29 _ _ _ _ rfl (by decide) (by decide) (by decide) (by decide)
theorem e_cst_1 : r_cst_1 V = (constant S_ .f32 0x00000000#32) := val_nullary V 32 main_cst_1 _ _ rfl (by decide) (by decide)
theorem e_call0_v0 : r_call0_v0 V = (id) (r_cst_1 V) := val_unary V 33 main_cst_1 main_call0_v0 _ _ _ rfl (by decide) (by decide) (by decide)
theorem e_call0_v1 : r_call0_v1 V = ((broadcastInDim S32x16x8732x2 ![] bcast_S_S32x16x8732x2)) (r_call0_v0 V) := val_unary V 34 main_call0_v0 main_call0_v1 _ _ _ rfl (by decide) (by decide) (by decide)
theorem e_v30 : r_v30 V = (maximumf) (r_call0_v1 V) (r_v29 V) := val_binary V 35 main_call0_v1 main_v29 main_v30 _ _ _ _ rfl (by decide) (by decide) (by decide) (by decide)
theorem e_v31 : r_v31 V = ((extractStridedSlice S32x16x8732x1 ![0, 0, 0, 0] · slices_S32x16x8732x2_S32x16x8732x1_0_0_0_0)) (r_v30 V) := val_unary V 36 main_v30 main_v31 _ _ _ rfl (by decide) (by decide) (by decide)
theorem e_v32 : r_v32 V = shapeCast S32x16x8732 (r_v31 V) shapeCasts_S32x16x8732x1_S32x16x8732 := val_reshape V 37 main_v31 main_v32 _ _ _ _ rfl (by decide) (by decide) (by decide)
theorem e_v33 : r_v33 V = ((extractStridedSlice S32x16x8732x1 ![0, 0, 0, 1] · slices_S32x16x8732x2_S32x16x8732x1_0_0_0_1)) (r_v30 V) := val_unary V 38 main_v30 main_v33 _ _ _ rfl (by decide) (by decide) (by decide)
theorem e_v34 : r_v34 V = shapeCast S32x16x8732 (r_v33 V) shapeCasts_S32x16x8732x1_S32x16x8732 := val_reshape V 39 main_v33 main_v34 _ _ _ _ rfl (by decide) (by decide) (by decide)
theorem e_v35 : r_v35 V = (mulf) (r_v32 V) (r_v34 V) := val_binary V 40 main_v32 main_v34 main_v35 _ _ _ _ rfl (by decide) (by decide) (by decide) (by decide)
theorem e_v36 : r_v36 V = ((extractStridedSlice S32x16x1 ![0, 0, 2] · slices_S32x16x4_S32x16x1_0_0_2)) (r_v0 V) := val_unary V 41 main_v0 main_v36 _ _ _ rfl (by decide) (by decide) (by decide)
theorem e_v37 : r_v37 V = shapeCast S32x16 (r_v36 V) shapeCasts_S32x16x1_S32x16 := val_reshape V 42 main_v36 main_v37 _ _ _ _ rfl (by decide) (by decide) (by decide)
theorem e_v38 : r_v38 V = ((extractStridedSlice S32x16x1 ![0, 0, 0] · slices_S32x16x4_S32x16x1_0_0_0)) (r_v0 V) := val_unary V 43 main_v0 main_v38 _ _ _ rfl (by decide) (by decide) (by decide)
theorem e_v39 : r_v39 V = shapeCast S32x16 (r_v38 V) shapeCasts_S32x16x1_S32x16 := val_reshape V 44 main_v38 main_v39 _ _ _ _ rfl (by decide) (by decide) (by decide)
theorem e_v40 : r_v40 V = (subf) (r_v37 V) (r_v39 V) := val_binary V 45 main_v37 main_v39 main_v40 _ _ _ _ rfl (by decide) (by decide) (by decide) (by decide)
theorem e_v41 : r_v41 V = ((extractStridedSlice S32x16x1 ![0, 0, 3] · slices_S32x16x4_S32x16x1_0_0_3)) (r_v0 V) := val_unary V 46 main_v0 main_v41 _ _ _ rfl (by decide) (by decide) (by decide)
theorem e_v42 : r_v42 V = shapeCast S32x16 (r_v41 V) shapeCasts_S32x16x1_S32x16 := val_reshape V 47 main_v41 main_v42 _ _ _ _ rfl (by decide) (by decide) (by decide)
theorem e_v43 : r_v43 V = ((extractStridedSlice S32x16x1 ![0, 0, 1] · slices_S32x16x4_S32x16x1_0_0_1)) (r_v0 V) := val_unary V 48 main_v0 main_v43 _ _ _ rfl (by decide) (by decide) (by decide)
theorem e_v44 : r_v44 V = shapeCast S32x16 (r_v43 V) shapeCasts_S32x16x1_S32x16 := val_reshape V 49 main_v43 main_v44 _ _ _ _ rfl (by decide) (by decide) (by decide)
theorem e_v45 : r_v45 V = (subf) (r_v42 V) (r_v44 V) := val_binary V 50 main_v42 main_v44 main_v45 _ _ _ _ rfl (by decide) (by decide) (by decide) (by decide)
theorem e_v46 : r_v46 V = (mulf) (r_v40 V) (r_v45 V) := val_binary V 51 main_v40 main_v45 main_v46 _ _ _ _ rfl (by decide) (by decide) (by decide) (by decide)
theorem e_v47 : r_v47 V = (broadcastInDim S32x16x1 ![0, 1] bcast_S32x16_S32x16x1_0_1) (r_v46 V) := val_unary V 52 main_v46 main_v47 _ _ _ rfl (by decide) (by decide) (by decide)
theorem e_v48 : r_v48 V = ((extractStridedSlice S8732x1 ![0, 2] · slices_S8732x4_S8732x1_0_2)) (r_v14 V) := val_unary V 53 main_v14 main_v48 _ _ _ rfl (by decide) (by decide) (by decide)
theorem e_v49 : r_v49 V = shapeCast S8732 (r_v48 V) shapeCasts_S8732x1_S8732 := val_reshape V 54 main_v48 main_v49 _ _ _ _ rfl (by decide) (by decide) (by decide)
theorem e_v50 : r_v50 V = ((extractStridedSlice S8732x1 ![0, 0] · slices_S8732x4_S8732x1_0_0)) (r_v14 V) := val_unary V 55 main_v14 main_v50 _ _ _ rfl (by decide) (by decide) (by decide)
theorem e_v51 : r_v51 V = shapeCast S8732 (r_v50 V) shapeCasts_S8732x1_S8732 := val_reshape V 56 main_v50 main_v51 _ _ _ _ rfl (by decide) (by decide) (by decide)
theorem e_v52 : r_v52 V = (subf) (r_v49 V) (r_v51 V) := val_binary V 57 main_v49 main_v51 main_v52 _ _ _ _ rfl (by decide) (by decide) (by decide) (by decide)
theorem e_v53 : r_v53 V = ((extractStridedSlice S8732x1 ![0, 3] · slices_S8732x4_S8732x1_0_3)) (r_v14 V) := val_unary V 58 main_v14 main_v53 _ _ _ rfl (by decide) (by decide) (by decide)
theorem e_v54 : r_v54 V = shapeCast S8732 (r_v53 V) shapeCasts_S8732x1_S8732 := val_reshape V 59 main_v53 main_v54 _ _ _ _ rfl (by decide) (by decide) (by decide)
theorem e_v55 : r_v55 V = ((extractStridedSlice S8732x1 ![0, 1] · slices_S8732x4_S8732x1_0_1)) (r_v14 V) := val_unary V 60 main_v14 main_v55 _ _ _ rfl (by decide) (by decide) (by decide)
theorem e_v56 : r_v56 V = shapeCast S8732 (r_v55 V) shapeCasts_S8732x1_S8732 := val_reshape V 61 main_v55 main_v56 _ _ _ _ rfl (by decide) (by decide) (by decide)
theorem e_v57 : r_v57 V = (subf) (r_v54 V) (r_v56 V) := val_binary V 62 main_v54 main_v56 main_v57 _ _ _ _ rfl (by decide) (by decide) (by decide) (by decide)
theorem e_v58 : r_v58 V = (mulf) (r_v52 V) (r_v57 V) := val_binary V 63 main_v52 main_v57 main_v58 _ _ _ _ rfl (by decide) (by decide) (by decide) (by decide)
theorem e_v59 : r_v59 V = (broadcastInDim S1x1x8732 ![2] bcast_S8732_S1x1x8732_2) (r_v58 V) := val_unary V 64 main_v58 main_v59 _ _ _ rfl (by decide) (by decide) (by decide)
theorem e_v60 : r_v60 V = (broadcastInDim S32x16x8732 ![0, 1, 2] bcast_S32x16x1_S32x16x8732_0_1_2) (r_v47 V) := val_unary V 65 main_v47 main_v60 _ _ _ rfl (by decide) (by decide) (by decide)
theorem e_v61 : r_v61 V = (broadcastInDim S32x16x8732 ![0, 1, 2] bcast_S1x1x8732_S32x16x8732_0_1_2) (r_v59 V) := val_unary V 66 main_v59 main_v61 _ _ _ rfl (by decide) (by decide) (by decide)
theorem e_v62 : r_v62 V = (addf) (r_v60 V) (r_v61 V) := val_binary V 67 main_v60 main_v61 main_v62 _ _ _ _ rfl (by decide) (by decide) (by decide) (by decide)
theorem e_v63 : r_v63 V = (subf) (r_v62 V) (r_v35 V) := val_binary V 68 main_v62 main_v35 main_v63 _ _ _ _ rfl (by decide) (by decide) (by decide) (by decide)
theorem e_v64 : r_v64 V = (Host.divf) (r_v35 V) (r_v63 V) := val_binary V 69 main_v35 main_v63 main_v64 _ _ _ _ rfl (by decide) (by decide) (by decide) (by decide)
theorem e_call1_v0 : r_call1_v0 V = ((iotaInDim S32x16x8732 32 2)) := val_nullary V 70 main_call1_v0 _ _ rfl (by decide) (by decide)
theorem e_call1_cst : r_call1_cst V = ((constant S_ .f32 0xFF800000#32)) := val_nullary V 71 main_call1_cst _ _ rfl (by decide) (by decide)
theorem e_call1_c : r_call1_c V = ((constantI S_ 32 0#32)) := val_nullary V 72 main_call1_c _ _ rfl (by decide) (by decide)
theorem e_call1_v1_0 : r_call1_v1_0 V = ((fun x y u v j => (Host.argReduce reducer_argmax_f32_i32 x y u v reducesTo_S32x16x8732_S32x16_d2 h_S_ j).1)) (r_v64 V) (r_call1_v0 V) (r_call1_cst V) (r_call1_c V) := val_quaternary V 73 main_v64 main_call1_v0 main_call1_cst main_call1_c main_call1_v1_0 _ _ _ _ _ _ rfl (by decide) (by decide) (by decide) (by decide) (by decide) (by decide)
theorem e_v65 : r_v65 V = ((fun x y u v j => (Host.argReduce reducer_argmax_f32_i32 x y u v reducesTo_S32x16x8732_S32x16_d2 h_S_ j).2)) (r_v64 V) (r_call1_v0 V) (r_call1_cst V) (r_call1_c V) := val_quaternary V 74 main_v64 main_call1_v0 main_call1_cst main_call1_c main_v65 _ _ _ _ _ _ rfl (by decide) (by decide) (by decide) (by decide) (by decide) (by decide)
theorem e_cst_2 : r_cst_2 V = (constant S_ .f32 0xFF800000#32) := val_nullary V 75 main_cst_2 _ _ rfl (by decide) (by decide)
theorem e_v66 : r_v66 V = ((fun x v => Host.reduce FloatOps.maximumf x v reducesTo_S32x16x8732_S32x8732_d1 h_S_)) (r_v64 V) (r_cst_2 V) := val_binary V 76 main_v64 main_cst_2 main_v66 _ _ _ _ rfl (by decide) (by decide) (by decide) (by decide)
theorem e_call2_v0 : r_call2_v0 V = ((iotaInDim S32x16x8732 32 1)) := val_nullary V 77 main_call2_v0 _ _ rfl (by decide) (by decide)
theorem e_call2_cst : r_call2_cst V = ((constant S_ .f32 0xFF800000#32)) := val_nullary V 78 main_call2_cst _ _ rfl (by decide) (by decide)
theorem e_call2_c : r_call2_c V = ((constantI S_ 32 0#32)) := val_nullary V 79 main_call2_c _ _ rfl (by decide) (by decide)
theorem e_call2_v1_0 : r_call2_v1_0 V = ((fun x y u v j => (Host.argReduce reducer_argmax_f32_i32 x y u v reducesTo_S32x16x8732_S32x8732_d1 h_S_ j).1)) (r_v64 V) (r_call2_v0 V) (r_call2_cst V) (r_call2_c V) := val_quaternary V 80 main_v64 main_call2_v0 main_call2_cst main_call2_c main_call2_v1_0 _ _ _ _ _ _ rfl (by decide) (by decide) (by decide) (by decide) (by decide) (by decide)
theorem e_v67 : r_v67 V = ((fun x y u v j => (Host.argReduce reducer_argmax_f32_i32 x y u v reducesTo_S32x16x8732_S32x8732_d1 h_S_ j).2)) (r_v64 V) (r_call2_v0 V) (r_call2_cst V) (r_call2_c V) := val_quaternary V 81 main_v64 main_call2_v0 main_call2_cst main_call2_c main_v67 _ _ _ _ _ _ rfl (by decide) (by decide) (by decide) (by decide) (by decide) (by decide)
theorem e_v68 : r_v68 V = (iotaInDim S32 32 0) := val_nullary V 82 main_v68 _ _ rfl (by decide) (by decide)
theorem e_v69 : r_v69 V = (broadcastInDim S32x1 ![0] bcast_S32_S32x1_0) (r_v68 V) := val_unary V 83 main_v68 main_v69 _ _ _ rfl (by decide) (by decide) (by decide)
theorem e_c : r_c V = (constantI S_ 32 0#32) := val_nullary V 84 main_c _ _ rfl (by decide) (by decide)
theorem e_v70 : r_v70 V = (broadcastInDim S32x1 ![] bcast_S_S32x1) (r_c V) := val_unary V 85 main_c main_v70 _ _ _ rfl (by decide) (by decide) (by decide)
theorem e_v71 : r_v71 V = (cmpi .slt) (r_v69 V) (r_v70 V) := val_binary V 86 main_v69 main_v70 main_v71 _ _ _ _ rfl (by decide) (by decide) (by decide) (by decide)
theorem e_c_3 : r_c_3 V = (constantI S_ 32 32#32) := val_nullary V 87 main_c_3 _ _ rfl (by decide) (by decide)
theorem e_v72 : r_v72 V = (broadcastInDim S32x1 ![] bcast_S_S32x1) (r_c_3 V) := val_unary V 88 main_c_3 main_v72 _ _ _ rfl (by decide) (by decide) (by decide)
theorem e_v73 : r_v73 V = (addi) (r_v69 V) (r_v72 V) := val_binary V 89 main_v69 main_v72 main_v73 _ _ _ _ rfl (by decide) (by decide) (by decide) (by decide)
theorem e_v74 : r_v74 V = (select) (r_v71 V) (r_v73 V) (r_v69 V) := val_ternary V 90 main_v71 main_v73 main_v69 main_v74 _ _ _ _ _ rfl (by decide) (by decide) (by decide) (by decide) (by decide)
theorem e_c_4 : r_c_4 V = (constantI S_ 32 0#32) := val_nullary V 91 main_c_4 _ _ rfl (by decide) (by decide)
theorem e_v75 : r_v75 V = (broadcastInDim S32x16 ![] bcast_S_S32x16) (r_c_4 V) := val_unary V 92 main_c_4 main_v75 _ _ _ rfl (by decide) (by decide) (by decide)
theorem e_v76 : r_v76 V = (cmpi .slt) (r_v65 V) (r_v75 V) := val_binary V 93 main_v65 main_v75 main_v76 _ _ _ _ rfl (by decide) (by decide) (by decide) (by decide)
theorem e_c_5 : r_c_5 V = (constantI S_ 32 8732#32) := val_nullary V 94 main_c_5 _ _ rfl (by decide) (by decide)
theorem e_v77 : r_v77 V = (broadcastInDim S32x16 ![] bcast_S_S32x16) (r_c_5 V) := val_unary V 95 main_c_5 main_v77 _ _ _ rfl (by decide) (by decide) (by decide)
theorem e_v78 : r_v78 V = (addi) (r_v65 V) (r_v77 V) := val_binary V 96 main_v65 main_v77 main_v78 _ _ _ _ rfl (by decide) (by decide) (by decide) (by decide)
theorem e_v79 : r_v79 V = (select) (r_v76 V) (r_v78 V) (r_v65 V) := val_ternary V 97 main_v76 main_v78 main_v65 main_v79 _ _ _ _ _ rfl (by decide) (by decide) (by decide) (by decide) (by decide)
theorem e_v80 : r_v80 V = (broadcastInDim S32x16 ![0, 1] bcast_S32x1_S32x16_0_1) (r_v74 V) := val_unary V 98 main_v74 main_v80 _ _ _ rfl (by decide) (by decide) (by decide)
theorem e_v81 : r_v81 V = (broadcastInDim S32x16x1 ![0, 1] bcast_S32x16_S32x16x1_0_1) (r_v80 V) := val_unary V 99 main_v80 main_v81 _ _ _ rfl (by decide) (by decide) (by decide)
theorem e_v82 : r_v82 V = (broadcastInDim S32x16x1 ![0, 1] bcast_S32x16_S32x16x1_0_1) (r_v79 V) := val_unary V 100 main_v79 main_v82 _ _ _ rfl (by decide) (by decide) (by decide)
theorem e_v83 : r_v83 V = ((fun a b => concatenate S32x16x2 2 [⟨S32x16x1, a⟩, ⟨S32x16x1, b⟩] concatenates_S32x16x1_S32x16x1_S32x16x2_d2)) (r_v81 V) (r_v82 V) := val_binary V 101 main_v81 main_v82 main_v83 _ _ _ _ rfl (by decide) (by decide) (by decide) (by decide)
theorem e_cst_6 : r_cst_6 V = (constant S_ .f32 0x40000000#32) := val_nullary V 102 main_cst_6 _ _ rfl (by decide) (by decide)
theorem e_v84 : r_v84 V = (broadcastInDim S32x16 ![] bcast_S_S32x16) (r_cst_6 V) := val_unary V 103 main_cst_6 main_v84 _ _ _ rfl (by decide) (by decide) (by decide)
theorem e_v85 : r_v85 V = ((fun x i u => Host.scatter scatter_S32x8732_S32x16x2_S32x16_n_01_01_2 (fun _ b => b) x i u)) (r_v66 V) (r_v83 V) (r_v84 V) := val_ternary V 104 main_v66 main_v83 main_v84 main_v85 _ _ _ _ _ rfl (by decide) (by decide) (by decide) (by decide) (by decide)
theorem e_v86 : r_v86 V = (iotaInDim S16 32 0) := val_nullary V 105 main_v86 _ _ rfl (by decide) (by decide)
theorem e_v87 : r_v87 V = (broadcastInDim S1x16 ![1] bcast_S16_S1x16_1) (r_v86 V) := val_unary V 106 main_v86 main_v87 _ _ _ rfl (by decide) (by decide) (by decide)
theorem e_c_7 : r_c_7 V = (constantI S_ 32 0#32) := val_nullary V 107 main_c_7 _ _ rfl (by decide) (by decide)
theorem e_v88 : r_v88 V = (broadcastInDim S32x1 ![] bcast_S_S32x1) (r_c_7 V) := val_unary V 108 main_c_7 main_v88 _ _ _ rfl (by decide) (by decide) (by decide)
theorem e_v89 : r_v89 V = (cmpi .slt) (r_v69 V) (r_v88 V) := val_binary V 109 main_v69 main_v88 main_v89 _ _ _ _ rfl (by decide) (by decide) (by decide) (by decide)
theorem e_c_8 : r_c_8 V = (constantI S_ 32 32#32) := val_nullary V 110 main_c_8 _ _ rfl (by decide) (by decide)
theorem e_v90 : r_v90 V = (broadcastInDim S32x1 ![] bcast_S_S32x1) (r_c_8 V) := val_unary V 111 main_c_8 main_v90 _ _ _ rfl (by decide) (by decide) (by decide)
theorem e_v91 : r_v91 V = (addi) (r_v69 V) (r_v90 V) := val_binary V 112 main_v69 main_v90 main_v91 _ _ _ _ rfl (by decide) (by decide) (by decide) (by decide)
theorem e_v92 : r_v92 V = (select) (r_v89 V) (r_v91 V) (r_v69 V) := val_ternary V 113 main_v89 main_v91 main_v69 main_v92 _ _ _ _ _ rfl (by decide) (by decide) (by decide) (by decide) (by decide)
theorem e_c_9 : r_c_9 V = (constantI S_ 32 0#32) := val_nullary V 114 main_c_9 _ _ rfl (by decide) (by decide)
theorem e_v93 : r_v93 V = (broadcastInDim S32x16 ![] bcast_S_S32x16) (r_c_9 V) := val_unary V 115 main_c_9 main_v93 _ _ _ rfl (by decide) (by decide) (by decide)
theorem e_v94 : r_v94 V = (cmpi .slt) (r_v65 V) (r_v93 V) := val_binary V 116 main_v65 main_v93 main_v94 _ _ _ _ rfl (by decide) (by decide) (by decide) (by decide)
theorem e_c_10 : r_c_10 V = (constantI S_ 32 8732#32) := val_nullary V 117 main_c_10 _ _ rfl (by decide) (by decide)
theorem e_v95 : r_v95 V = (broadcastInDim S32x16 ![] bcast_S_S32x16) (r_c_10 V) := val_unary V 118 main_c_10 main_v95 _ _ _ rfl (by decide) (by decide) (by decide)
theorem e_v96 : r_v96 V = (addi) (r_v65 V) (r_v95 V) := val_binary V 119 main_v65 main_v95 main_v96 _ _ _ _ rfl (by decide) (by decide) (by decide) (by decide)
theorem e_v97 : r_v97 V = (select) (r_v94 V) (r_v96 V) (r_v65 V) := val_ternary V 120 main_v94 main_v96 main_v65 main_v97 _ _ _ _ _ rfl (by decide) (by decide) (by decide) (by decide) (by decide)
theorem e_v98 : r_v98 V = (broadcastInDim S32x16 ![0, 1] bcast_S32x1_S32x16_0_1) (r_v92 V) := val_unary V 121 main_v92 main_v98 _ _ _ rfl (by decide) (by decide) (by decide)
theorem e_v99 : r_v99 V = (broadcastInDim S32x16x1 ![0, 1] bcast_S32x16_S32x16x1_0_1) (r_v98 V) := val_unary V 122 main_v98 main_v99 _ _ _ rfl (by decide) (by decide) (by decide)
theorem e_v100 : r_v100 V = (broadcastInDim S32x16x1 ![0, 1] bcast_S32x16_S32x16x1_0_1) (r_v97 V) := val_unary V 123 main_v97 main_v100 _ _ _ rfl (by decide) (by decide) (by decide)
theorem e_v101 : r_v101 V = ((fun a b => concatenate S32x16x2 2 [⟨S32x16x1, a⟩, ⟨S32x16x1, b⟩] concatenates_S32x16x1_S32x16x1_S32x16x2_d2)) (r_v99 V) (r_v100 V) := val_binary V 124 main_v99 main_v100 main_v101 _ _ _ _ rfl (by decide) (by decide) (by decide) (by decide)
theorem e_v102 : r_v102 V = (broadcastInDim S32x16 ![0, 1] bcast_S1x16_S32x16_0_1) (r_v87 V) := val_unary V 125 main_v87 main_v102 _ _ _ rfl (by decide) (by decide) (by decide)
theorem e_v103 : r_v103 V = ((fun x i u => Host.scatter scatter_S32x8732_S32x16x2_S32x16_n_01_01_2 (fun _ b => b) x i u)) (r_v67 V) (r_v101 V) (r_v102 V) := val_ternary V 126 main_v67 main_v101 main_v102 main_v103 _ _ _ _ _ rfl (by decide) (by decide) (by decide) (by decide) (by decide)
theorem e_c_11 : r_c_11 V = (constantI S_ 32 0#32) := val_nullary V 127 main_c_11 _ _ rfl (by decide) (by decide)
theorem e_v104 : r_v104 V = (broadcastInDim S32x1 ![] bcast_S_S32x1) (r_c_11 V) := val_unary V 128 main_c_11 main_v104 _ _ _ rfl (by decide) (by decide) (by decide)
theorem e_v105 : r_v105 V = (cmpi .slt) (r_v69 V) (r_v104 V) := val_binary V 129 main_v69 main_v104 main_v105 _ _ _ _ rfl (by decide) (by decide) (by decide) (by decide)
theorem e_c_12 : r_c_12 V = (constantI S_ 32 32#32) := val_nullary V 130 main_c_12 _ _ rfl (by decide) (by decide)
theorem e_v106 : r_v106 V = (broadcastInDim S32x1 ![] bcast_S_S32x1) (r_c_12 V) := val_unary V 131 main_c_12 main_v106 _ _ _ rfl (by decide) (by decide) (by decide)
theorem e_v107 : r_v107 V = (addi) (r_v69 V) (r_v106 V) := val_binary V 132 main_v69 main_v106 main_v107 _ _ _ _ rfl (by decide) (by decide) (by decide) (by decide)
theorem e_v108 : r_v108 V = (select) (r_v105 V) (r_v107 V) (r_v69 V) := val_ternary V 133 main_v105 main_v107 main_v69 main_v108 _ _ _ _ _ rfl (by decide) (by decide) (by decide) (by decide) (by decide)
theorem e_c_13 : r_c_13 V = (constantI S_ 32 0#32) := val_nullary V 134 main_c_13 _ _ rfl (by decide) (by decide)
theorem e_v109 : r_v109 V = (broadcastInDim S32x8732 ![] bcast_S_S32x8732) (r_c_13 V) := val_unary V 135 main_c_13 main_v109 _ _ _ rfl (by decide) (by decide) (by decide)
theorem e_v110 : r_v110 V = (cmpi .slt) (r_v103 V) (r_v109 V) := val_binary V 136 main_v103 main_v109 main_v110 _ _ _ _ rfl (by decide) (by decide) (by decide) (by decide)
theorem e_c_14 : r_c_14 V = (constantI S_ 32 16#32) := val_nullary V 137 main_c_14 _ _ rfl (by decide) (by decide)
theorem e_v111 : r_v111 V = (broadcastInDim S32x8732 ![] bcast_S_S32x8732) (r_c_14 V) := val_unary V 138 main_c_14 main_v111 _ _ _ rfl (by decide) (by decide) (by decide)
theorem e_v112 : r_v112 V = (addi) (r_v103 V) (r_v111 V) := val_binary V 139 main_v103 main_v111 main_v112 _ _ _ _ rfl (by decide) (by decide) (by decide) (by decide)
theorem e_v113 : r_v113 V = (select) (r_v110 V) (r_v112 V) (r_v103 V) := val_ternary V 140 main_v110 main_v112 main_v103 main_v113 _ _ _ _ _ rfl (by decide) (by decide) (by decide) (by decide) (by decide)
theorem e_v114 : r_v114 V = (broadcastInDim S32x8732 ![0, 1] bcast_S32x1_S32x8732_0_1) (r_v108 V) := val_unary V 141 main_v108 main_v114 _ _ _ rfl (by decide) (by decide) (by decide)
theorem e_v115 : r_v115 V = (broadcastInDim S32x8732x1 ![0, 1] bcast_S32x8732_S32x8732x1_0_1) (r_v114 V) := val_unary V 142 main_v114 main_v115 _ _ _ rfl (by decide) (by decide) (by decide)
theorem e_v116 : r_v116 V = (broadcastInDim S32x8732x1 ![0, 1] bcast_S32x8732_S32x8732x1_0_1) (r_v113 V) := val_unary V 143 main_v113 main_v116 _ _ _ rfl (by decide) (by decide) (by decide)
theorem e_v117 : r_v117 V = ((fun a b => concatenate S32x8732x2 2 [⟨S32x8732x1, a⟩, ⟨S32x8732x1, b⟩] concatenates_S32x8732x1_S32x8732x1_S32x8732x2_d2)) (r_v115 V) (r_v116 V) := val_binary V 144 main_v115 main_v116 main_v117 _ _ _ _ rfl (by decide) (by decide) (by decide) (by decide)
theorem e_v118 : r_v118 V = ((fun x i => Host.gather gather_S32x16x4_S32x8732x2_S32x8732x4_2_01_n_n_01_2_114 x i)) (r_v0 V) (r_v117 V) := val_binary V 145 main_v0 main_v117 main_v118 _ _ _ _ rfl (by decide) (by decide) (by decide) (by decide)
theorem e_c_15 : r_c_15 V = (constantI S_ 32 0#32) := val_nullary V 146 main_c_15 _ _ rfl (by decide) (by decide)
theorem e_v119 : r_v119 V = (broadcastInDim S32x1 ![] bcast_S_S32x1) (r_c_15 V) := val_unary V 147 main_c_15 main_v119 _ _ _ rfl (by decide) (by decide) (by decide)
theorem e_v120 : r_v120 V = (cmpi .slt) (r_v69 V) (r_v119 V) := val_binary V 148 main_v69 main_v119 main_v120 _ _ _ _ rfl (by decide) (by decide) (by decide) (by decide)
theorem e_c_16 : r_c_16 V = (constantI S_ 32 32#32) := val_nullary V 149 main_c_16 _ _ rfl (by decide) (by decide)
theorem e_v121 : r_v121 V = (broadcastInDim S32x1 ![] bcast_S_S32x1) (r_c_16 V) := val_unary V 150 main_c_16 main_v121 _ _ _ rfl (by decide) (by decide) (by decide)
theorem e_v122 : r_v122 V = (addi) (r_v69 V) (r_v121 V) := val_binary V 151 main_v69 main_v121 main_v122 _ _ _ _ rfl (by decide) (by decide) (by decide) (by decide)
theorem e_v123 : r_v123 V = (select) (r_v120 V) (r_v122 V) (r_v69 V) := val_ternary V 152 main_v120 main_v122 main_v69 main_v123 _ _ _ _ _ rfl (by decide) (by decide) (by decide) (by decide) (by decide)
theorem e_c_17 : r_c_17 V = (constantI S_ 32 0#32) := val_nullary V 153 main_c_17 _ _ rfl (by decide) (by decide)
theorem e_v124 : r_v124 V = (broadcastInDim S32x8732 ![] bcast_S_S32x8732) (r_c_17 V) := val_unary V 154 main_c_17 main_v124 _ _ _ rfl (by decide) (by decide) (by decide)
theorem e_v125 : r_v125 V = (cmpi .slt) (r_v103 V) (r_v124 V) := val_binary V 155 main_v103 main_v124 main_v125 _ _ _ _ rfl (by decide) (by decide) (by decide) (by decide)

end Cert.RefRun
-- ==== Proof.RefEqB.lean ====
module

public import proofs.«01_k».proof.Proof.RefVals

@[expose] public section

set_option maxRecDepth 16384

namespace Cert.RefRun

open Idealize.ShloMosaic Idealize.SL.Sem Idealize.ShloMosaic.StableHlo
open Cert.ReferenceIdeal Cert.ReferenceIdeal.Gen

variable {F : FTy → Type} [FloatOps F]

variable (V : Valuation τ sig (Elt F))

theorem e_c_18 : r_c_18 V = (constantI S_ 32 16#32) := val_nullary V 156 main_c_18 _ _ rfl (by decide) (by decide)
theorem e_v126 : r_v126 V = (broadcastInDim S32x8732 ![] bcast_S_S32x8732) (r_c_18 V) := val_unary V 157 main_c_18 main_v126 _ _ _ rfl (by decide) (by decide) (by decide)
theorem e_v127 : r_v127 V = (addi) (r_v103 V) (r_v126 V) := val_binary V 158 main_v103 main_v126 main_v127 _ _ _ _ rfl (by decide) (by decide) (by decide) (by decide)
theorem e_v128 : r_v128 V = (select) (r_v125 V) (r_v127 V) (r_v103 V) := val_ternary V 159 main_v125 main_v127 main_v103 main_v128 _ _ _ _ _ rfl (by decide) (by decide) (by decide) (by decide) (by decide)
theorem e_v129 : r_v129 V = (broadcastInDim S32x8732 ![0, 1] bcast_S32x1_S32x8732_0_1) (r_v123 V) := val_unary V 160 main_v123 main_v129 _ _ _ rfl (by decide) (by decide) (by decide)
theorem e_v130 : r_v130 V = (broadcastInDim S32x8732x1 ![0, 1] bcast_S32x8732_S32x8732x1_0_1) (r_v129 V) := val_unary V 161 main_v129 main_v130 _ _ _ rfl (by decide) (by decide) (by decide)
theorem e_v131 : r_v131 V = (broadcastInDim S32x8732x1 ![0, 1] bcast_S32x8732_S32x8732x1_0_1) (r_v128 V) := val_unary V 162 main_v128 main_v131 _ _ _ rfl (by decide) (by decide) (by decide)
theorem e_v132 : r_v132 V = ((fun a b => concatenate S32x8732x2 2 [⟨S32x8732x1, a⟩, ⟨S32x8732x1, b⟩] concatenates_S32x8732x1_S32x8732x1_S32x8732x2_d2)) (r_v130 V) (r_v131 V) := val_binary V 163 main_v130 main_v131 main_v132 _ _ _ _ rfl (by decide) (by decide) (by decide) (by decide)
theorem e_v133 : r_v133 V = ((fun x i => Host.gather gather_S32x16_S32x8732x2_S32x8732_n_01_n_n_01_2_11 x i)) (r_v3 V) (r_v132 V) := val_binary V 164 main_v3 main_v132 main_v133 _ _ _ _ rfl (by decide) (by decide) (by decide) (by decide)
theorem e_cst_19 : r_cst_19 V = (constant S_ .f32 0x3F000000#32) := val_nullary V 165 main_cst_19 _ _ rfl (by decide) (by decide)
theorem e_v134 : r_v134 V = (broadcastInDim S32x8732 ![] bcast_S_S32x8732) (r_cst_19 V) := val_unary V 166 main_cst_19 main_v134 _ _ _ rfl (by decide) (by decide) (by decide)
theorem e_v135 : r_v135 V = (cmpf .olt) (r_v85 V) (r_v134 V) := val_binary V 167 main_v85 main_v134 main_v135 _ _ _ _ rfl (by decide) (by decide) (by decide) (by decide)
theorem e_c_20 : r_c_20 V = (constantI S_ 32 0#32) := val_nullary V 168 main_c_20 _ _ rfl (by decide) (by decide)
theorem e_call3_v0 : r_call3_v0 V = (id) (r_c_20 V) := val_unary V 169 main_c_20 main_call3_v0 _ _ _ rfl (by decide) (by decide) (by decide)
theorem e_call3_v1 : r_call3_v1 V = ((broadcastInDim S32x8732 ![] bcast_S_S32x8732)) (r_call3_v0 V) := val_unary V 170 main_call3_v0 main_call3_v1 _ _ _ rfl (by decide) (by decide) (by decide)
theorem e_v136 : r_v136 V = (select) (r_v135 V) (r_call3_v1 V) (r_v133 V) := val_ternary V 171 main_v135 main_call3_v1 main_v133 main_v136 _ _ _ _ _ rfl (by decide) (by decide) (by decide) (by decide) (by decide)
theorem e_v137 : r_v137 V = ((extractStridedSlice S32x8732x2 ![0, 0, 0] · slices_S32x8732x4_S32x8732x2_0_0_0)) (r_v118 V) := val_unary V 172 main_v118 main_v137 _ _ _ rfl (by decide) (by decide) (by decide)
theorem e_v138 : r_v138 V = ((extractStridedSlice S32x8732x2 ![0, 0, 2] · slices_S32x8732x4_S32x8732x2_0_0_2)) (r_v118 V) := val_unary V 173 main_v118 main_v138 _ _ _ rfl (by decide) (by decide) (by decide)
theorem e_v139 : r_v139 V = (addf) (r_v137 V) (r_v138 V) := val_binary V 174 main_v137 main_v138 main_v139 _ _ _ _ rfl (by decide) (by decide) (by decide) (by decide)
theorem e_cst_21 : r_cst_21 V = (constant S_ .f32 0x40000000#32) := val_nullary V 175 main_cst_21 _ _ rfl (by decide) (by decide)
theorem e_v140 : r_v140 V = (broadcastInDim S32x8732x2 ![] bcast_S_S32x8732x2) (r_cst_21 V) := val_unary V 176 main_cst_21 main_v140 _ _ _ rfl (by decide) (by decide) (by decide)
theorem e_v141 : r_v141 V = (Host.divf) (r_v139 V) (r_v140 V) := val_binary V 177 main_v139 main_v140 main_v141 _ _ _ _ rfl (by decide) (by decide) (by decide) (by decide)
theorem e_v142 : r_v142 V = ((extractStridedSlice S8732x2 ![0, 0] · slices_S8732x4_S8732x2_0_0)) (r_arg2 V) := val_unary V 178 main_arg2 main_v142 _ _ _ rfl (by decide) (by decide) (by decide)
theorem e_v143 : r_v143 V = (broadcastInDim S1x8732x2 ![1, 2] bcast_S8732x2_S1x8732x2_1_2) (r_v142 V) := val_unary V 179 main_v142 main_v143 _ _ _ rfl (by decide) (by decide) (by decide)
theorem e_v144 : r_v144 V = (broadcastInDim S32x8732x2 ![0, 1, 2] bcast_S1x8732x2_S32x8732x2_0_1_2) (r_v143 V) := val_unary V 180 main_v143 main_v144 _ _ _ rfl (by decide) (by decide) (by decide)
theorem e_v145 : r_v145 V = (subf) (r_v141 V) (r_v144 V) := val_binary V 181 main_v141 main_v144 main_v145 _ _ _ _ rfl (by decide) (by decide) (by decide) (by decide)
theorem e_v146 : r_v146 V = ((extractStridedSlice S8732x2 ![0, 2] · slices_S8732x4_S8732x2_0_2)) (r_arg2 V) := val_unary V 182 main_arg2 main_v146 _ _ _ rfl (by decide) (by decide) (by decide)
theorem e_v147 : r_v147 V = (broadcastInDim S1x8732x2 ![1, 2] bcast_S8732x2_S1x8732x2_1_2) (r_v146 V) := val_unary V 183 main_v146 main_v147 _ _ _ rfl (by decide) (by decide) (by decide)
theorem e_cst_22 : r_cst_22 V = (constant S_ .f32 0x3DCCCCCD#32) := val_nullary V 184 main_cst_22 _ _ rfl (by decide) (by decide)
theorem e_v148 : r_v148 V = (broadcastInDim S1x8732x2 ![] bcast_S_S1x8732x2) (r_cst_22 V) := val_unary V 185 main_cst_22 main_v148 _ _ _ rfl (by decide) (by decide) (by decide)
theorem e_v149 : r_v149 V = (mulf) (r_v148 V) (r_v147 V) := val_binary V 186 main_v148 main_v147 main_v149 _ _ _ _ rfl (by decide) (by decide) (by decide) (by decide)
theorem e_v150 : r_v150 V = (broadcastInDim S32x8732x2 ![0, 1, 2] bcast_S1x8732x2_S32x8732x2_0_1_2) (r_v149 V) := val_unary V 187 main_v149 main_v150 _ _ _ rfl (by decide) (by decide) (by decide)
theorem e_v151 : r_v151 V = (Host.divf) (r_v145 V) (r_v150 V) := val_binary V 188 main_v145 main_v150 main_v151 _ _ _ _ rfl (by decide) (by decide) (by decide) (by decide)
theorem e_v152 : r_v152 V = ((extractStridedSlice S32x8732x2 ![0, 0, 2] · slices_S32x8732x4_S32x8732x2_0_0_2)) (r_v118 V) := val_unary V 189 main_v118 main_v152 _ _ _ rfl (by decide) (by decide) (by decide)
theorem e_v153 : r_v153 V = ((extractStridedSlice S32x8732x2 ![0, 0, 0] · slices_S32x8732x4_S32x8732x2_0_0_0)) (r_v118 V) := val_unary V 190 main_v118 main_v153 _ _ _ rfl (by decide) (by decide) (by decide)
theorem e_v154 : r_v154 V = (subf) (r_v152 V) (r_v153 V) := val_binary V 191 main_v152 main_v153 main_v154 _ _ _ _ rfl (by decide) (by decide) (by decide) (by decide)
theorem e_v155 : r_v155 V = ((extractStridedSlice S8732x2 ![0, 2] · slices_S8732x4_S8732x2_0_2)) (r_arg2 V) := val_unary V 192 main_arg2 main_v155 _ _ _ rfl (by decide) (by decide) (by decide)
theorem e_v156 : r_v156 V = (broadcastInDim S1x8732x2 ![1, 2] bcast_S8732x2_S1x8732x2_1_2) (r_v155 V) := val_unary V 193 main_v155 main_v156 _ _ _ rfl (by decide) (by decide) (by decide)
theorem e_v157 : r_v157 V = (broadcastInDim S32x8732x2 ![0, 1, 2] bcast_S1x8732x2_S32x8732x2_0_1_2) (r_v156 V) := val_unary V 194 main_v156 main_v157 _ _ _ rfl (by decide) (by decide) (by decide)
theorem e_v158 : r_v158 V = (Host.divf) (r_v154 V) (r_v157 V) := val_binary V 195 main_v154 main_v157 main_v158 _ _ _ _ rfl (by decide) (by decide) (by decide) (by decide)
theorem e_cst_23 : r_cst_23 V = (constant S_ .f32 0x322BCC77#32) := val_nullary V 196 main_cst_23 _ _ rfl (by decide) (by decide)
theorem e_v159 : r_v159 V = (broadcastInDim S32x8732x2 ![] bcast_S_S32x8732x2) (r_cst_23 V) := val_unary V 197 main_cst_23 main_v159 _ _ _ rfl (by decide) (by decide) (by decide)
theorem e_v160 : r_v160 V = (maximumf) (r_v158 V) (r_v159 V) := val_binary V 198 main_v158 main_v159 main_v160 _ _ _ _ rfl (by decide) (by decide) (by decide) (by decide)
theorem e_v161 : r_v161 V = (Host.log) (r_v160 V) := val_unary V 199 main_v160 main_v161 _ _ _ rfl (by decide) (by decide) (by decide)
theorem e_cst_24 : r_cst_24 V = (constant S_ .f32 0x3E4CCCCD#32) := val_nullary V 200 main_cst_24 _ _ rfl (by decide) (by decide)
theorem e_v162 : r_v162 V = (broadcastInDim S32x8732x2 ![] bcast_S_S32x8732x2) (r_cst_24 V) := val_unary V 201 main_cst_24 main_v162 _ _ _ rfl (by decide) (by decide) (by decide)
theorem e_v163 : r_v163 V = (Host.divf) (r_v161 V) (r_v162 V) := val_binary V 202 main_v161 main_v162 main_v163 _ _ _ _ rfl (by decide) (by decide) (by decide) (by decide)
theorem e_v164 : r_v164 V = ((fun a b => concatenate S32x8732x4 2 [⟨S32x8732x2, a⟩, ⟨S32x8732x2, b⟩] concatenates_S32x8732x2_S32x8732x2_S32x8732x4_d2)) (r_v151 V) (r_v163 V) := val_binary V 203 main_v151 main_v163 main_v164 _ _ _ _ rfl (by decide) (by decide) (by decide) (by decide)
theorem e_c_25 : r_c_25 V = (constantI S_ 32 0#32) := val_nullary V 204 main_c_25 _ _ rfl (by decide) (by decide)
theorem e_v165 : r_v165 V = (broadcastInDim S32x8732 ![] bcast_S_S32x8732) (r_c_25 V) := val_unary V 205 main_c_25 main_v165 _ _ _ rfl (by decide) (by decide) (by decide)
theorem e_v166 : r_v166 V = (cmpi .sgt) (r_v136 V) (r_v165 V) := val_binary V 206 main_v136 main_v165 main_v166 _ _ _ _ rfl (by decide) (by decide) (by decide) (by decide)
theorem e_v167 : r_v167 V = (subf) (r_arg0 V) (r_v164 V) := val_binary V 207 main_arg0 main_v164 main_v167 _ _ _ _ rfl (by decide) (by decide) (by decide) (by decide)
theorem e_v168 : r_v168 V = (Host.absf) (r_v167 V) := val_unary V 208 main_v167 main_v168 _ _ _ rfl (by decide) (by decide) (by decide)
theorem e_cst_26 : r_cst_26 V = (constant S_ .f32 0x3F800000#32) := val_nullary V 209 main_cst_26 _ _ rfl (by decide) (by decide)
theorem e_v169 : r_v169 V = (broadcastInDim S32x8732x4 ![] bcast_S_S32x8732x4) (r_cst_26 V) := val_unary V 210 main_cst_26 main_v169 _ _ _ rfl (by decide) (by decide) (by decide)
theorem e_v170 : r_v170 V = (cmpf .olt) (r_v168 V) (r_v169 V) := val_binary V 211 main_v168 main_v169 main_v170 _ _ _ _ rfl (by decide) (by decide) (by decide) (by decide)
theorem e_cst_27 : r_cst_27 V = (constant S_ .f32 0x3F000000#32) := val_nullary V 212 main_cst_27 _ _ rfl (by decide) (by decide)
theorem e_v171 : r_v171 V = (broadcastInDim S32x8732x4 ![] bcast_S_S32x8732x4) (r_cst_27 V) := val_unary V 213 main_cst_27 main_v171 _ _ _ rfl (by decide) (by decide) (by decide)
theorem e_v172 : r_v172 V = (mulf) (r_v171 V) (r_v168 V) := val_binary V 214 main_v171 main_v168 main_v172 _ _ _ _ rfl (by decide) (by decide) (by decide) (by decide)
theorem e_v173 : r_v173 V = (mulf) (r_v172 V) (r_v168 V) := val_binary V 215 main_v172 main_v168 main_v173 _ _ _ _ rfl (by decide) (by decide) (by decide) (by decide)
theorem e_cst_28 : r_cst_28 V = (constant S_ .f32 0x3F000000#32) := val_nullary V 216 main_cst_28 _ _ rfl (by decide) (by decide)
theorem e_v174 : r_v174 V = (broadcastInDim S32x8732x4 ![] bcast_S_S32x8732x4) (r_cst_28 V) := val_unary V 217 main_cst_28 main_v174 _ _ _ rfl (by decide) (by decide) (by decide)
theorem e_v175 : r_v175 V = (subf) (r_v168 V) (r_v174 V) := val_binary V 218 main_v168 main_v174 main_v175 _ _ _ _ rfl (by decide) (by decide) (by decide) (by decide)
theorem e_v176 : r_v176 V = (select) (r_v170 V) (r_v173 V) (r_v175 V) := val_ternary V 219 main_v170 main_v173 main_v175 main_v176 _ _ _ _ _ rfl (by decide) (by decide) (by decide) (by decide) (by decide)
theorem e_v177 : r_v177 V = (broadcastInDim S32x8732x1 ![0, 1] bcast_S32x8732_S32x8732x1_0_1) (r_v166 V) := val_unary V 220 main_v166 main_v177 _ _ _ rfl (by decide) (by decide) (by decide)
theorem e_cst_29 : r_cst_29 V = (constant S_ .f32 0x00000000#32) := val_nullary V 221 main_cst_29 _ _ rfl (by decide) (by decide)
theorem e_call5_v0 : r_call5_v0 V = (id) (r_cst_29 V) := val_unary V 222 main_cst_29 main_call5_v0 _ _ _ rfl (by decide) (by decide) (by decide)
theorem e_call5_v1 : r_call5_v1 V = ((broadcastInDim S32x8732x4 ![0, 1, 2] bcast_S32x8732x1_S32x8732x4_0_1_2)) (r_v177 V) := val_unary V 223 main_v177 main_call5_v1 _ _ _ rfl (by decide) (by decide) (by decide)
theorem e_call5_v2 : r_call5_v2 V = ((broadcastInDim S32x8732x4 ![] bcast_S_S32x8732x4)) (r_call5_v0 V) := val_unary V 224 main_call5_v0 main_call5_v2 _ _ _ rfl (by decide) (by decide) (by decide)
theorem e_v178 : r_v178 V = (select) (r_call5_v1 V) (r_v176 V) (r_call5_v2 V) := val_ternary V 225 main_call5_v1 main_v176 main_call5_v2 main_v178 _ _ _ _ _ rfl (by decide) (by decide) (by decide) (by decide) (by decide)
theorem e_cst_30 : r_cst_30 V = (constant S_ .f32 0x00000000#32) := val_nullary V 226 main_cst_30 _ _ rfl (by decide) (by decide)
theorem e_v179 : r_v179 V = ((fun x v => Host.reduceAdd x v reducesTo_S32x8732x4_S_d0_1_2 h_S_)) (r_v178 V) (r_cst_30 V) := val_binary V 227 main_v178 main_cst_30 main_v179 _ _ _ _ rfl (by decide) (by decide) (by decide) (by decide)
theorem e_cst_31 : r_cst_31 V = (constant S_ .f32 0xFF800000#32) := val_nullary V 228 main_cst_31 _ _ rfl (by decide) (by decide)
theorem e_v180 : r_v180 V = ((fun x v => Host.reduce FloatOps.maximumf x v reducesTo_S32x8732x21_S32x8732_d2 h_S_)) (r_arg1 V) (r_cst_31 V) := val_binary V 229 main_arg1 main_cst_31 main_v180 _ _ _ _ rfl (by decide) (by decide) (by decide) (by decide)
theorem e_v181 : r_v181 V = (broadcastInDim S32x8732x1 ![0, 1] bcast_S32x8732_S32x8732x1_0_1) (r_v180 V) := val_unary V 230 main_v180 main_v181 _ _ _ rfl (by decide) (by decide) (by decide)
theorem e_v182 : r_v182 V = (Host.absf) (r_v181 V) := val_unary V 231 main_v181 main_v182 _ _ _ rfl (by decide) (by decide) (by decide)
theorem e_cst_32 : r_cst_32 V = (constant S_ .f32 0x7F800000#32) := val_nullary V 232 main_cst_32 _ _ rfl (by decide) (by decide)
theorem e_v183 : r_v183 V = (broadcastInDim S32x8732x1 ![] bcast_S_S32x8732x1) (r_cst_32 V) := val_unary V 233 main_cst_32 main_v183 _ _ _ rfl (by decide) (by decide) (by decide)
theorem e_v184 : r_v184 V = (cmpf .olt) (r_v182 V) (r_v183 V) := val_binary V 234 main_v182 main_v183 main_v184 _ _ _ _ rfl (by decide) (by decide) (by decide) (by decide)
theorem e_cst_33 : r_cst_33 V = (constant S_ .f32 0x00000000#32) := val_nullary V 235 main_cst_33 _ _ rfl (by decide) (by decide)
theorem e_call6_v0 : r_call6_v0 V = (id) (r_cst_33 V) := val_unary V 236 main_cst_33 main_call6_v0 _ _ _ rfl (by decide) (by decide) (by decide)
theorem e_call6_v1 : r_call6_v1 V = ((broadcastInDim S32x8732x1 ![] bcast_S_S32x8732x1)) (r_call6_v0 V) := val_unary V 237 main_call6_v0 main_call6_v1 _ _ _ rfl (by decide) (by decide) (by decide)
theorem e_v185 : r_v185 V = (select) (r_v184 V) (r_v181 V) (r_call6_v1 V) := val_ternary V 238 main_v184 main_v181 main_call6_v1 main_v185 _ _ _ _ _ rfl (by decide) (by decide) (by decide) (by decide) (by decide)
theorem e_v186 : r_v186 V = (broadcastInDim S32x8732x21 ![0, 1, 2] bcast_S32x8732x1_S32x8732x21_0_1_2) (r_v185 V) := val_unary V 239 main_v185 main_v186 _ _ _ rfl (by decide) (by decide) (by decide)
theorem e_v187 : r_v187 V = (subf) (r_arg1 V) (r_v186 V) := val_binary V 240 main_arg1 main_v186 main_v187 _ _ _ _ rfl (by decide) (by decide) (by decide) (by decide)
theorem e_v188 : r_v188 V = (Host.exp) (r_v187 V) := val_unary V 241 main_v187 main_v188 _ _ _ rfl (by decide) (by decide) (by decide)
theorem e_cst_34 : r_cst_34 V = (constant S_ .f32 0x00000000#32) := val_nullary V 242 main_cst_34 _ _ rfl (by decide) (by decide)
theorem e_v189 : r_v189 V = ((fun x v => Host.reduceAdd x v reducesTo_S32x8732x21_S32x8732_d2 h_S_)) (r_v188 V) (r_cst_34 V) := val_binary V 243 main_v188 main_cst_34 main_v189 _ _ _ _ rfl (by decide) (by decide) (by decide) (by decide)
theorem e_v190 : r_v190 V = (broadcastInDim S32x8732x1 ![0, 1] bcast_S32x8732_S32x8732x1_0_1) (r_v189 V) := val_unary V 244 main_v189 main_v190 _ _ _ rfl (by decide) (by decide) (by decide)
theorem e_v191 : r_v191 V = (Host.log) (r_v190 V) := val_unary V 245 main_v190 main_v191 _ _ _ rfl (by decide) (by decide) (by decide)
theorem e_v192 : r_v192 V = (addf) (r_v191 V) (r_v185 V) := val_binary V 246 main_v191 main_v185 main_v192 _ _ _ _ rfl (by decide) (by decide) (by decide) (by decide)
theorem e_v193 : r_v193 V = shapeCast S32x8732 (r_v192 V) shapeCasts_S32x8732x1_S32x8732 := val_reshape V 247 main_v192 main_v193 _ _ _ _ rfl (by decide) (by decide) (by decide)
theorem e_v194 : r_v194 V = (broadcastInDim S32x8732x1 ![0, 1] bcast_S32x8732_S32x8732x1_0_1) (r_v136 V) := val_unary V 248 main_v136 main_v194 _ _ _ rfl (by decide) (by decide) (by decide)
theorem e_call7_c : r_call7_c V = ((constantI S_ 32 0#32)) := val_nullary V 249 main_call7_c _ _ rfl (by decide) (by decide)
theorem e_call7_v0 : r_call7_v0 V = ((broadcastInDim S32x8732x1 ![] bcast_S_S32x8732x1)) (r_call7_c V) := val_unary V 250 main_call7_c main_call7_v0 _ _ _ rfl (by decide) (by decide) (by decide)
theorem e_call7_v1 : r_call7_v1 V = ((cmpi .slt)) (r_v194 V) (r_call7_v0 V) := val_binary V 251 main_v194 main_call7_v0 main_call7_v1 _ _ _ _ rfl (by decide) (by decide) (by decide) (by decide)
theorem e_call7_c_0 : r_call7_c_0 V = ((constantI S_ 32 21#32)) := val_nullary V 252 main_call7_c_0 _ _ rfl (by decide) (by decide)
theorem e_call7_v2 : r_call7_v2 V = ((broadcastInDim S32x8732x1 ![] bcast_S_S32x8732x1)) (r_call7_c_0 V) := val_unary V 253 main_call7_c_0 main_call7_v2 _ _ _ rfl (by decide) (by decide) (by decide)
theorem e_call7_v3 : r_call7_v3 V = (addi) (r_v194 V) (r_call7_v2 V) := val_binary V 254 main_v194 main_call7_v2 main_call7_v3 _ _ _ _ rfl (by decide) (by decide) (by decide) (by decide)
theorem e_call7_v4 : r_call7_v4 V = (select) (r_call7_v1 V) (r_call7_v3 V) (r_v194 V) := val_ternary V 255 main_call7_v1 main_call7_v3 main_v194 main_call7_v4 _ _ _ _ _ rfl (by decide) (by decide) (by decide) (by decide) (by decide)
theorem e_call7_v5 : r_call7_v5 V = shapeCast S32x8732x1x1 (r_call7_v4 V) shapeCasts_S32x8732x1_S32x8732x1x1 := val_reshape V 256 main_call7_v4 main_call7_v5 _ _ _ _ rfl (by decide) (by decide) (by decide)
theorem e_call7_c_1 : r_call7_c_1 V = ((constantI S1 32 20#32)) := val_nullary V 257 main_call7_c_1 _ _ rfl (by decide) (by decide)
theorem e_call7_c_2 : r_call7_c_2 V = ((constantI S_ 32 0#32)) := val_nullary V 258 main_call7_c_2 _ _ rfl (by decide) (by decide)
theorem e_call7_v6 : r_call7_v6 V = ((broadcastInDim S32x8732x1x1 ![] bcast_S_S32x8732x1x1)) (r_call7_c_2 V) := val_unary V 259 main_call7_c_2 main_call7_v6 _ _ _ rfl (by decide) (by decide) (by decide)
theorem e_call7_v7 : r_call7_v7 V = ((cmpi .sge)) (r_call7_v5 V) (r_call7_v6 V) := val_binary V 260 main_call7_v5 main_call7_v6 main_call7_v7 _ _ _ _ rfl (by decide) (by decide) (by decide) (by decide)
theorem e_call7_v8 : r_call7_v8 V = ((broadcastInDim S1x1x1x1 ![3] bcast_S1_S1x1x1x1_3)) (r_call7_c_1 V) := val_unary V 261 main_call7_c_1 main_call7_v8 _ _ _ rfl (by decide) (by decide) (by decide)
theorem e_call7_v9 : r_call7_v9 V = ((broadcastInDim S32x8732x1x1 ![0, 1, 2, 3] bcast_S1x1x1x1_S32x8732x1x1_0_1_2_3)) (r_call7_v8 V) := val_unary V 262 main_call7_v8 main_call7_v9 _ _ _ rfl (by decide) (by decide) (by decide)
theorem e_call7_v10 : r_call7_v10 V = ((cmpi .sle)) (r_call7_v5 V) (r_call7_v9 V) := val_binary V 263 main_call7_v5 main_call7_v9 main_call7_v10 _ _ _ _ rfl (by decide) (by decide) (by decide) (by decide)
theorem e_call7_v11 : r_call7_v11 V = (andi) (r_call7_v7 V) (r_call7_v10 V) := val_binary V 264 main_call7_v7 main_call7_v10 main_call7_v11 _ _ _ _ rfl (by decide) (by decide) (by decide) (by decide)
theorem e_call7_c_3 : r_call7_c_3 V = ((constantI S_ 1 1#1)) := val_nullary V 265 main_call7_c_3 _ _ rfl (by decide) (by decide)
theorem e_call7_v12 : r_call7_v12 V = ((fun x v => Host.reduce IntOp.andi x v reducesTo_S32x8732x1x1_S32x8732x1_d3 h_S_)) (r_call7_v11 V) (r_call7_c_3 V) := val_binary V 266 main_call7_v11 main_call7_c_3 main_call7_v12 _ _ _ _ rfl (by decide) (by decide) (by decide) (by decide)
theorem e_call7_v13 : r_call7_v13 V = ((fun x i => Host.gather gather_S32x8732x21_S32x8732x1x1_S32x8732x1_n_2_01_01_2_3_111 x i)) (r_arg1 V) (r_call7_v5 V) := val_binary V 267 main_arg1 main_call7_v5 main_call7_v13 _ _ _ _ rfl (by decide) (by decide) (by decide) (by decide)
theorem e_call7_cst : r_call7_cst V = ((constant S_ .f32 0x7FC00000#32)) := val_nullary V 268 main_call7_cst _ _ rfl (by decide) (by decide)
theorem e_call7_v14 : r_call7_v14 V = ((broadcastInDim S32x8732x1 ![] bcast_S_S32x8732x1)) (r_call7_cst V) := val_unary V 269 main_call7_cst main_call7_v14 _ _ _ rfl (by decide) (by decide) (by decide)
theorem e_v195 : r_v195 V = (select) (r_call7_v12 V) (r_call7_v13 V) (r_call7_v14 V) := val_ternary V 270 main_call7_v12 main_call7_v13 main_call7_v14 main_v195 _ _ _ _ _ rfl (by decide) (by decide) (by decide) (by decide) (by decide)
theorem e_v196 : r_v196 V = shapeCast S32x8732 (r_v195 V) shapeCasts_S32x8732x1_S32x8732 := val_reshape V 271 main_v195 main_v196 _ _ _ _ rfl (by decide) (by decide) (by decide)
theorem e_v197 : r_v197 V = (subf) (r_v193 V) (r_v196 V) := val_binary V 272 main_v193 main_v196 main_v197 _ _ _ _ rfl (by decide) (by decide) (by decide) (by decide)
theorem e_cst_35 : r_cst_35 V = (constant S_ .f32 0x00000000#32) := val_nullary V 273 main_cst_35 _ _ rfl (by decide) (by decide)
theorem e_call8_v0 : r_call8_v0 V = (id) (r_cst_35 V) := val_unary V 274 main_cst_35 main_call8_v0 _ _ _ rfl (by decide) (by decide) (by decide)
theorem e_call8_v1 : r_call8_v1 V = ((broadcastInDim S32x8732 ![] bcast_S_S32x8732)) (r_call8_v0 V) := val_unary V 275 main_call8_v0 main_call8_v1 _ _ _ rfl (by decide) (by decide) (by decide)
theorem e_v198 : r_v198 V = (select) (r_v166 V) (r_call8_v1 V) (r_v197 V) := val_ternary V 276 main_v166 main_call8_v1 main_v197 main_v198 _ _ _ _ _ rfl (by decide) (by decide) (by decide) (by decide) (by decide)
theorem e_v199 : r_v199 V = (Host.negf) (r_v198 V) := val_unary V 277 main_v198 main_v199 _ _ _ rfl (by decide) (by decide) (by decide)
theorem e_call9_v0 : r_call9_v0 V = ((iotaInDim S32x8732 32 1)) := val_nullary V 278 main_call9_v0 _ _ rfl (by decide) (by decide)
theorem e_call9_v1_0 : r_call9_v1_0 V = ((fun x y => (Host.sort2 S32x8732 1 comparator_f32_i32_d1 x y).1)) (r_v199 V) (r_call9_v0 V) := val_binary V 279 main_v199 main_call9_v0 main_call9_v1_0 _ _ _ _ rfl (by decide) (by decide) (by decide) (by decide)
theorem e_v200 : r_v200 V = ((fun x y => (Host.sort2 S32x8732 1 comparator_f32_i32_d1 x y).2)) (r_v199 V) (r_call9_v0 V) := val_binary V 280 main_v199 main_call9_v0 main_v200 _ _ _ _ rfl (by decide) (by decide) (by decide) (by decide)
theorem e_call10_v0 : r_call10_v0 V = ((iotaInDim S32x8732 32 1)) := val_nullary V 281 main_call10_v0 _ _ rfl (by decide) (by decide)
theorem e_call10_v1_0 : r_call10_v1_0 V = ((fun x y => (Host.sort2 S32x8732 1 comparator_i32_i32_d1 x y).1)) (r_v200 V) (r_call10_v0 V) := val_binary V 282 main_v200 main_call10_v0 main_call10_v1_0 _ _ _ _ rfl (by decide) (by decide) (by decide) (by decide)
theorem e_v201 : r_v201 V = ((fun x y => (Host.sort2 S32x8732 1 comparator_i32_i32_d1 x y).2)) (r_v200 V) (r_call10_v0 V) := val_binary V 283 main_v200 main_call10_v0 main_v201 _ _ _ _ rfl (by decide) (by decide) (by decide) (by decide)
theorem e_v202 : r_v202 V = ((extui 32 · natLt_1_32)) (r_v166 V) := val_unary V 284 main_v166 main_v202 _ _ _ rfl (by decide) (by decide) (by decide)
theorem e_c_36 : r_c_36 V = (constantI S_ 32 0#32) := val_nullary V 285 main_c_36 _ _ rfl (by decide) (by decide)
theorem e_v203 : r_v203 V = ((fun x v => Host.reduce IntOp.addi x v reducesTo_S32x8732_S32_d1 h_S_)) (r_v202 V) (r_c_36 V) := val_binary V 286 main_v202 main_c_36 main_v203 _ _ _ _ rfl (by decide) (by decide) (by decide) (by decide)
theorem e_v204 : r_v204 V = (broadcastInDim S32x1 ![0] bcast_S32_S32x1_0) (r_v203 V) := val_unary V 287 main_v203 main_v204 _ _ _ rfl (by decide) (by decide) (by decide)
theorem e_c_37 : r_c_37 V = (constantI S_ 32 3#32) := val_nullary V 288 main_c_37 _ _ rfl (by decide) (by decide)
theorem e_v205 : r_v205 V = (broadcastInDim S32x1 ![] bcast_S_S32x1) (r_c_37 V) := val_unary V 289 main_c_37 main_v205 _ _ _ rfl (by decide) (by decide) (by decide)
theorem e_v206 : r_v206 V = (muli) (r_v205 V) (r_v204 V) := val_binary V 290 main_v205 main_v204 main_v206 _ _ _ _ rfl (by decide) (by decide) (by decide) (by decide)
theorem e_c_38 : r_c_38 V = (constantI S_ 32 8731#32) := val_nullary V 291 main_c_38 _ _ rfl (by decide) (by decide)
theorem e_v207 : r_v207 V = (broadcastInDim S32x1 ![] bcast_S_S32x1) (r_c_38 V) := val_unary V 292 main_c_38 main_v207 _ _ _ rfl (by decide) (by decide) (by decide)
theorem e_v208 : r_v208 V = (minsi) (r_v206 V) (r_v207 V) := val_binary V 293 main_v206 main_v207 main_v208 _ _ _ _ rfl (by decide) (by decide) (by decide) (by decide)
theorem e_v209 : r_v209 V = (broadcastInDim S32x8732 ![0, 1] bcast_S32x1_S32x8732_0_1) (r_v208 V) := val_unary V 294 main_v208 main_v209 _ _ _ rfl (by decide) (by decide) (by decide)
theorem e_v210 : r_v210 V = (cmpi .slt) (r_v201 V) (r_v209 V) := val_binary V 295 main_v201 main_v209 main_v210 _ _ _ _ rfl (by decide) (by decide) (by decide) (by decide)
theorem e_v211 : r_v211 V = (ori) (r_v166 V) (r_v210 V) := val_binary V 296 main_v166 main_v210 main_v211 _ _ _ _ rfl (by decide) (by decide) (by decide) (by decide)
theorem e_cst_39 : r_cst_39 V = (constant S_ .f32 0x00000000#32) := val_nullary V 297 main_cst_39 _ _ rfl (by decide) (by decide)
theorem e_call11_v0 : r_call11_v0 V = (id) (r_cst_39 V) := val_unary V 298 main_cst_39 main_call11_v0 _ _ _ rfl (by decide) (by decide) (by decide)
theorem e_call11_v1 : r_call11_v1 V = ((broadcastInDim S32x8732 ![] bcast_S_S32x8732)) (r_call11_v0 V) := val_unary V 299 main_call11_v0 main_call11_v1 _ _ _ rfl (by decide) (by decide) (by decide)
theorem e_v212 : r_v212 V = (select) (r_v211 V) (r_v197 V) (r_call11_v1 V) := val_ternary V 300 main_v211 main_v197 main_call11_v1 main_v212 _ _ _ _ _ rfl (by decide) (by decide) (by decide) (by decide) (by decide)
theorem e_cst_40 : r_cst_40 V = (constant S_ .f32 0x00000000#32) := val_nullary V 301 main_cst_40 _ _ rfl (by decide) (by decide)
theorem e_v213 : r_v213 V = ((fun x v => Host.reduceAdd x v reducesTo_S32x8732_S_d0_1 h_S_)) (r_v212 V) (r_cst_40 V) := val_binary V 302 main_v212 main_cst_40 main_v213 _ _ _ _ rfl (by decide) (by decide) (by decide) (by decide)
theorem e_c_41 : r_c_41 V = (constantI S_ 32 0#32) := val_nullary V 303 main_c_41 _ _ rfl (by decide) (by decide)
theorem e_v214 : r_v214 V = ((fun x v => Host.reduce IntOp.addi x v reducesTo_S32x1_S_d0_1 h_S_)) (r_v204 V) (r_c_41 V) := val_binary V 304 main_v204 main_c_41 main_v214 _ _ _ _ rfl (by decide) (by decide) (by decide) (by decide)
theorem e_v215 : r_v215 V = (sitofp .f32) (r_v214 V) := val_unary V 305 main_v214 main_v215 _ _ _ rfl (by decide) (by decide) (by decide)
theorem e_cst_42 : r_cst_42 V = (constant S_ .f32 0x3F800000#32) := val_nullary V 306 main_cst_42 _ _ rfl (by decide) (by decide)
theorem e_v216 : r_v216 V = (maximumf) (r_v215 V) (r_cst_42 V) := val_binary V 307 main_v215 main_cst_42 main_v216 _ _ _ _ rfl (by decide) (by decide) (by decide) (by decide)
theorem e_v217 : r_v217 V = (Host.divf) (r_v179 V) (r_v216 V) := val_binary V 308 main_v179 main_v216 main_v217 _ _ _ _ rfl (by decide) (by decide) (by decide) (by decide)
theorem e_v218 : r_v218 V = (Host.divf) (r_v213 V) (r_v216 V) := val_binary V 309 main_v213 main_v216 main_v218 _ _ _ _ rfl (by decide) (by decide) (by decide) (by decide)
theorem e_v219 : r_v219 V = (broadcastInDim S1 ![] bcast_S_S1) (r_v217 V) := val_unary V 310 main_v217 main_v219 _ _ _ rfl (by decide) (by decide) (by decide)
theorem e_v220 : r_v220 V = (broadcastInDim S1 ![] bcast_S_S1) (r_v218 V) := val_unary V 311 main_v218 main_v220 _ _ _ rfl (by decide) (by decide) (by decide)
theorem e_v221 : r_v221 V = ((fun a b => concatenate S2 0 [⟨S1, a⟩, ⟨S1, b⟩] concatenates_S1_S1_S2_d0)) (r_v219 V) (r_v220 V) := val_binary V 312 main_v219 main_v220 main_v221 _ _ _ _ rfl (by decide) (by decide) (by decide) (by decide)

end Cert.RefRun
-- ==== Proof.RMatch.lean ====
/-
  What the reference's matching computes, element by element.
-/
module

public import proofs.«01_k».proof.Proof.RefEqA
public import proofs.«01_k».proof.Proof.RefEqB
public import proofs.«01_k».proof.Proof.ArgFold

@[expose] public section

set_option maxRecDepth 16384

namespace Cert.RefRun

open Idealize.ShloMosaic Idealize.SL.Sem Idealize.ShloMosaic.StableHlo
open Cert.ReferenceIdeal Cert.ReferenceIdeal.Gen Cert.Spec

variable (V : Valuation τ sig (Elt Ideal))

/-- The priors, one by one. -/
noncomputable abbrev prR (p : Fin 8732) (k : Fin 4) : EReal := r_arg2 V (ix2 p k)
/-- The targets of an image, one by one. -/
noncomputable abbrev tgR (b : Fin 32) (o : Fin 16) (k : Fin 5) : EReal := r_arg3 V (ix3 b o k)

theorem e_call0_v0' : r_call0_v0 V = r_cst_1 V := e_call0_v0 V

theorem overlap_apply (b : Fin 32) (o : Fin 16) (p : Fin 8732) : r_v64 V (ix3 b o p) = iou (prR V p) (tgR V b o) := by
  pointwise [e_v0, e_v4, e_v5, e_cst, e_v6, e_v7, e_v8, e_v9, e_v10, e_cst_0, e_v11, e_v12, e_v13, e_v14, e_v15, e_v16, e_v17, e_v18, e_v19, e_v20, e_v21, e_v22, e_v23, e_v24, e_v25, e_v26, e_v27, e_v28, e_v29, e_cst_1, e_call0_v0', e_call0_v1, e_v30, e_v31, e_v32, e_v33, e_v34, e_v35, e_v36, e_v37, e_v38, e_v39, e_v40, e_v41, e_v42, e_v43, e_v44, e_v45, e_v46, e_v47, e_v48, e_v49, e_v50, e_v51, e_v52, e_v53, e_v54, e_v55, e_v56, e_v57, e_v58, e_v59, e_v60, e_v61, e_v62, e_v63, e_v64]
  rfl

theorem drop_d2 (h : S32x16x8732.ReducesTo [2] S32x16) (a : Fin 32) (b : Fin 16) (i : S32x16x8732.Idx) : h.drop i = ix2 a b ↔ ∃ k, i = ix3 a b k := by
  have h0 : ((h.drop i) 0).val = (i 0).val := h.drop_apply_val_of_eq i 0 0
  have h1 : ((h.drop i) 1).val = (i 1).val := h.drop_apply_val_of_eq i 1 1
  constructor
  · intro e
    refine ⟨i 2, funext fun q => ?_⟩
    rw [e] at h0 h1
    fin_cases q
    · exact Fin.ext h0.symm
    · exact Fin.ext h1.symm
    · rfl
  · rintro ⟨k, rfl⟩
    funext q
    fin_cases q
    · exact Fin.ext h0
    · exact Fin.ext h1

theorem drop_d1 (h : S32x16x8732.ReducesTo [1] S32x8732) (a : Fin 32) (c : Fin 8732) (i : S32x16x8732.Idx) : h.drop i = ix2 a c ↔ ∃ k, i = ix3 a k c := by
  have h0 : ((h.drop i) 0).val = (i 0).val := h.drop_apply_val_of_eq i 0 0
  have h1 : ((h.drop i) 1).val = (i 2).val := h.drop_apply_val_of_eq i 1 2
  constructor
  · intro e
    refine ⟨i 1, funext fun q => ?_⟩
    rw [e] at h0 h1
    fin_cases q
    · exact Fin.ext h0.symm
    · rfl
    · exact Fin.ext h1.symm
  · rintro ⟨k, rfl⟩
    funext q
    fin_cases q
    · exact Fin.ext h0
    · exact Fin.ext h1

/-- The prior each target names, as a word. -/
theorem best_apply (b : Fin 32) (o : Fin 16) :
    r_v65 V (ix2 b o) = BitVec.ofNat 32 (bestPrior (prR V) (tgR V b) o).val := by
  rw [e_v65]
  refine (argmax_apply (n := 8732) (by decide) _ _ _ _ _ _ (ix2 b o) (fun p => ix3 b o p) (drop_d2 _ b o) (fun p => ?_) ?_ ?_).trans ?_
  · pointwise [e_call1_v0]
  · rw [e_call1_cst]; exact ofBits_negInf
  · rw [e_call1_c]; rfl
  · simp only [overlap_apply]; rfl

theorem first_apply (b : Fin 32) (p : Fin 8732) :
    r_v67 V (ix2 b p) = BitVec.ofNat 32 (amax fun o => iou (prR V p) (tgR V b o)).val := by
  rw [e_v67]
  refine (argmax_apply (n := 16) (by decide) _ _ _ _ _ _ (ix2 b p) (fun o => ix3 b o p) (drop_d1 _ b p) (fun o => ?_) ?_ ?_).trans ?_
  · pointwise [e_call2_v0]
  · rw [e_call2_cst]; exact ofBits_negInf
  · rw [e_call2_c]; rfl
  · simp only [overlap_apply]

theorem max_apply (b : Fin 32) (p : Fin 8732) :
    r_v66 V (ix2 b p) = iou (prR V p) (tgR V b (amax fun o => iou (prR V p) (tgR V b o))) := by
  pointwise [e_v66, e_cst_2]
  simp only [overlap_apply]
  exact fold_max_eq _

/-! ## The scatters -/

theorem wrap_small (n : ℕ) (h : n < 2 ^ 31) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

theorem img83 (b : Fin 32) (o : Fin 16) : r_v83 V (ix3 b o 0) = BitVec.ofNat 32 b.val := by
  pointwise [e_v68, e_v69, e_c, e_v70, e_v71, e_c_3, e_v72, e_v73, e_v74, e_v80, e_v81, e_v82, e_v83]
  exact wrap_small _ (by omega) _
theorem pri83 (b : Fin 32) (o : Fin 16) : r_v83 V (ix3 b o 1) = BitVec.ofNat 32 (bestPrior (prR V) (tgR V b) o).val := by
  pointwise [e_c_4, e_v75, e_v76, e_c_5, e_v77, e_v78, e_v79, e_v81, e_v82, e_v83]
  rw [best_apply]
  exact wrap_small _ (by omega) _
theorem img101 (b : Fin 32) (o : Fin 16) : r_v101 V (ix3 b o 0) = BitVec.ofNat 32 b.val := by
  pointwise [e_v68, e_v69, e_c_7, e_v88, e_v89, e_c_8, e_v90, e_v91, e_v92, e_v98, e_v99, e_v100, e_v101]
  exact wrap_small _ (by omega) _
theorem pri101 (b : Fin 32) (o : Fin 16) : r_v101 V (ix3 b o 1) = BitVec.ofNat 32 (bestPrior (prR V) (tgR V b) o).val := by
  pointwise [e_c_9, e_v93, e_v94, e_c_10, e_v95, e_v96, e_v97, e_v99, e_v100, e_v101]
  rw [best_apply]
  exact wrap_small _ (by omega) _

/-- A scatter of one scalar per target at the prior it names: each prior holds its last namer's, or what it held. -/
theorem scatter_forced {α : Type} (d : ScatterDims S32x8732 S32x16x2 S32x16) (hiw : d.insertedWindowDims = [0, 1])
    (hsd : d.scatterDimsToOperandDims = [0, 1]) (hivd : d.indexVectorDim = 2) (x0 : S32x8732.Idx → α) (idx : IVec S32x16x2 32)
    (upd : S32x16.Idx → α) (best : Fin 32 → Fin 16 → Fin 8732) (h0 : ∀ b o, idx (ix3 b o 0) = BitVec.ofNat 32 b.val)
    (h1 : ∀ b o, idx (ix3 b o 1) = BitVec.ofNat 32 (best b o).val) (b : Fin 32) (p : Fin 8732) :
    Host.scatter d (fun _ v => v) x0 idx upd (ix2 b p)
      = (forced (best b) p).recBotCoe (x0 (ix2 b p)) fun o => upd (ix2 b o) := by
  have hland : ∀ (b' : Fin 32) (o : Fin 16), d.resultIdx? (ix2 b' o) idx = some (ix2 b p) ↔ b' = b ∧ best b' o = p := fun b' o => by
    refine (Routing.scatter_lands2 d hiw hsd hivd idx b' o b p).trans ?_
    have e0 : idx (ValueIdx.ix3 b' o 0) = BitVec.ofNat 32 b'.val := h0 b' o
    have e1 : idx (ValueIdx.ix3 b' o 1) = BitVec.ofNat 32 (best b' o).val := h1 b' o
    rw [e0, e1, toInt_small _ (by omega), toInt_small _ (by omega), Fin.ext_iff, Fin.ext_iff]
    omega
  have hidx : ∀ n : Fin S32x16.numel, ∃ b' o, S32x16.rowMajor.symm n = ix2 b' o := fun n => ⟨_, _, eq_ix2 _⟩
  have hpos : ∀ (b' : Fin 32) (o : Fin 16), (S32x16.rowMajor (ix2 b' o)).val = b'.val * 16 + o.val := fun b' o => Shape.rowMajor_val_two _
  rw [Routing.scatter_at]
  rcases forced_cases (best b) p with ⟨o, ho, hl, e⟩ | ⟨h, e⟩
  · rw [e]
    refine (foldl_lastHit (fun n => d.resultIdx? (S32x16.rowMajor.symm n) idx = some (ix2 b p)) _ _ (S32x16.rowMajor (ix2 b o)) ?_ ?_).trans ?_
    · rw [Equiv.symm_apply_apply]; exact (hland b o).2 ⟨rfl, ho⟩
    · intro n hn hh
      obtain ⟨b', o', e'⟩ := hidx n
      rw [e'] at hh
      obtain ⟨rfl, hb⟩ := (hland b' o').1 hh
      rw [(Equiv.symm_apply_eq _).1 e', Fin.lt_def, hpos, hpos] at hn
      exact hl o' (Fin.lt_def.2 (by omega)) hb
    · rw [Equiv.symm_apply_apply]; rfl
  · rw [e]
    refine foldl_noHit (fun n => d.resultIdx? (S32x16.rowMajor.symm n) idx = some (ix2 b p)) _ _ _ fun n _ hh => ?_
    obtain ⟨b', o', e'⟩ := hidx n
    rw [e'] at hh
    obtain ⟨rfl, hb⟩ := (hland b' o').1 hh
    exact h o' hb

theorem bto_apply (b : Fin 32) (p : Fin 8732) : r_v85 V (ix2 b p) = overlap (prR V) (tgR V b) p := by
  rw [e_v85]
  refine (scatter_forced _ rfl rfl rfl _ _ _ _ (img83 V) (pri83 V) b p).trans ?_
  rw [max_apply]
  have hu : ∀ o : Fin 16, r_v84 V (ix2 b o) = Ideal.ofBits .f32 0x40000000#32 := fun o => by pointwise [e_v84, e_cst_6]
  simp only [hu]
  rfl

theorem target_apply (b : Fin 32) (p : Fin 8732) : r_v103 V (ix2 b p) = BitVec.ofNat 32 (target (prR V) (tgR V b) p).val := by
  rw [e_v103]
  refine (scatter_forced _ rfl rfl rfl _ _ _ _ (img101 V) (pri101 V) b p).trans ?_
  rw [first_apply]
  unfold target
  have hu : ∀ o : Fin 16, r_v102 V (ix2 b o) = BitVec.ofNat 32 o.val := fun o => by pointwise [e_v86, e_v87, e_v102]
  simp only [hu]
  cases forced (bestPrior (prR V) (tgR V b)) p <;> rfl

end Cert.RefRun
-- ==== Proof.RGather.lean ====
/-
  The reference's three gathers, read at an index whose words are in range.
-/
module

public import proofs.«01_k».proof.Proof.RMatch

@[expose] public section

set_option maxRecDepth 16384

namespace Cert.RefRun

open Idealize.ShloMosaic Idealize.SL.Sem Idealize.ShloMosaic.StableHlo
open Cert.ReferenceIdeal Cert.ReferenceIdeal.Gen Cert.Spec

theorem clamp_word (w : BitVec 32) (n m : ℕ) (h : w = BitVec.ofNat 32 n) (hn : n < 2 ^ 31) (hm : n ≤ m) :
    min w.toInt.toNat m = n := by
  rw [h, toInt_small n hn, Int.toNat_natCast]
  exact Nat.min_eq_left hm

/-- The gather of the matched targets' boxes. -/
theorem gather_box (x : FVec Ideal S32x16x4 .f32) (idx : IVec S32x8732x2 32) (b : Fin 32) (p : Fin 8732) (k : Fin 4) (o : Fin 16)
    (h0 : idx (ix3 b p 0) = BitVec.ofNat 32 b.val) (h1 : idx (ix3 b p 1) = BitVec.ofNat 32 o.val) :
    Host.gather gather_S32x16x4_S32x8732x2_S32x8732x4_2_01_n_n_01_2_114 x idx (ix3 b p k) = x (ix3 b o k) := by
  have hs : ∀ c : Fin 2, gather_S32x16x4_S32x8732x2_S32x8732x4_2_01_n_n_01_2_114.siIdx (ix3 b p k) c = ix3 b p c := fun c => by
    funext q; fin_cases q <;> rfl
  have e0 : min (idx (gather_S32x16x4_S32x8732x2_S32x8732x4_2_01_n_n_01_2_114.siIdx (ix3 b p k) (0 : Fin 2))).toInt.toNat 31 = b.val := by
    rw [hs]; exact clamp_word _ _ _ h0 (by omega) (by omega)
  have e1 : min (idx (gather_S32x16x4_S32x8732x2_S32x8732x4_2_01_n_n_01_2_114.siIdx (ix3 b p k) (1 : Fin 2))).toInt.toNat 15 = o.val := by
    rw [hs]; exact clamp_word _ _ _ h1 (by omega) (by omega)
  unfold Host.gather
  congr 1
  funext a
  apply Fin.ext
  fin_cases a
  · exact e0
  · exact e1
  · exact Nat.zero_add k.val

/-- The gather of the matched targets' labels. -/
theorem gather_label (x : IVec S32x16 32) (idx : IVec S32x8732x2 32) (b : Fin 32) (p : Fin 8732) (o : Fin 16)
    (h0 : idx (ix3 b p 0) = BitVec.ofNat 32 b.val) (h1 : idx (ix3 b p 1) = BitVec.ofNat 32 o.val) :
    Host.gather gather_S32x16_S32x8732x2_S32x8732_n_01_n_n_01_2_11 x idx (ix2 b p) = x (ix2 b o) := by
  have hs : ∀ c : Fin 2, gather_S32x16_S32x8732x2_S32x8732_n_01_n_n_01_2_11.siIdx (ix2 b p) c = ix3 b p c := fun c => by
    funext q; fin_cases q <;> rfl
  have e0 : min (idx (gather_S32x16_S32x8732x2_S32x8732_n_01_n_n_01_2_11.siIdx (ix2 b p) (0 : Fin 2))).toInt.toNat 31 = b.val := by
    rw [hs]; exact clamp_word _ _ _ h0 (by omega) (by omega)
  have e1 : min (idx (gather_S32x16_S32x8732x2_S32x8732_n_01_n_n_01_2_11.siIdx (ix2 b p) (1 : Fin 2))).toInt.toNat 15 = o.val := by
    rw [hs]; exact clamp_word _ _ _ h1 (by omega) (by omega)
  unfold Host.gather
  congr 1
  funext a
  apply Fin.ext
  fin_cases a
  · exact e0
  · exact e1

/-- The gather of the true class's logit. -/
theorem gather_logit (x : FVec Ideal S32x8732x21 .f32) (idx : IVec S32x8732x1x1 32) (b : Fin 32) (p : Fin 8732) (c : Fin 21)
    (h : idx (ix4 b p 0 0) = BitVec.ofNat 32 c.val) :
    Host.gather gather_S32x8732x21_S32x8732x1x1_S32x8732x1_n_2_01_01_2_3_111 x idx (ix3 b p 0) = x (ix3 b p c) := by
  have hs : gather_S32x8732x21_S32x8732x1x1_S32x8732x1_n_2_01_01_2_3_111.siIdx (ix3 b p 0) (0 : Fin 1) = ix4 b p 0 0 := by
    funext q; fin_cases q <;> rfl
  have e : min (idx (gather_S32x8732x21_S32x8732x1x1_S32x8732x1_n_2_01_01_2_3_111.siIdx (ix3 b p 0) (0 : Fin 1))).toInt.toNat 20 = c.val := by
    rw [hs]; exact clamp_word _ _ _ h (by omega) (by omega)
  unfold Host.gather
  congr 1
  funext a
  apply Fin.ext
  fin_cases a
  · exact Nat.zero_add b.val
  · exact Nat.zero_add p.val
  · exact e

variable (V : Valuation τ sig (Elt Ideal))

theorem img117 (b : Fin 32) (p : Fin 8732) : r_v117 V (ix3 b p 0) = BitVec.ofNat 32 b.val := by
  pointwise [e_v68, e_v69, e_c_11, e_v104, e_v105, e_c_12, e_v106, e_v107, e_v108, e_v114, e_v115, e_v116, e_v117]
  exact wrap_small _ (by omega) _
theorem tgt117 (b : Fin 32) (p : Fin 8732) : r_v117 V (ix3 b p 1) = BitVec.ofNat 32 (target (prR V) (tgR V b) p).val := by
  pointwise [e_c_13, e_v109, e_v110, e_c_14, e_v111, e_v112, e_v113, e_v115, e_v116, e_v117]
  rw [target_apply]
  exact wrap_small _ (by omega) _
theorem img132 (b : Fin 32) (p : Fin 8732) : r_v132 V (ix3 b p 0) = BitVec.ofNat 32 b.val := by
  pointwise [e_v68, e_v69, e_c_15, e_v119, e_v120, e_c_16, e_v121, e_v122, e_v123, e_v129, e_v130, e_v131, e_v132]
  exact wrap_small _ (by omega) _
theorem tgt132 (b : Fin 32) (p : Fin 8732) : r_v132 V (ix3 b p 1) = BitVec.ofNat 32 (target (prR V) (tgR V b) p).val := by
  pointwise [e_c_17, e_v124, e_v125, e_c_18, e_v126, e_v127, e_v128, e_v130, e_v131, e_v132]
  rw [target_apply]
  exact wrap_small _ (by omega) _

theorem box_apply (b : Fin 32) (p : Fin 8732) (k : Fin 4) :
    r_v118 V (ix3 b p k) = tgR V b (target (prR V) (tgR V b) p) ⟨k.val, by omega⟩ := by
  rw [e_v118]
  refine (gather_box _ _ b p k _ (img117 V b p) (tgt117 V b p)).trans ?_
  pointwise [e_v0]

/-- The matched label, as a word. -/
theorem label_apply (b : Fin 32) (p : Fin 8732) :
    r_v133 V (ix2 b p) = FloatOps.fptosi (F := Ideal) (φ := .f32) 32 (tgR V b (target (prR V) (tgR V b) p) 4) := by
  rw [e_v133]
  refine (gather_label _ _ b p _ (img132 V b p) (tgt132 V b p)).trans ?_
  pointwise [e_v1, e_v2, e_v3]

theorem e_call3_v0' : r_call3_v0 V = r_c_20 V := e_call3_v0 V
theorem e_call5_v0' : r_call5_v0 V = r_cst_29 V := e_call5_v0 V

theorem fptosi_nat (n : ℕ) (h : n < 2 ^ 31) : FloatOps.fptosi (F := Ideal) (φ := .f32) 32 ((n : ℝ) : EReal) = BitVec.ofNat 32 n := by
  change BitVec.ofInt 32 (Ideal.toIntClamped (-(2 ^ 31 : ℕ)) ((2 ^ 31 : ℕ) - 1) ((n : ℝ) : EReal)) = _
  rw [Ideal.toIntClamped_coe, if_pos (Nat.cast_nonneg n), Int.floor_natCast, min_eq_right (by omega), max_eq_right (by omega), BitVec.ofInt_natCast]

theorem class_eq (v o t l : EReal) (w : BitVec 32) [Decidable (v < t)] [Decidable (o < t)] (z : EReal) (hv : v = o)
    (h : w = FloatOps.fptosi (F := Ideal) (φ := .f32) 32 l) (hz : z = if o < t then 0 else l) :
    (if v < t then 0#32 else w) = FloatOps.fptosi (F := Ideal) (φ := .f32) 32 z := by
  subst hv hz h
  by_cases ho : v < t
  · rw [if_pos ho, if_pos ho]
    have := fptosi_nat 0 (by decide)
    rw [Nat.cast_zero, EReal.coe_zero] at this
    exact this.symm
  · rw [if_neg ho, if_neg ho]

theorem label_eq (pr : Fin 8732 → Fin 4 → EReal) (tg : Fin 16 → Fin 5 → EReal) (p : Fin 8732) :
    label pr tg p = if overlap pr tg p < Ideal.ofBits .f32 0x3F000000#32 then 0 else tg (target pr tg p) 4 := rfl

theorem below_apply (b : Fin 32) (p : Fin 8732) (y : FVec Ideal S32x8732 .f32) (hy : r_v85 V = y) (x : BitVec 1)
    (hx : BitVec.ofBool (decide (y (ix2 b p) < Ideal.ofBits FTy.f32 1056964608#32)) = x) :
    r_v135 V (ix2 b p) = x := by
  rw [e_v135, hy]
  pointwise [e_cst_19, e_v134]
  exact hx

theorem conf_raw (b : Fin 32) (p : Fin 8732) (x : BitVec 32)
    (hx : (if r_v85 V (ix2 b p) < Ideal.ofBits FTy.f32 1056964608#32 then 0#32 else r_v133 V (ix2 b p)) = x) :
    r_v136 V (ix2 b p) = x := by
  pointwise [e_c_20, e_call3_v0', e_call3_v1, e_v136]
  rw [below_apply V b p _ rfl _ rfl, ← hx]
  by_cases h : r_v85 V (ix2 b p) < Ideal.ofBits FTy.f32 1056964608#32
  · rw [if_pos h, decide_eq_true h]; exact sel_one _ _
  · rw [if_neg h, decide_eq_false h]; exact sel_zero _ _

/-- The class of each prior, as a word. -/
theorem conf_apply (b : Fin 32) (p : Fin 8732) :
    r_v136 V (ix2 b p) = FloatOps.fptosi (F := Ideal) (φ := .f32) 32 (label (prR V) (tgR V b) p) :=
  conf_raw V b p _ (class_eq _ _ _ _ _ _ (bto_apply V b p) (label_apply V b p) (label_eq _ _ p))

theorem encode_eq (pr : Fin 4 → EReal) (tg : Fin 5 → EReal) (k : Fin 4) :
    (if h : k.val < 2 then
      Ideal.div
        (Ideal.div (tg ⟨k.val, by omega⟩ + tg ⟨2 + k.val, by omega⟩) (Ideal.ofBits FTy.f32 1073741824#32) - pr k)
        (Ideal.ofBits FTy.f32 1036831949#32 * pr ⟨2 + k.val, by omega⟩)
    else
      Ideal.div
        (Ideal.log
          (max
            (Ideal.div (tg ⟨2 + (k.val - 2), by omega⟩ - tg ⟨k.val - 2, by omega⟩) (pr ⟨2 + (k.val - 2), by omega⟩))
            (Ideal.ofBits FTy.f32 841731191#32)))
        (Ideal.ofBits FTy.f32 1045220557#32)) = encode pr tg k := by
  fin_cases k
  · exact dif_pos (by decide)
  · exact dif_pos (by decide)
  · exact dif_neg (by decide)
  · exact dif_neg (by decide)

theorem encode_apply (b : Fin 32) (p : Fin 8732) (k : Fin 4) :
    r_v164 V (ix3 b p k) = encode (prR V p) (tgR V b (target (prR V) (tgR V b) p)) k := by
  pointwise [e_v137, e_v138, e_v139, e_cst_21, e_v140, e_v141, e_v142, e_v143, e_v144, e_v145, e_v146, e_v147, e_cst_22, e_v148, e_v149, e_v150, e_v151, e_v152, e_v153, e_v154, e_v155, e_v156, e_v157, e_v158, e_cst_23, e_v159, e_v160, e_v161, e_cst_24, e_v162, e_v163, e_v164]
  simp only [box_apply]
  exact encode_eq (prR V p) (tgR V b (target (prR V) (tgR V b) p)) k

/-- The summand of the location loss. -/
theorem smooth_apply (b : Fin 32) (p : Fin 8732) (k : Fin 4) :
    r_v178 V (ix3 b p k) = Scalar.select (IntOp.cmpi .sgt (r_v136 V (ix2 b p)) 0#32)
      (smooth (r_arg0 V (ix3 b p k) - r_v164 V (ix3 b p k))) 0 := by
  pointwise [e_c_25, e_v165, e_v166, e_v167, e_v168, e_cst_26, e_v169, e_v170, e_cst_27, e_v171, e_v172, e_v173, e_cst_28, e_v174, e_v175, e_v176, e_v177, e_cst_29, e_call5_v0', e_call5_v1, e_call5_v2, e_v178]
  rfl

theorem locsum_apply : r_v179 V ix0 = ∑ b : Fin 32, ∑ p : Fin 8732, ∑ k : Fin 4, r_v178 V (ix3 b p k) := by
  pointwise [e_v179, e_cst_30]

/-- Whether a prior is matched with an object. -/
theorem pos_apply (b : Fin 32) (p : Fin 8732) : r_v166 V (ix2 b p) = IntOp.cmpi .sgt (r_v136 V (ix2 b p)) 0#32 := by
  pointwise [e_c_25, e_v165, e_v166]

end Cert.RefRun
-- ==== Proof.Rank.lean ====
/-
  Ranks: the sort of the sort's positions inverts it, and the sum of the entries of small rank is
  the sum of the first places of the falling order.
-/
module

public import proofs.«01_k».proof.Proof.Mine
public import Idealize.ShloMosaic.Lib.SortFacts

@[expose] public section

namespace Cert.Spec

open Idealize.ShloMosaic

/-- A rising self-map of a finite order that repeats nothing is the identity. -/
theorem rising_id {n : ℕ} (f : Fin n → Fin n) (hf : StrictMono f) (i : Fin n) : f i = i := by
  have hb : Function.Bijective f := Finite.injective_iff_bijective.mp hf.injective
  have e : hf.orderIsoOfSurjective f hb.2 = OrderIso.refl _ := Subsingleton.elim _ _
  have := congrArg (fun g : Fin n ≃o Fin n => g i) e
  exact this

theorem sortedFrom_inv {n : ℕ} (σ : Fin n → Fin n) (hσ : Function.Injective σ) (R : Fin n → Fin n → Bool)
    (hR : ∀ a b, R a b = decide (σ a < σ b)) (i : Fin n) : σ (sortedFrom R i) = i := by
  refine rising_id (fun i => σ (sortedFrom R i)) (fun i j hij => ?_) i
  have h := sortedFrom_noInversion R R (fun a b h => by rw [hR] at h ⊢; simpa using (of_decide_eq_true h).le)
    (fun _ _ h => h) (fun a b c h1 h2 => by rw [hR] at h1 h2 ⊢; simp only [decide_eq_false_iff_not, not_lt] at *; exact h2.trans h1) i j hij
  rw [hR] at h
  simp only [decide_eq_false_iff_not, not_lt] at h
  exact lt_of_le_of_ne h fun e => absurd (sortedFrom_injective R (hσ e)) hij.ne

/-- The sum of the entries whose rank is below k, by the threshold. -/
theorem sum_rank {n : ℕ} (f : Fin n → EReal) (R1 R2 : Fin n → Fin n → Bool) (h1 : ∀ a b, R1 a b = decide (f b < f a))
    (h2 : ∀ a b, R2 a b = decide (sortedFrom R1 a < sortedFrom R1 b)) (hf : ∀ i, 0 ≤ f i) (k : ℕ) (hk : k < n) (r : EReal)
    (t1 : ∀ j, (k : EReal) ≤ (∑ i, if f j ≤ f i then (1 : EReal) else 0) → f j ≤ r)
    (t2 : r = 0 ∨ ∃ j, (k : EReal) ≤ (∑ i, if f j ≤ f i then (1 : EReal) else 0) ∧ r = f j) :
    (∑ p, if (sortedFrom R2 p).val < k then f p else 0)
      = (∑ i, if r < f i then f i else 0) + ((k : EReal) - ∑ i, if r < f i then (1 : EReal) else 0) * r := by
  have hinj : Function.Injective (sortedFrom R1) := sortedFrom_injective R1
  have hinv := sortedFrom_inv (sortedFrom R1) hinj R2 h2
  let σ : Fin n ≃ Fin n := Equiv.ofBijective (sortedFrom R1) (Finite.injective_iff_bijective.mp hinj)
  rw [← sum_top f σ ?_ hf k hk r t1 t2, ← Equiv.sum_comp σ]
  · refine Finset.sum_congr rfl fun a _ => ?_
    have : sortedFrom R2 (σ a) = a := hinj (hinv (σ a))
    rw [this]
  · intro a b hab
    rcases hab.eq_or_lt with rfl | hab
    · exact le_rfl
    · have h := sortedFrom_noInversion R1 R1 (fun a b h => by rw [h1] at h ⊢; simpa using (of_decide_eq_true h).le)
        (fun _ _ h => h) (fun a b c g1 g2 => by rw [h1] at g1 g2 ⊢; simp only [decide_eq_false_iff_not, not_lt] at *; exact g1.trans g2) a b hab
      rw [h1] at h
      simp only [decide_eq_false_iff_not, not_lt] at h
      exact h

instance : Std.Commutative (IntOp.addi (w := 32)) := ⟨BitVec.add_comm⟩
instance : Std.Associative (IntOp.addi (w := 32)) := ⟨BitVec.add_assoc⟩

/-- A sum of words is the word of the sum. -/
theorem fold_addi {ι : Type} [DecidableEq ι] (s : Finset ι) (f : ι → ℕ) :
    s.fold IntOp.addi 0#32 (fun i => BitVec.ofNat 32 (f i)) = BitVec.ofNat 32 (∑ i ∈ s, f i) := by
  induction s using Finset.induction_on with
  | empty => rfl
  | insert a s ha ih => rw [Finset.fold_insert ha, ih, Finset.sum_insert ha, BitVec.ofNat_add]; rfl

end Cert.Spec
-- ==== Proof.Lse.lean ====
/-
  The cross entropy over real logits: shifting by a real leaves the logarithm of the sum of
  exponentials, and the loss of a class is not negative.
-/
module

public import proofs.«01_k».proof.Proof.ArgFold

@[expose] public section

namespace Cert.Spec

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_exp (x : Fin 21 → ℝ) (t : ℝ) :
    (∑ c, Ideal.exp ((x c : EReal) - (t : EReal))) = ((∑ c, Real.exp (x c - t) : ℝ) : EReal) := by
  rw [coe_sum]
  refine Finset.sum_congr rfl fun c _ => ?_
  rw [← EReal.coe_sub, Ideal.exp_coe]

theorem sum_exp0 (x : Fin 21 → ℝ) : (∑ c, Ideal.exp (x c : EReal)) = ((∑ c, Real.exp (x c) : ℝ) : EReal) := by
  rw [coe_sum]
  exact Finset.sum_congr rfl fun c _ => Ideal.exp_coe _

theorem sum_exp_pos (x : Fin 21 → ℝ) : 0 < ∑ c, Real.exp (x c) :=
  Finset.sum_pos (fun c _ => Real.exp_pos _) ⟨0, Finset.mem_univ _⟩

theorem log_pos_coe (r : ℝ) (h : 0 < r) : Ideal.log (r : EReal) = ((Real.log r : ℝ) : EReal) := by
  rw [Ideal.log_coe]
  simp [h, h.ne', h.le, not_le.mpr h]

/-- The logarithm of a sum of exponentials, by the shifted one. -/
theorem lse_shift (x : Fin 21 → ℝ) (t : ℝ) :
    Ideal.log (∑ c, Ideal.exp ((x c : EReal) - (t : EReal))) + (t : EReal) = Ideal.log (∑ c, Ideal.exp (x c : EReal)) := by
  rw [sum_exp, sum_exp0, log_pos_coe _ (sum_exp_pos x), log_pos_coe _ (sum_exp_pos fun c => x c - t), ← EReal.coe_add]
  congr 1
  have : (∑ c, Real.exp (x c - t)) = (∑ c, Real.exp (x c)) * Real.exp (-t) := by
    rw [Finset.sum_mul]
    exact Finset.sum_congr rfl fun c _ => by rw [sub_eq_add_neg, Real.exp_add]
  rw [this, Real.log_mul (sum_exp_pos x).ne' (Real.exp_pos _).ne', Real.log_exp]
  ring

theorem hot_sum (x : Fin 21 → EReal) (l : Fin 21) :
    (∑ c : Fin 21, x c * (if BitVec.ofNat 32 c.val = BitVec.ofNat 32 l.val then (1 : EReal) else 0)) = x l := by
  rw [Finset.sum_eq_single l]
  · rw [if_pos rfl, mul_one]
  · intro c _ hc
    rw [if_neg, mul_zero]
    intro e
    have := congrArg BitVec.toNat e
    rw [BitVec.toNat_ofNat, BitVec.toNat_ofNat, Nat.mod_eq_of_lt (by omega), Nat.mod_eq_of_lt (by omega)] at this
    exact hc (Fin.ext this)
  · exact fun h => absurd (Finset.mem_univ _) h

/-- The cross entropy of a class, by the shifted exponentials. -/
theorem ce_shift (x : Fin 21 → EReal) (hx : ∀ c, ∃ r : ℝ, x c = r) (t : EReal) (ht : ∃ r : ℝ, t = r) (l : Fin 21) :
    Ideal.log (∑ c, Ideal.exp (x c - t)) + t - x l = ce x (BitVec.ofNat 32 l.val) := by
  choose y hy using hx
  obtain ⟨r, rfl⟩ := ht
  obtain rfl : x = fun c => (y c : EReal) := funext hy
  unfold ce
  rw [hot_sum, lse_shift]

theorem ce_nonneg (x : Fin 21 → EReal) (hx : ∀ c, ∃ r : ℝ, x c = r) (l : Fin 21) : 0 ≤ ce x (BitVec.ofNat 32 l.val) := by
  choose y hy using hx
  obtain rfl : x = fun c => (y c : EReal) := funext hy
  unfold ce
  rw [hot_sum, sum_exp0, log_pos_coe _ (sum_exp_pos y), ← EReal.coe_sub]
  rw [← EReal.coe_zero, EReal.coe_le_coe_iff, sub_nonneg, Real.le_log_iff_exp_le (sum_exp_pos y)]
  exact Finset.single_le_sum (f := fun c => Real.exp (y c)) (fun c _ => (Real.exp_pos _).le) (Finset.mem_univ l)

/-- The largest of finitely many reals is real. -/
theorem fold_max_real (x : Fin 21 → EReal) (hx : ∀ c, ∃ r : ℝ, x c = r) :
    ∃ r : ℝ, Finset.univ.fold max (Ideal.ofBits .f32 4286578688#32) x = r := by
  obtain ⟨r0, h0⟩ := hx 0
  have e : Finset.univ.fold max (Ideal.ofBits .f32 4286578688#32) x = Finset.univ.sup' ⟨0, Finset.mem_univ _⟩ x := by
    refine le_antisymm ?_ (Finset.sup'_le _ _ fun c _ => ?_)
    · rw [Finset.fold_max_le]
      exact ⟨by rw [show Ideal.ofBits .f32 4286578688#32 = ⊥ from ofBits_negInf]; exact bot_le, fun c hc => Finset.le_sup' x hc⟩
    · rw [Finset.le_fold_max]; exact Or.inr ⟨c, Finset.mem_univ _, le_rfl⟩
  obtain ⟨c, -, hc⟩ := Finset.exists_mem_eq_sup' (⟨0, Finset.mem_univ _⟩ : (Finset.univ : Finset (Fin 21)).Nonempty) x
  rw [e, hc]
  exact hx c

end Cert.Spec
-- ==== Proof.RLoss.lean ====
/-
  The reference's losses, read as the shared mathematics: the first result, and the cross entropy.
-/
module

public import proofs.«01_k».proof.Proof.RGather
public import proofs.«01_k».proof.Proof.Rank
public import proofs.«01_k».proof.Proof.Lse

@[expose] public section

set_option maxRecDepth 16384

namespace Cert.RefRun

open Idealize.ShloMosaic Idealize.SL.Sem Idealize.ShloMosaic.StableHlo
open Cert.ReferenceIdeal Cert.ReferenceIdeal.Gen Cert.Spec

/-- The labels are whole numbers from 0 to 20. -/
def LabelsOk (V : Valuation τ sig (Elt Ideal)) : Prop := ∀ b o, ∃ n : ℕ, n ≤ 20 ∧ tgR V b o 4 = ((n : ℝ) : EReal)
/-- The logits are real. -/
def LogitsOk (V : Valuation τ sig (Elt Ideal)) : Prop := ∀ b p c, ∃ r : ℝ, r_arg1 V (ix3 b p c) = (r : EReal)

variable (V : Valuation τ sig (Elt Ideal))

/-- The label of each prior. -/
noncomputable def labelR (b : Fin 32) (p : Fin 8732) : EReal := label (prR V) (tgR V b) p
/-- The cross entropy of each prior. -/
noncomputable def ceR (b : Fin 32) (p : Fin 8732) : EReal :=
  ce (fun c => r_arg1 V (ix3 b p c)) (FloatOps.fptosi (F := Ideal) (φ := .f32) 32 (labelR V b p))
/-- The summed location loss of each prior. -/
noncomputable def locR (b : Fin 32) (p : Fin 8732) : EReal :=
  ∑ k : Fin 4, smooth (r_arg0 V (ix3 b p k) - encode (prR V p) (tgR V b (target (prR V) (tgR V b) p)) k)

theorem labelR_nat (hl : LabelsOk V) (b : Fin 32) (p : Fin 8732) : ∃ n : ℕ, n ≤ 20 ∧ labelR V b p = ((n : ℝ) : EReal) := by
  unfold labelR
  rw [label_eq]
  split
  · exact ⟨0, by omega, by rw [Nat.cast_zero, EReal.coe_zero]⟩
  · exact hl b _

theorem word_apply (hl : LabelsOk V) (b : Fin 32) (p : Fin 8732) (n : ℕ) (hn : n ≤ 20) (h : labelR V b p = ((n : ℝ) : EReal)) :
    r_v136 V (ix2 b p) = BitVec.ofNat 32 n := by
  rw [conf_apply, show label (prR V) (tgR V b) p = ((n : ℝ) : EReal) from h]
  exact fptosi_nat n (by omega)

theorem sgt_small (n : ℕ) (h : n < 2 ^ 31) : IntOp.cmpi .sgt (BitVec.ofNat 32 n) 0#32 = if 0 < n then 1#1 else 0#1 := by
  change BitVec.ofBool (BitVec.slt 0#32 (BitVec.ofNat 32 n)) = _
  rw [BitVec.slt, toInt_small n h, show (0#32).toInt = 0 from rfl]
  by_cases hn : 0 < n
  · rw [if_pos hn, decide_eq_true (by exact_mod_cast hn)]; rfl
  · rw [if_neg hn, decide_eq_false (by exact_mod_cast hn)]; rfl

theorem slt_small (m n : ℕ) (hm : m < 2 ^ 31) (h : n < 2 ^ 31) :
    IntOp.cmpi .slt (BitVec.ofNat 32 m) (BitVec.ofNat 32 n) = if m < n then 1#1 else 0#1 := by
  change BitVec.ofBool (BitVec.slt (BitVec.ofNat 32 m) (BitVec.ofNat 32 n)) = _
  rw [BitVec.slt, toInt_small n h, toInt_small m hm]
  by_cases hn : m < n
  · rw [if_pos hn, decide_eq_true (by exact_mod_cast hn)]; rfl
  · rw [if_neg hn, decide_eq_false (by exact_mod_cast hn)]; rfl

theorem mask_apply (hl : LabelsOk V) (b : Fin 32) (p : Fin 8732) : r_v166 V (ix2 b p) = if 0 < labelR V b p then 1#1 else 0#1 := by
  obtain ⟨n, hn, h⟩ := labelR_nat V hl b p
  rw [pos_apply, word_apply V hl b p n hn h, sgt_small n (by omega), h]
  have : (0 < ((n : ℝ) : EReal)) ↔ 0 < n := by rw [EReal.coe_pos, Nat.cast_pos]
  simp only [this]

theorem sel_if {α : Type} (P : Prop) [Decidable P] (x y : α) :
    Scalar.select (if P then 1#1 else 0#1) x y = if P then x else y := by
  by_cases h : P
  · rw [if_pos h, if_pos h]; exact sel_one _ _
  · rw [if_neg h, if_neg h]; exact sel_zero _ _

/-- The summed location loss. -/
theorem loc_total (hl : LabelsOk V) :
    r_v179 V ix0 = ∑ b : Fin 32, ∑ p : Fin 8732, if 0 < labelR V b p then locR V b p else 0 := by
  rw [locsum_apply]
  refine Finset.sum_congr rfl fun b _ => Finset.sum_congr rfl fun p _ => ?_
  have e : ∀ k : Fin 4, r_v178 V (ix3 b p k) = if 0 < labelR V b p then
      smooth (r_arg0 V (ix3 b p k) - encode (prR V p) (tgR V b (target (prR V) (tgR V b) p)) k) else 0 := fun k => by
    rw [smooth_apply, ← pos_apply, mask_apply V hl, sel_if, encode_apply]
  rw [Finset.sum_congr rfl fun k _ => e k]
  unfold locR
  split
  · rfl
  · exact Finset.sum_const_zero

/-- The number of matched priors of an image. -/
noncomputable def numR (b : Fin 32) : ℕ := (Finset.univ.filter fun p : Fin 8732 => 0 < labelR V b p).card

theorem numR_le (b : Fin 32) : numR V b ≤ 8732 := by
  refine (Finset.card_le_univ _).trans ?_
  rw [Fintype.card_fin]

theorem num_raw (b : Fin 32) (x : BitVec 32)
    (hx : Finset.fold IntOp.addi (0#32) (fun x => BitVec.setWidth 32 (r_v166 V (ix2 b x))) Finset.univ = x) : r_v203 V (ix1 b) = x := by
  pointwise [e_v202, e_c_36, e_v203]
  exact hx

theorem num_apply (hl : LabelsOk V) (b : Fin 32) : r_v203 V (ix1 b) = BitVec.ofNat 32 (numR V b) := by
  refine num_raw V b _ ?_
  have e : ∀ p : Fin 8732, BitVec.setWidth 32 (r_v166 V (ix2 b p)) = BitVec.ofNat 32 (if 0 < labelR V b p then 1 else 0) := fun p => by
    rw [mask_apply V hl]
    split <;> rfl
  rw [funext e, fold_addi, ← Finset.card_filter]
  rfl

theorem count_raw (x : BitVec 32)
    (hx : Finset.fold IntOp.addi (0#32) (fun x : Fin 32 × Fin 1 => r_v203 V (ix1 x.1)) Finset.univ = x) : r_v214 V ix0 = x := by
  pointwise [e_v204, e_c_41, e_v214]
  exact hx

theorem count_apply (hl : LabelsOk V) : r_v214 V ix0 = BitVec.ofNat 32 (∑ b : Fin 32, numR V b) := by
  refine count_raw V _ ?_
  have e : ∀ x : Fin 32 × Fin 1, r_v203 V (ix1 x.1) = BitVec.ofNat 32 (numR V x.1) := fun x => num_apply V hl x.1
  rw [funext e, fold_addi]
  congr 1

theorem natCast_sum {ι : Type} (s : Finset ι) (f : ι → ℕ) : ((∑ i ∈ s, f i : ℕ) : EReal) = ∑ i ∈ s, (f i : EReal) := by
  classical
  induction s using Finset.induction_on with
  | empty => simp
  | insert a s ha ih => rw [Finset.sum_insert ha, Finset.sum_insert ha, Nat.cast_add, ih]

theorem numR_cast (b : Fin 32) : ((numR V b : ℕ) : EReal) = ∑ p : Fin 8732, if 0 < labelR V b p then (1 : EReal) else 0 :=
  (sum_ones _).symm

/-- The total count, as a number. -/
theorem count_float (hl : LabelsOk V) :
    FloatOps.sitofp (F := Ideal) .f32 (r_v214 V ix0) = ∑ b : Fin 32, ∑ p : Fin 8732, if 0 < labelR V b p then (1 : EReal) else 0 := by
  have hs : (∑ b : Fin 32, numR V b) ≤ 32 * 8732 := by
    refine (Finset.sum_le_card_nsmul _ _ 8732 fun b _ => numR_le V b).trans ?_
    rw [Finset.card_univ, Fintype.card_fin, smul_eq_mul]
  rw [count_apply V hl]
  have e : FloatOps.sitofp (F := Ideal) .f32 (BitVec.ofNat 32 (∑ b : Fin 32, numR V b)) = ((∑ b : Fin 32, numR V b : ℕ) : EReal) := by
    change ((((BitVec.ofNat 32 (∑ b : Fin 32, numR V b)).toInt : ℤ) : ℝ) : EReal) = _
    rw [toInt_small _ (by omega), ← EReal.coe_natCast, Int.cast_natCast]
  rw [e, natCast_sum]
  exact Finset.sum_congr rfl fun b _ => numR_cast V b

/-- The first result. -/
theorem out0_apply (hl : LabelsOk V) : r_v221 V (ix1 0)
    = Ideal.div (∑ b : Fin 32, ∑ p : Fin 8732, if 0 < labelR V b p then locR V b p else 0)
        (max (∑ b : Fin 32, ∑ p : Fin 8732, if 0 < labelR V b p then (1 : EReal) else 0) 1) := by
  rw [← loc_total V hl, ← count_float V hl]
  generalize hx : Ideal.div (r_v179 V ix0) (max (FloatOps.sitofp (F := Ideal) .f32 (r_v214 V ix0)) 1) = x
  pointwise [e_v215, e_cst_42, e_v216, e_v217, e_v219, e_v221]
  exact hx

end Cert.RefRun
-- ==== Proof.RMine.lean ====
/-
  The reference's second result: the cross entropy over the matched priors and the hardest negatives.
-/
module

public import proofs.«01_k».proof.Proof.RLoss
public import proofs.«01_k».proof.Proof.KLoss

@[expose] public section

set_option maxRecDepth 16384

namespace Cert.RefRun

open Idealize.ShloMosaic Idealize.SL.Sem Idealize.ShloMosaic.StableHlo
open Cert.ReferenceIdeal Cert.ReferenceIdeal.Gen Cert.Spec

variable (V : Valuation τ sig (Elt Ideal))

theorem negf_at {s : Shape} (x : FVec Ideal s .f32) (i : s.Idx) : Host.negf x i = -(x i : EReal) := rfl
theorem absf_at {s : Shape} (x : FVec Ideal s .f32) (i : s.Idx) (r : ℝ) (h : x i = (r : EReal)) : Host.absf x i = ((|r| : ℝ) : EReal) := by
  change max (x i : EReal) (-(x i : EReal)) = _
  rw [h, ← EReal.coe_neg, abs_eq_max_neg]
  rfl

/-- The largest logit, read off. -/
theorem top_real (hc : LogitsOk V) (b : Fin 32) (p : Fin 8732) : ∃ r : ℝ, r_v180 V (ix2 b p) = (r : EReal) := by
  obtain ⟨r, hr⟩ := fold_max_real (fun c => r_arg1 V (ix3 b p c)) (hc b p)
  refine ⟨r, ?_⟩
  rw [← hr]
  pointwise [e_cst_31, e_v180]

theorem e_call6_v0' : r_call6_v0 V = r_cst_33 V := e_call6_v0 V

theorem fin_apply (b : Fin 32) (p : Fin 8732) (r : ℝ) (h : r_v181 V (ix3 b p 0) = (r : EReal)) :
    r_v184 V (ix3 b p 0) = 1#1 := by
  have e : r_v182 V (ix3 b p 0) = ((|r| : ℝ) : EReal) := by rw [e_v182]; exact absf_at _ _ r h
  have g : ∀ (y : FVec Ideal S32x8732x1 .f32) (hy : r_v182 V = y) (he : y (ix3 b p 0) = ((|r| : ℝ) : EReal)), r_v184 V (ix3 b p 0) = 1#1 := by
    intro y hy he
    rw [e_v184, hy]
    have ht : Ideal.ofBits FTy.f32 2139095040#32 = ⊤ := by simp [Ideal.ofBits, Ideal.ieee]
    pointwise [e_cst_32, e_v183]
    rw [he, ht, decide_eq_true (EReal.coe_lt_top _)]
    rfl
  exact g _ rfl e

theorem shift_apply (hc : LogitsOk V) (b : Fin 32) (p : Fin 8732) : ∃ r : ℝ, r_v185 V (ix3 b p 0) = (r : EReal) := by
  obtain ⟨r, hr⟩ := top_real V hc b p
  have h1 : r_v181 V (ix3 b p 0) = (r : EReal) := by
    rw [← hr]
    pointwise [e_v181]
  refine ⟨r, ?_⟩
  rw [← h1]
  have h2 := fin_apply V b p r h1
  have g : ∀ x, Scalar.select (1#1) (r_v181 V (ix3 b p 0)) x = r_v181 V (ix3 b p 0) := fun x => sel_one _ _
  rw [e_v185]
  change Scalar.select (r_v184 V (ix3 b p 0)) (r_v181 V (ix3 b p 0)) (r_call6_v1 V (ix3 b p 0)) = _
  rw [h2, g]

theorem lse_apply (b : Fin 32) (p : Fin 8732) : r_v193 V (ix2 b p)
    = Ideal.log (∑ c : Fin 21, Ideal.exp (r_arg1 V (ix3 b p c) - r_v185 V (ix3 b p 0))) + r_v185 V (ix3 b p 0) := by
  pointwise [e_v186, e_v187, e_v188, e_cst_34, e_v189, e_v190, e_v191, e_v192, e_v193]

theorem index_raw (b : Fin 32) (p : Fin 8732) (z : Fin 1) : r_call7_v5 V (ix4 b p 0 z)
    = Scalar.select (IntOp.cmpi .slt (r_v136 V (ix2 b p)) 0#32) (IntOp.addi (r_v136 V (ix2 b p)) 21#32) (r_v136 V (ix2 b p)) := by
  pointwise [e_v194, e_call7_c, e_call7_v0, e_call7_v1, e_call7_c_0, e_call7_v2, e_call7_v3, e_call7_v4, e_call7_v5]

theorem index_apply (b : Fin 32) (p : Fin 8732) (z : Fin 1) (n : ℕ) (hn : n ≤ 20) (h : r_v136 V (ix2 b p) = BitVec.ofNat 32 n) :
    r_call7_v5 V (ix4 b p 0 z) = BitVec.ofNat 32 n := by
  rw [index_raw, h]
  exact wrap_small n (by omega) _

theorem inside_raw (b : Fin 32) (p : Fin 8732) : r_call7_v12 V (ix3 b p 0) = Finset.fold IntOp.andi (1#1)
      (fun x : Fin 1 =>
        IntOp.andi (IntOp.cmpi .sge (r_call7_v5 V (ix4 b p 0 x)) 0#32) (IntOp.cmpi .sle (r_call7_v5 V (ix4 b p 0 x)) 20#32))
      Finset.univ := by
  pointwise [e_call7_c_1, e_call7_c_2, e_call7_v6, e_call7_v7, e_call7_v8, e_call7_v9, e_call7_v10, e_call7_v11, e_call7_c_3, e_call7_v12]

theorem within (n : ℕ) (hn : n ≤ 20) :
    IntOp.andi (IntOp.cmpi .sge (BitVec.ofNat 32 n) 0#32) (IntOp.cmpi .sle (BitVec.ofNat 32 n) 20#32) = 1#1 := by
  interval_cases n <;> rfl

theorem inside_apply (b : Fin 32) (p : Fin 8732) (n : ℕ) (hn : n ≤ 20) (h : r_v136 V (ix2 b p) = BitVec.ofNat 32 n) :
    r_call7_v12 V (ix3 b p 0) = 1#1 := by
  rw [inside_raw]
  have e : ∀ x : Fin 1, IntOp.andi (IntOp.cmpi .sge (r_call7_v5 V (ix4 b p 0 x)) 0#32) (IntOp.cmpi .sle (r_call7_v5 V (ix4 b p 0 x)) 20#32) = 1#1 :=
    fun x => by rw [index_apply V b p x n hn h]; exact within n hn
  rw [funext e]
  rfl

theorem entropy_raw (b : Fin 32) (p : Fin 8732) : r_v197 V (ix2 b p) = r_v193 V (ix2 b p)
    - Scalar.select (r_call7_v12 V (ix3 b p 0)) (r_call7_v13 V (ix3 b p 0)) (Ideal.ofBits .f32 2143289344#32) := by
  pointwise [e_v195, e_v196, e_v197, e_call7_v14, e_call7_cst]

/-- The cross entropy of each prior. -/
theorem entropy_apply (hl : LabelsOk V) (hc : LogitsOk V) (b : Fin 32) (p : Fin 8732) : r_v197 V (ix2 b p) = ceR V b p ∧ 0 ≤ ceR V b p := by
  obtain ⟨n, hn, h⟩ := labelR_nat V hl b p
  have hw := word_apply V hl b p n hn h
  have hce : ceR V b p = ce (fun c => r_arg1 V (ix3 b p c)) (BitVec.ofNat 32 (⟨n, by omega⟩ : Fin 21).val) := by
    unfold ceR
    rw [h, fptosi_nat n (by omega)]
  refine ⟨?_, ?_⟩
  · have hg : r_call7_v13 V (ix3 b p 0) = r_arg1 V (ix3 b p (⟨n, by omega⟩ : Fin 21)) := by
      rw [e_call7_v13]
      exact gather_logit _ _ b p ⟨n, by omega⟩ (index_apply V b p 0 n hn hw)
    rw [entropy_raw, inside_apply V b p n hn hw, sel_one, hg, lse_apply, hce]
    exact ce_shift (fun c => r_arg1 V (ix3 b p c)) (hc b p) _ (shift_apply V hc b p) ⟨n, by omega⟩
  · rw [hce]
    exact ce_nonneg _ (hc b p) _

theorem e_call8_v0' : r_call8_v0 V = r_cst_35 V := e_call8_v0 V
theorem e_call11_v0' : r_call11_v0 V = r_cst_39 V := e_call11_v0 V

/-- The loss the negatives are ranked by. -/
noncomputable def lossR (b : Fin 32) (p : Fin 8732) : EReal := if 0 < labelR V b p then 0 else ceR V b p

theorem hard_raw (b : Fin 32) (p : Fin 8732) : r_v198 V (ix2 b p) = Scalar.select (r_v166 V (ix2 b p)) 0 (r_v197 V (ix2 b p)) := by
  pointwise [e_cst_35, e_call8_v0', e_call8_v1, e_v198]

theorem hard_apply (hl : LabelsOk V) (hc : LogitsOk V) (b : Fin 32) (p : Fin 8732) : r_v198 V (ix2 b p) = lossR V b p := by
  rw [hard_raw, mask_apply V hl, sel_if, (entropy_apply V hl hc b p).1]
  rfl

theorem key_apply (hl : LabelsOk V) (hc : LogitsOk V) (b : Fin 32) (p : Fin 8732) : r_v199 V (ix2 b p) = -lossR V b p := by
  rw [e_v199, negf_at, hard_apply V hl hc]

theorem lossR_nonneg (hl : LabelsOk V) (hc : LogitsOk V) (b : Fin 32) (p : Fin 8732) : 0 ≤ lossR V b p := by
  unfold lossR
  split
  · exact le_rfl
  · exact (entropy_apply V hl hc b p).2

end Cert.RefRun
-- ==== Proof.RRank.lean ====
/-
  The reference's ranks: the sort of the sort's positions, and the second result.
-/
module

public import proofs.«01_k».proof.Proof.RMine

@[expose] public section

set_option maxRecDepth 16384

namespace Cert.RefRun

open Idealize.ShloMosaic Idealize.SL.Sem Idealize.ShloMosaic.StableHlo
open Cert.ReferenceIdeal Cert.ReferenceIdeal.Gen Cert.Spec

variable (V : Valuation τ sig (Elt Ideal))

/-- The order the sort compares by, over extended reals. -/
theorem before_iff (x y : EReal) (i j : BitVec 32) :
    (comparator_f32_i32_d1 (F := Ideal) (x, i) (y, j) == 1#1) = decide (x < y) := by
  have hz : Ideal.ofBits .f32 0#32 = 0 := by simp [Ideal.ofBits, Ideal.ieee]
  have canon : ∀ w : EReal, Scalar.select (FloatOps.cmpf (F := Ideal) (φ := .f32) .une w w) (FloatOps.ofBits (F := Ideal) .f32 0x7FC00000#32)
      (Scalar.select (FloatOps.cmpf (F := Ideal) (φ := .f32) .oeq w (FloatOps.ofBits (F := Ideal) .f32 0x00000000#32)) (FloatOps.ofBits (F := Ideal) .f32 0x00000000#32) w) = w := fun w => by
    have h1 : FloatOps.cmpf (F := Ideal) (φ := .f32) .une w w = 0#1 := by
      change BitVec.ofBool (decide (w ≠ w)) = 0#1
      simp
    rw [h1, sel_zero]
    change Scalar.select (BitVec.ofBool (decide (w = Ideal.ofBits .f32 0#32))) (Ideal.ofBits .f32 0#32) w = w
    rw [hz]
    by_cases h : w = 0
    · rw [decide_eq_true h]; exact h.symm
    · rw [decide_eq_false h]; rfl
  unfold comparator_f32_i32_d1
  simp only [canon]
  change (BitVec.ofBool (decide (x < y)) == 1#1) = _
  cases decide (x < y) <;> rfl

theorem along_eq (b : Fin 32) (a k : Fin 8732) : (ix2 b a : S32x8732.Idx).along (1 : Fin 2) k = ix2 b k := by
  funext q
  fin_cases q <;> rfl

/-- Two arrays sorted together along the second axis, the second read off. -/
theorem sort2_apply {α β : Type} (cmp : α × β → α × β → BitVec 1) (x : S32x8732.Idx → α) (y : S32x8732.Idx → β) (b : Fin 32) (a : Fin 8732) :
    (Host.sort2 S32x8732 1 cmp x y).2 (ix2 b a)
      = y (ix2 b (sortedFrom (fun k k' => cmp (x (ix2 b k), y (ix2 b k)) (x (ix2 b k'), y (ix2 b k')) == 1#1) a)) := by
  unfold Host.sort2
  rw [dif_pos (by decide)]
  change y ((ix2 b a : S32x8732.Idx).along (1 : Fin 2) (sortedFrom (n := 8732) (fun k k' => cmp (x ((ix2 b a : S32x8732.Idx).along (1 : Fin 2) k), y ((ix2 b a : S32x8732.Idx).along (1 : Fin 2) k)) (x ((ix2 b a : S32x8732.Idx).along (1 : Fin 2) k'), y ((ix2 b a : S32x8732.Idx).along (1 : Fin 2) k')) == 1#1) a)) = _
  simp only [along_eq]

/-- The order of the losses, larger first. -/
noncomputable def fall (b : Fin 32) (k k' : Fin 8732) : Bool :=
  comparator_f32_i32_d1 (F := Ideal) (r_v199 V (ix2 b k), BitVec.ofNat 32 k.val) (r_v199 V (ix2 b k'), BitVec.ofNat 32 k'.val) == 1#1
/-- The order of the sorted positions. -/
noncomputable def climb (b : Fin 32) (k k' : Fin 8732) : Bool :=
  comparator_i32_i32_d1 (BitVec.ofNat 32 (sortedFrom (fall V b) k).val, BitVec.ofNat 32 k.val) (BitVec.ofNat 32 (sortedFrom (fall V b) k').val, BitVec.ofNat 32 k'.val) == 1#1

theorem fall_eq (hl : LabelsOk V) (hc : LogitsOk V) (b : Fin 32) (k k' : Fin 8732) : fall V b k k' = decide (lossR V b k' < lossR V b k) := by
  unfold fall
  rw [key_apply V hl hc, key_apply V hl hc, before_iff]
  simp only [EReal.neg_lt_neg_iff]

theorem climb_eq (b : Fin 32) (k k' : Fin 8732) : climb V b k k' = decide (sortedFrom (fall V b) k < sortedFrom (fall V b) k') := by
  unfold climb comparator_i32_i32_d1
  change (IntOp.cmpi .slt (BitVec.ofNat 32 (sortedFrom (fall V b) k).val) (BitVec.ofNat 32 (sortedFrom (fall V b) k').val) == 1#1) = _
  rw [slt_small _ _ (by omega) (by omega)]
  by_cases h : sortedFrom (fall V b) k < sortedFrom (fall V b) k'
  · rw [decide_eq_true h, if_pos (Fin.lt_def.mp h)]; rfl
  · rw [decide_eq_false h, if_neg fun g => h (Fin.lt_def.mpr g)]; rfl

theorem iota9 (b : Fin 32) (k : Fin 8732) : r_call9_v0 V (ix2 b k) = BitVec.ofNat 32 k.val := by rw [e_call9_v0]; rfl
theorem iota10 (b : Fin 32) (k : Fin 8732) : r_call10_v0 V (ix2 b k) = BitVec.ofNat 32 k.val := by rw [e_call10_v0]; rfl

theorem order_apply (b : Fin 32) (a : Fin 8732) : r_v200 V (ix2 b a) = BitVec.ofNat 32 (sortedFrom (fall V b) a).val := by
  rw [e_v200]
  refine (sort2_apply _ _ _ b a).trans ?_
  simp only [iota9]
  rfl

theorem rank_apply (b : Fin 32) (a : Fin 8732) : r_v201 V (ix2 b a) = BitVec.ofNat 32 (sortedFrom (climb V b) a).val := by
  rw [e_v201]
  refine (sort2_apply _ _ _ b a).trans ?_
  simp only [iota10, order_apply]
  rfl

/-- How many negatives an image keeps. -/
noncomputable def keepR (b : Fin 32) : ℕ := min (3 * numR V b) 8731

theorem keep_word (b : Fin 32) : IntOp.minsi (IntOp.muli 3#32 (BitVec.ofNat 32 (numR V b))) 8731#32 = BitVec.ofNat 32 (keepR V b) := by
  have h := numR_le V b
  have e : IntOp.muli 3#32 (BitVec.ofNat 32 (numR V b)) = BitVec.ofNat 32 (3 * numR V b) := by
    rw [BitVec.ofNat_mul]; rfl
  rw [e, minsi_eq, BitVec.slt, toInt_small _ (by omega), show (8731#32).toInt = 8731 from rfl]
  unfold keepR
  by_cases hk : 3 * numR V b < 8731
  · rw [if_pos (by rw [decide_eq_true_eq]; exact_mod_cast hk), min_eq_left hk.le]
  · rw [if_neg (by rw [decide_eq_true_eq]; exact_mod_cast hk), min_eq_right (not_lt.mp hk)]

theorem chosen_raw (b : Fin 32) (p : Fin 8732) : r_v212 V (ix2 b p) = Scalar.select
      (IntOp.ori (r_v166 V (ix2 b p))
        (IntOp.cmpi .slt (r_v201 V (ix2 b p)) (IntOp.minsi (IntOp.muli 3#32 (r_v203 V (ix1 b))) 8731#32)))
      (r_v197 V (ix2 b p)) 0 := by
  pointwise [e_v204, e_c_37, e_v205, e_v206, e_c_38, e_v207, e_v208, e_v209, e_v210, e_v211, e_cst_39, e_call11_v0', e_call11_v1, e_v212]

/-- The loss of a prior, if it is matched or among the hardest negatives. -/
theorem chosen_apply (hl : LabelsOk V) (hc : LogitsOk V) (b : Fin 32) (p : Fin 8732) : r_v212 V (ix2 b p)
    = (if 0 < labelR V b p then ceR V b p else 0) + (if (sortedFrom (climb V b) p).val < keepR V b then lossR V b p else 0) := by
  have hk : keepR V b ≤ 8731 := Nat.min_le_right _ _
  rw [chosen_raw, mask_apply V hl, rank_apply, num_apply V hl, keep_word, slt_small _ _ (by omega) (by omega), (entropy_apply V hl hc b p).1]
  unfold lossR
  by_cases h1 : 0 < labelR V b p <;> by_cases h2 : (sortedFrom (climb V b) p).val < keepR V b <;>
    simp only [h1, h2, if_true, if_false, add_zero, zero_add] <;> rfl

theorem total_raw : r_v213 V ix0 = ∑ b : Fin 32, ∑ p : Fin 8732, r_v212 V (ix2 b p) := by
  pointwise [e_cst_40, e_v213]

open Cert.KernelIdeal.LossValue in
/-- The loss of an image's hardest negatives, by the threshold. -/
theorem mined_eq (hl : LabelsOk V) (hc : LogitsOk V) (a : FVec Ideal KernelIdeal.S32x1x8732 .f32) (s : FVec Ideal KernelIdeal.S32x1x128 .f32)
    (ha : ∀ b p, a (ix3 b 0 p) = lossR V b p) (hs : ∀ b, s (ix3 b 0 2) = ∑ p : Fin 8732, if 0 < labelR V b p then (1 : EReal) else 0) (b : Fin 32) :
    (∑ p : Fin 8732, if (sortedFrom (climb V b) p).val < keepR V b then lossR V b p else 0) = minedOf a s b := by
  have h3 : Ideal.ofBits .f32 0x40400000#32 = ((3 : ℕ) : EReal) := by
    rw [← EReal.coe_natCast]
    simp [Ideal.ofBits, Ideal.ieee]
    rw [← EReal.coe_mul]
    norm_num
  have h8 : Ideal.ofBits .f32 0x46086C00#32 = ((8731 : ℕ) : EReal) := by
    rw [← EReal.coe_natCast]
    simp [Ideal.ofBits, Ideal.ieee]
    rw [← EReal.coe_mul]
    norm_num
  have hw : want s b = ((keepR V b : ℕ) : EReal) := by
    unfold want keepR
    rw [hs, ← numR_cast, h3, h8, ← EReal.natCast_mul]
    exact (Monotone.map_min fun c d h => (natCast_le c d).mpr h).symm
  have hk : keepR V b < 8732 := by unfold keepR; omega
  obtain ⟨t1, t2⟩ := thr_facts a s b
  unfold minedOf
  rw [hw] at t1 t2 ⊢
  simp only [ha] at t1 t2 ⊢
  exact sum_rank (lossR V b) (fall V b) (climb V b) (fall_eq V hl hc b) (climb_eq V b) (lossR_nonneg V hl hc b) (keepR V b) hk _ t1 t2

open Cert.KernelIdeal.LossValue in
/-- The second result. -/
theorem out1_apply (hl : LabelsOk V) (hc : LogitsOk V) (a : FVec Ideal KernelIdeal.S32x1x8732 .f32) (s : FVec Ideal KernelIdeal.S32x1x128 .f32)
    (ha : ∀ b p, a (ix3 b 0 p) = lossR V b p) (hs : ∀ b, s (ix3 b 0 2) = ∑ p : Fin 8732, if 0 < labelR V b p then (1 : EReal) else 0) :
    r_v221 V (ix1 1) = Ideal.div ((∑ b : Fin 32, ∑ p : Fin 8732, if 0 < labelR V b p then ceR V b p else 0) + ∑ b : Fin 32, minedOf a s b)
      (max (∑ b : Fin 32, ∑ p : Fin 8732, if 0 < labelR V b p then (1 : EReal) else 0) 1) := by
  have e : r_v213 V ix0 = (∑ b : Fin 32, ∑ p : Fin 8732, if 0 < labelR V b p then ceR V b p else 0) + ∑ b : Fin 32, minedOf a s b := by
    rw [total_raw, ← Finset.sum_add_distrib]
    refine Finset.sum_congr rfl fun b _ => ?_
    rw [← mined_eq V hl hc a s ha hs b, ← Finset.sum_add_distrib]
    exact Finset.sum_congr rfl fun p _ => chosen_apply V hl hc b p
  rw [← e, ← count_float V hl]
  generalize hx : Ideal.div (r_v213 V ix0) (max (FloatOps.sitofp (F := Ideal) .f32 (r_v214 V ix0)) 1) = x
  pointwise [e_v215, e_cst_42, e_v216, e_v218, e_v220, e_v221]
  exact hx

end Cert.RefRun
-- ==== Proof.KFinal.lean ====
/-
  The kernel's result over the arguments: both results in the terms the reference's are read in.
-/
module

public import proofs.«01_k».proof.Proof.KArrays
public import proofs.«01_k».proof.Proof.KernelRun
public import proofs.«01_k».proof.Proof.KStats
public import proofs.«01_k».proof.Proof.KLoss
public import proofs.«01_k».proof.Proof.RRank

@[expose] public section

set_option maxRecDepth 16384

namespace Cert.KernelIdeal.Final

open Cert.KernelIdeal Cert.KernelIdeal.Gen Cert.KernelIdeal.Run
open Cert.KernelIdeal.MatchValue Cert.KernelIdeal.LossValue
open Idealize.ShloMosaic Idealize.ShloMosaic.TcCoe Idealize.SL.Sem
open Cert.Spec
open Cert.RefRun (r_arg0 r_arg1 r_arg2 r_arg3 prR tgR labelR ceR locR lossR LabelsOk LogitsOk)

variable (m : (ℓ : Loc nD τ sig) → Buf (Elt Ideal) ℓ) (c : Dev nD)

theorem v0_at (b : Fin 32) (k : Fin 4) (p : Fin 8732) :
    V1 m c main_v0 (ix3 b k p) = m ((c : Thread nD τ).loc main_arg0) (ix3 b p k) := by
  simp only [V1, hostOps0]
  after_results
  pointwise []
theorem v1_at (b : Fin 32) (k : Fin 21) (p : Fin 8732) :
    V1 m c main_v1 (ix3 b k p) = m ((c : Thread nD τ).loc main_arg1) (ix3 b p k) := by
  simp only [V1, hostOps0]
  after_results
  pointwise []
theorem v2_at (k : Fin 4) (p : Fin 8732) :
    V1 m c main_v2 (ix2 k p) = m ((c : Thread nD τ).loc main_arg2) (ix2 p k) := by
  simp only [V1, hostOps0]
  after_results
  pointwise []
theorem v3_at (b : Fin 32) (k : Fin 5) (o : Fin 16) :
    V1 m c main_v3 (ix3 b k o) = m ((c : Thread nD τ).loc main_arg3) (ix3 b o k) := by
  simp only [V1, hostOps0]
  after_results
  pointwise []
theorem arg3_at : V1 m c main_arg3 = m ((c : Thread nD τ).loc main_arg3) := V1_of m c main_arg3 (by decide)

theorem tail_at (W : Valuation τ sig (Elt Ideal)) (e : Fin 2) :
    StableHlo.after hostOps2 W main_v7 (ix1 e) = W main_v5 (ix2 0 ⟨e.val, by omega⟩) := by
  simp only [hostOps2]
  after_results
  pointwise []

/-- The results, read off the row the second call leaves. -/
theorem result_at (e : Fin 2) : V4 m (outs m) c main_v7 (ix1 e)
    = Loss.mined (Loss.lossAll (fun c b => V2 m (outs0 m) c b) c) (Loss.sumAll (fun c b => V2 m (outs0 m) c b) c) (ix2 0 ⟨e.val, by omega⟩) := by
  refine (tail_at (V3 m (outs m) c) e).trans ?_
  rw [V3_out, LossArr.out]

/-- The region between's contents. -/
noncomputable abbrev W1 : (c : Dev nD) → (b : Ref sig .tc) → Buf (Elt Ideal) ((c : Thread nD τ).loc b) := fun c b => V1 m c b
noncomputable abbrev W2 : (c : Dev nD) → (b : Ref sig .tc) → Buf (Elt Ideal) ((c : Thread nD τ).loc b) := fun c b => V2 m (outs0 m) c b

/-- The kernel is launched on the reference's arguments. -/
def Same (V : Valuation Cert.ReferenceIdeal.τ Cert.ReferenceIdeal.sig (Elt Ideal)) : Prop :=
  m ((c : Thread nD τ).loc main_arg0) = r_arg0 V ∧ m ((c : Thread nD τ).loc main_arg1) = r_arg1 V
    ∧ m ((c : Thread nD τ).loc main_arg2) = r_arg2 V ∧ m ((c : Thread nD τ).loc main_arg3) = r_arg3 V

variable (V : Valuation Cert.ReferenceIdeal.τ Cert.ReferenceIdeal.sig (Elt Ideal)) (hm : Same m c V)

section
include hm

theorem boxes (t : Fin cfg0.N) : prOf (Match.iblk (W1 m) c 0 t) = prR V := by
  funext p k
  unfold prOf prR
  rw [MatchArr.blk0]
  exact (v2_at m c k p).trans (congrFun hm.2.2.1 _)
theorem targets (t : Fin cfg0.N) (b : Fin 32) (h : t.val = b.val) : tgOf (Match.iblk (W1 m) c 1 t) = tgR V b := by
  funext o k
  unfold tgOf tgR
  rw [MatchArr.blk1 (W1 m) c t b h]
  exact (congrFun (arg3_at m c) _).trans (congrFun hm.2.2.2 _)
theorem turned (t : Fin cfg0.N) (b : Fin 32) (h : t.val = b.val) (k : Fin 5) (o : Fin 16) :
    Match.iblk (W1 m) c 2 t (ix3 0 k o) = Match.iblk (W1 m) c 1 t (ix3 0 o k) := by
  rw [MatchArr.blk2 (W1 m) c t b h, MatchArr.blk1 (W1 m) c t b h]
  exact (v3_at m c b k o).trans (congrFun (arg3_at m c) _).symm

theorem lbl_at (b : Fin 32) (p : Fin 8732) : W2 m c main_v4_0 (ix3 b 0 p) = labelR V b p := by
  have e : W2 m c main_v4_0 = (dat0 m c).arrAt 3 cfg0.N := V2_lbl m c
  rw [e, MatchArr.lbl]
  refine (matchLbl_apply _ _ _ (turned m c V hm (MatchArr.pt b) b rfl) p).trans ?_
  rw [boxes m c V hm, targets m c V hm (MatchArr.pt b) b rfl]
  rfl
theorem loct_at (b : Fin 32) (k : Fin 4) (p : Fin 8732) :
    W2 m c main_v4_1 (ix3 b k p) = encode (prR V p) (tgR V b (target (prR V) (tgR V b) p)) k := by
  have e : W2 m c main_v4_1 = (dat0 m c).arrAt 4 cfg0.N := V2_loct m c
  rw [e, MatchArr.loct]
  refine (matchLoct_apply _ _ _ (turned m c V hm (MatchArr.pt b) b rfl) k p).trans ?_
  rw [boxes m c V hm, targets m c V hm (MatchArr.pt b) b rfl]
theorem stats_at0 (b : Fin 32) : W2 m c main_v4_2 (ix3 b 0 0) = (0 : EReal) := by
  have e : W2 m c main_v4_2 = (dat0 m c).arrAt 5 cfg0.N := V2_stats m c
  rw [e, MatchArr.stats]
  exact matchStats_apply0 _ _ _
theorem stats_at1 (b : Fin 32) : W2 m c main_v4_2 (ix3 b 0 1) = (0 : EReal) := by
  have e : W2 m c main_v4_2 = (dat0 m c).arrAt 5 cfg0.N := V2_stats m c
  rw [e, MatchArr.stats]
  exact matchStats_apply1 _ _ _
theorem stats_at2 (b : Fin 32) : W2 m c main_v4_2 (ix3 b 0 2) = ∑ p : Fin 8732, if 0 < labelR V b p then (1 : EReal) else 0 := by
  have e : W2 m c main_v4_2 = (dat0 m c).arrAt 5 cfg0.N := V2_stats m c
  rw [e, MatchArr.stats]
  refine (matchStats_apply2 _ _ _ (turned m c V hm (MatchArr.pt b) b rfl)).trans ?_
  rw [boxes m c V hm, targets m c V hm (MatchArr.pt b) b rfl]
  rfl

theorem row_of (b : Fin 32) : min (Loss.ptOf b).val 31 = b.val := by
  change min b.val 31 = b.val
  omega

theorem loc_at (b : Fin 32) (k : Fin 4) (p : Fin 8732) : Loss.iblk (W2 m) c 1 (Loss.ptOf b) (ix3 0 k p) = r_arg0 V (ix3 b p k) := by
  rw [LossArr.blk1 (W2 m) c _ b (row_of m c V hm b)]
  refine (congrFun (V2_of m (outs0 m) c main_v0 (by decide)) _).trans ?_
  rw [v0_at, hm.1]
theorem conf_at (b : Fin 32) (k : Fin 21) (p : Fin 8732) : Loss.iblk (W2 m) c 0 (Loss.ptOf b) (ix3 0 k p) = r_arg1 V (ix3 b p k) := by
  rw [LossArr.blk0 (W2 m) c _ b (row_of m c V hm b)]
  refine (congrFun (V2_of m (outs0 m) c main_v1 (by decide)) _).trans ?_
  rw [v1_at, hm.2.1]
theorem lblk_at (b : Fin 32) (p : Fin 8732) : Loss.iblk (W2 m) c 2 (Loss.ptOf b) (ix3 0 0 p) = labelR V b p := by
  rw [LossArr.blk2 (W2 m) c _ b (row_of m c V hm b), lbl_at m c V hm]
theorem enc_at (b : Fin 32) (k : Fin 4) (p : Fin 8732) :
    Loss.iblk (W2 m) c 3 (Loss.ptOf b) (ix3 0 k p) = encode (prR V p) (tgR V b (target (prR V) (tgR V b) p)) k := by
  rw [LossArr.blk3 (W2 m) c _ b (row_of m c V hm b), loct_at m c V hm]

theorem ce_at (b : Fin 32) (p : Fin 8732) :
    ce (fun k => Loss.iblk (W2 m) c 0 (Loss.ptOf b) (ix3 0 k p)) (FloatOps.fptosi (F := Ideal) (φ := .f32) 32 (Loss.iblk (W2 m) c 2 (Loss.ptOf b) (ix3 0 0 p)))
      = ceR V b p := by
  rw [funext fun k => conf_at m c V hm b k p, lblk_at m c V hm]
  rfl

/-- The loss rows of the second call. -/
theorem loss_at (b : Fin 32) (p : Fin 8732) : Loss.lossAll (W2 m) c (ix3 b 0 p) = lossR V b p := by
  refine (lossRow_apply (Loss.iblk (W2 m) c 0 (Loss.ptOf b)) (Loss.iblk (W2 m) c 2 (Loss.ptOf b)) p).trans ?_
  rw [ce_at m c V hm, lblk_at m c V hm]
  rfl
theorem sum_at0 (b : Fin 32) : Loss.sumAll (W2 m) c (ix3 b 0 0) = ∑ p : Fin 8732, if 0 < labelR V b p then locR V b p else 0 := by
  refine (sumRow_apply0 (Loss.iblk (W2 m) c 0 (Loss.ptOf b)) (Loss.iblk (W2 m) c 2 (Loss.ptOf b)) (Loss.iblk (W2 m) c 1 (Loss.ptOf b)) (Loss.iblk (W2 m) c 3 (Loss.ptOf b)) (Loss.iblk (W2 m) c 4 (Loss.ptOf b))).trans ?_
  rw [LossArr.blk4 (W2 m) c _ b (row_of m c V hm b), stats_at0 m c V hm, add_zero]
  refine Finset.sum_congr rfl fun p _ => ?_
  rw [lblk_at m c V hm]
  unfold locR
  simp only [loc_at m c V hm, enc_at m c V hm]
theorem sum_at1 (b : Fin 32) : Loss.sumAll (W2 m) c (ix3 b 0 1) = ∑ p : Fin 8732, if 0 < labelR V b p then ceR V b p else 0 := by
  refine (sumRow_apply1 (Loss.iblk (W2 m) c 0 (Loss.ptOf b)) (Loss.iblk (W2 m) c 2 (Loss.ptOf b)) (Loss.iblk (W2 m) c 1 (Loss.ptOf b)) (Loss.iblk (W2 m) c 3 (Loss.ptOf b)) (Loss.iblk (W2 m) c 4 (Loss.ptOf b))).trans ?_
  rw [LossArr.blk4 (W2 m) c _ b (row_of m c V hm b), stats_at1 m c V hm, add_zero]
  refine Finset.sum_congr rfl fun p _ => ?_
  rw [ce_at m c V hm, lblk_at m c V hm]
theorem sum_at2 (b : Fin 32) : Loss.sumAll (W2 m) c (ix3 b 0 2) = ∑ p : Fin 8732, if 0 < labelR V b p then (1 : EReal) else 0 := by
  refine (sumRow_apply2 (Loss.iblk (W2 m) c 0 (Loss.ptOf b)) (Loss.iblk (W2 m) c 2 (Loss.ptOf b)) (Loss.iblk (W2 m) c 1 (Loss.ptOf b)) (Loss.iblk (W2 m) c 3 (Loss.ptOf b)) (Loss.iblk (W2 m) c 4 (Loss.ptOf b))).trans ?_
  rw [LossArr.blk4 (W2 m) c _ b (row_of m c V hm b), stats_at2 m c V hm]

/-- The kernel's results are the reference's. -/
theorem result_eq (hl : LabelsOk V) (hc : LogitsOk V) (e : Fin 2) : V4 m (outs m) c main_v7 (ix1 e) = Cert.RefRun.r_v221 V (ix1 e) := by
  rw [result_at]
  fin_cases e
  · refine (mined_apply0 _ _).trans ?_
    refine Eq.trans ?_ (Cert.RefRun.out0_apply V hl).symm
    simp only [sum_at0 m c V hm, sum_at2 m c V hm]
  · refine (mined_apply1 _ _).trans ?_
    refine Eq.trans ?_ (Cert.RefRun.out1_apply V hl hc _ _ (loss_at m c V hm) (sum_at2 m c V hm)).symm
    simp only [sum_at1 m c V hm, sum_at2 m c V hm]

end

end Cert.KernelIdeal.Final
-- ==== Proof.Range.lean ====
/-
  The precondition, read off: where it is all ones, the logits are real and the labels are whole numbers from 0 to 20.
-/
module

public import proofs.«01_k».proof.Pre_inputs_in_range
public import proofs.«01_k».proof.Proof.ArgFold
public import Idealize.ShloMosaic.Lib.Decide

@[expose] public section

namespace Cert.Range

open Idealize.ShloMosaic Idealize.SL.Sem
open Cert.Pre_inputs_in_range

/-- The side conditions of the precondition. -/
theorem facts : Facts := ⟨by decide, by decide, by decide, by decide⟩

attribute [local instance] facts

theorem bit_of (p : Prop) [Decidable p] (h : BitVec.ofBool (decide p) = 1#1) : p := by
  by_contra hn
  rw [decide_eq_false hn] at h
  exact absurd h (by decide)
theorem bits_of (x y : BitVec 1) (h : x &&& y = 1#1) : x = 1#1 ∧ y = 1#1 := by
  revert x y
  decide

/-- A number below infinity in magnitude is real. -/
theorem real_of (x : EReal) (h : max x (-x) < ⊤) : ∃ r : ℝ, x = (r : EReal) := by
  induction x with
  | bot => simp at h
  | top => simp at h
  | coe r => exact ⟨r, rfl⟩

/-- A whole number between 0 and 20. -/
theorem whole_of (z : ℤ) (l : EReal) (h : ((z : ℝ) : EReal) = l) (h0 : 0 ≤ l) (h1 : l ≤ ((20 : ℝ) : EReal)) :
    ∃ n : ℕ, n ≤ 20 ∧ l = ((n : ℝ) : EReal) := by
  subst h
  have a : 0 ≤ z := by exact_mod_cast EReal.coe_nonneg.mp h0
  have b : z ≤ 20 := by exact_mod_cast EReal.coe_le_coe_iff.mp h1
  refine ⟨z.toNat, by omega, ?_⟩
  have e : ((z.toNat : ℤ)) = z := Int.toNat_of_nonneg a
  have e' : ((z.toNat : ℝ)) = (z : ℝ) := by exact_mod_cast congrArg (fun t : ℤ => (t : ℝ)) e
  rw [e']

variable (a0 : FVec Ideal S32x8732x4 .f32) (a1 : FVec Ideal S32x8732x21 .f32) (a2 : FVec Ideal S8732x4 .f32) (a3 : FVec Ideal S32x16x5 .f32)

theorem logits (h : (fn (F := Ideal) a0 a1 a2 a3).1 = fun _ => 1#1) (b : Fin 32) (p : Fin 8732) (c : Fin 21) :
    ∃ r : ℝ, a1 (ix3 b p c) = (r : EReal) := by
  have e := congrFun h (ix3 b p c)
  have ht : Ideal.ofBits FTy.f32 2139095040#32 = ⊤ := by simp [Ideal.ofBits, Ideal.ieee]
  have e' : BitVec.ofBool (decide (max (a1 (ix3 b p c) : EReal) (-(a1 (ix3 b p c) : EReal)) < Ideal.ofBits FTy.f32 2139095040#32)) = 1#1 := e
  rw [ht] at e'
  exact real_of _ (bit_of _ e')

theorem label_read (b : Fin 32) (o : Fin 16) :
    (shapeCast S32x16 (extractStridedSlice S32x16x1 ![0, 0, 4] a3 facts.slices_S32x16x5_S32x16x1_0_0_4) facts.shapeCasts_S32x16x1_S32x16 : FVec Ideal S32x16 .f32) (ix2 b o)
      = a3 (ix3 b o 4) := by
  pointwise []

theorem labels (h : (fn (F := Ideal) a0 a1 a2 a3).2 = fun _ => 1#1) (b : Fin 32) (o : Fin 16) :
    ∃ n : ℕ, n ≤ 20 ∧ a3 (ix3 b o 4) = ((n : ℝ) : EReal) := by
  have e := congrFun h (ix2 b o)
  rw [← label_read a3 b o]
  generalize hx : (shapeCast S32x16 (extractStridedSlice S32x16x1 ![0, 0, 4] a3 facts.slices_S32x16x5_S32x16x1_0_0_4) facts.shapeCasts_S32x16x1_S32x16 : FVec Ideal S32x16 .f32) = x
  have e' : ((BitVec.ofBool (decide (((((FloatOps.fptosi (F := Ideal) (φ := .f32) 32 (x (ix2 b o))).toInt : ℤ) : ℝ) : EReal) = x (ix2 b o)))
      &&& BitVec.ofBool (decide (Ideal.ofBits FTy.f32 0#32 ≤ x (ix2 b o))))
      &&& BitVec.ofBool (decide (x (ix2 b o) ≤ Ideal.ofBits FTy.f32 0x41A00000#32))) = 1#1 := by
    rw [← hx]
    exact e
  have hz : Ideal.ofBits FTy.f32 0#32 = 0 := by simp [Ideal.ofBits, Ideal.ieee]
  have ht : Ideal.ofBits FTy.f32 0x41A00000#32 = ((20 : ℝ) : EReal) := by
    simp only [Ideal.ofBits, Ideal.ieee]
    simp
    rw [← EReal.coe_mul]
    norm_num
  obtain ⟨e1, e3⟩ := bits_of _ _ e'
  obtain ⟨e1, e2⟩ := bits_of _ _ e1
  have f1 := bit_of _ e1
  have f2 := bit_of _ e2
  have f3 := bit_of _ e3
  rw [hz] at f2
  rw [ht] at f3
  exact whole_of _ _ f1 f2 f3

end Cert.Range

end
-- ==== Proof.lean ====
/-
  The proof of `Cert.Claim` (proofs.«01_k».proof.Defs): the frames of the kernel, of its idealization and of the
  reference's, that the idealization changes nothing, and that on inputs in range the kernel's results are the reference's.
-/
module

public import proofs.«01_k».proof.Defs
public import proofs.«01_k».proof.Proof.KernelRun
public import proofs.«01_k».proof.Proof.KernelRunPrinted
public import proofs.«01_k».proof.Proof.RefRun
public import proofs.«01_k».proof.Proof.KFinal
public import proofs.«01_k».proof.Proof.Range
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

namespace Cert.Proof

open Idealize.ShloMosaic Idealize.SL.Sem Cert.Kernel

attribute [local instance] Cert.Range.facts

/-- The kernel's results and the reference's, from memories that agree on the arguments. -/
theorem algebraic : Cert.algebraic_KernelIdeal_ReferenceIdeal_pre_inputs_in_range := by
  intro m g m' g' hp hm
  have same : ∀ c, Cert.KernelIdeal.Final.Same m c (Cert.RefRun.V₀ m' c) := fun c =>
    ⟨((Cert.RefRun.val_arg _ Cert.ReferenceIdeal.main_arg0 (by decide)).trans (hm c).1).symm,
      ((Cert.RefRun.val_arg _ Cert.ReferenceIdeal.main_arg1 (by decide)).trans (hm c).2.1).symm,
      ((Cert.RefRun.val_arg _ Cert.ReferenceIdeal.main_arg2 (by decide)).trans (hm c).2.2.1).symm,
      ((Cert.RefRun.val_arg _ Cert.ReferenceIdeal.main_arg3 (by decide)).trans (hm c).2.2.2).symm⟩
  have logits : ∀ c, Cert.RefRun.LogitsOk (Cert.RefRun.V₀ m' c) := fun c b p k => by
    obtain ⟨r, hr⟩ := Cert.Range.logits _ _ _ _ (hp c).1 b p k
    exact ⟨r, (congrFun (same c).2.1 _).symm.trans hr⟩
  have labels : ∀ c, Cert.RefRun.LabelsOk (Cert.RefRun.V₀ m' c) := fun c b o => by
    obtain ⟨n, h20, hn⟩ := Cert.Range.labels _ _ _ _ (hp c).2 b o
    exact ⟨n, h20, (congrFun (same c).2.2.2 _).symm.trans hn⟩
  have results : ∀ c, Cert.RefRun.r_v221 (Cert.RefRun.V₀ m' c) = Cert.KernelIdeal.Gen.V4 m (Cert.KernelIdeal.Run.outs m) c (Proc.devRef .tc Cert.KernelIdeal.main_v7) := fun c => by
    funext j
    rw [eq_ix1 j]
    exact (Cert.KernelIdeal.Final.result_eq m c _ (same c) (labels c) (logits c) (j 0)).symm
  refine ⟨fun c => Cert.KernelIdeal.Gen.V4 m (Cert.KernelIdeal.Run.outs m) c (Proc.devRef .tc Cert.KernelIdeal.main_v7), ?_, ?_⟩
  · exact (θ_run _ _ _).mono (fun r h c => ⟨h.1 c Cert.KernelIdeal.main_v7 rfl,
      (h.1 c Cert.KernelIdeal.main_arg0 rfl).trans (Cert.KernelIdeal.Gen.V4_main_arg0 m _ c),
      (h.1 c Cert.KernelIdeal.main_arg1 rfl).trans (Cert.KernelIdeal.Gen.V4_main_arg1 m _ c),
      (h.1 c Cert.KernelIdeal.main_arg2 rfl).trans (Cert.KernelIdeal.Gen.V4_main_arg2 m _ c),
      (h.1 c Cert.KernelIdeal.main_arg3 rfl).trans (Cert.KernelIdeal.Gen.V4_main_arg3 m _ c)⟩) (Cert.KernelIdeal.Run.run_main m g)
  · exact (θ_run _ _ _).mono (fun r h c => ⟨(h.1 c Cert.ReferenceIdeal.main_v221).trans (results c),
      (h.1 c Cert.ReferenceIdeal.main_arg0).trans (Cert.RefRun.val_arg _ Cert.ReferenceIdeal.main_arg0 (by decide)),
      (h.1 c Cert.ReferenceIdeal.main_arg1).trans (Cert.RefRun.val_arg _ Cert.ReferenceIdeal.main_arg1 (by decide)),
      (h.1 c Cert.ReferenceIdeal.main_arg2).trans (Cert.RefRun.val_arg _ Cert.ReferenceIdeal.main_arg2 (by decide)),
      (h.1 c Cert.ReferenceIdeal.main_arg3).trans (Cert.RefRun.val_arg _ Cert.ReferenceIdeal.main_arg3 (by decide))⟩) (Cert.RefRun.run_main m' g')

theorem claim : Cert.Claim := ⟨Cert.Kernel.Gen.facts, Cert.KernelIdeal.Gen.facts, Cert.ReferenceIdeal.Gen.facts, Cert.Range.facts,
  fun m ρ _ => Cert.Kernel.Run.frame m ρ, fun m ρ _ => Cert.KernelIdeal.Run.frame m ρ, fun m ρ _ => Cert.KernelIdeal.Run.frame m ρ,
  fun m ρ _ => Cert.RefRun.frame m ρ, fun m ρ _ => Cert.RefRun.frame m ρ, trivial, algebraic⟩

end Cert.Proof

end
